-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x448x2x128 Cert.KernelIdeal.S1x448x1x128
  ∧ IdealRules.bf16_pair.Statement Cert.KernelIdeal.S896x128 Cert.KernelIdeal.S448x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x11520 : Shape := ⟨3, ![2, 896, 11520]⟩
abbrev S2x896x8x128 : Shape := ⟨4, ![2, 896, 8, 128]⟩
abbrev S2x896x120 : Shape := ⟨3, ![2, 896, 120]⟩
abbrev S120 : Shape := ⟨1, ![120]⟩
abbrev S2x120x96x128 : Shape := ⟨4, ![2, 120, 96, 128]⟩
abbrev S2x120x96 : Shape := ⟨3, ![2, 120, 96]⟩
abbrev S1x120 : Shape := ⟨2, ![1, 120]⟩
abbrev S1x896x768 : Shape := ⟨3, ![1, 896, 768]⟩
abbrev S1x896x8x128 : Shape := ⟨4, ![1, 896, 8, 128]⟩
abbrev S1x896x120 : Shape := ⟨3, ![1, 896, 120]⟩
abbrev S1x8x96x128 : Shape := ⟨4, ![1, 8, 96, 128]⟩
abbrev S1x8x96 : Shape := ⟨3, ![1, 8, 96]⟩
abbrev S8x896x128 : Shape := ⟨3, ![8, 896, 128]⟩
abbrev S896x128 : Shape := ⟨2, ![896, 128]⟩
abbrev S120x128 : Shape := ⟨2, ![120, 128]⟩
abbrev S128x128 : Shape := ⟨2, ![128, 128]⟩
abbrev S896x120 : Shape := ⟨2, ![896, 120]⟩
abbrev S896x8 : Shape := ⟨2, ![896, 8]⟩
abbrev S112x8x128 : Shape := ⟨3, ![112, 8, 128]⟩
abbrev S112x128 : Shape := ⟨2, ![112, 128]⟩
abbrev S14x8x128 : Shape := ⟨3, ![14, 8, 128]⟩
abbrev S8x128 : Shape := ⟨2, ![8, 128]⟩
abbrev S1x128 : Shape := ⟨2, ![1, 128]⟩
abbrev S1x8x128 : Shape := ⟨3, ![1, 8, 128]⟩
abbrev S1x896x4x128 : Shape := ⟨4, ![1, 896, 4, 128]⟩
abbrev S3584x128 : Shape := ⟨2, ![3584, 128]⟩
abbrev S448x128 : Shape := ⟨2, ![448, 128]⟩
abbrev S1x448x2x128 : Shape := ⟨4, ![1, 448, 2, 128]⟩
abbrev S1x448x1x128 : Shape := ⟨4, ![1, 448, 1, 128]⟩
abbrev S1x896x128 : Shape := ⟨3, ![1, 896, 128]⟩
abbrev S8x96 : Shape := ⟨2, ![8, 96]⟩
abbrev S8x32 : Shape := ⟨2, ![8, 32]⟩
abbrev S96x128 : Shape := ⟨2, ![96, 128]⟩
abbrev S1x1x96x128 : Shape := ⟨4, ![1, 1, 96, 128]⟩
abbrev S96x1 : Shape := ⟨2, ![96, 1]⟩
abbrev S96 : Shape := ⟨1, ![96]⟩
abbrev S128 : Shape := ⟨1, ![128]⟩
abbrev S1x96 : Shape := ⟨2, ![1, 96]⟩
abbrev S1x1x96 : Shape := ⟨3, ![1, 1, 96]⟩
abbrev S1x768 : Shape := ⟨2, ![1, 768]⟩
abbrev S8x96x128 : Shape := ⟨3, ![8, 96, 128]⟩
abbrev S768x128 : Shape := ⟨2, ![768, 128]⟩
abbrev S256x128 : Shape := ⟨2, ![256, 128]⟩
abbrev S256x256 : Shape := ⟨2, ![256, 256]⟩
abbrev S1x128x128 : Shape := ⟨3, ![1, 128, 128]⟩
abbrev S128x256 : Shape := ⟨2, ![128, 256]⟩
abbrev S128x128x1 : Shape := ⟨3, ![128, 128, 1]⟩

abbrev nBuf : Space → Nat
  | .hbm => 11
  | .vmem => 23
  | .smem => 0
  | _ => 0

abbrev bufTy : (tb : Table) → Fin (tcTables nBuf tb) → BufTy
  | .hbm, ⟨0, _⟩ => ⟨S2x896x11520, .bf16⟩
  | .hbm, ⟨1, _⟩ => ⟨S2x896x8x128, .bf16⟩
  | .hbm, ⟨2, _⟩ => ⟨S2x896x120, .f32⟩
  | .hbm, ⟨3, _⟩ => ⟨S120, .f32⟩
  | .hbm, ⟨4, _⟩ => ⟨S2x120x96x128, .fp8e4m3⟩
  | .hbm, ⟨5, _⟩ => ⟨S2x120x96, .f32⟩
  | .hbm, ⟨6, _⟩ => ⟨S2x120x96x128, .f32⟩
  | .hbm, ⟨7, _⟩ => ⟨S1x120, .f32⟩
  | .hbm, ⟨8, _⟩ => ⟨S2x896x11520, .bf16⟩
  | .hbm, ⟨9, _⟩ => ⟨S2x120x96x128, .fp8e4m3⟩
  | .hbm, ⟨10, _⟩ => ⟨S2x120x96, .f32⟩
  | .local _ .vmem, ⟨0, _⟩ => ⟨S1x120, .f32⟩
  | .local _ .vmem, ⟨1, _⟩ => ⟨S1x896x768, .bf16⟩
  | .local _ .vmem, ⟨2, _⟩ => ⟨S1x896x768, .bf16⟩
  | .local _ .vmem, ⟨3, _⟩ => ⟨S1x896x8x128, .bf16⟩
  | .local _ .vmem, ⟨4, _⟩ => ⟨S1x896x8x128, .bf16⟩
  | .local _ .vmem, ⟨5, _⟩ => ⟨S1x896x120, .f32⟩
  | .local _ .vmem, ⟨6, _⟩ => ⟨S1x896x120, .f32⟩
  | .local _ .vmem, ⟨7, _⟩ => ⟨S1x8x96x128, .fp8e4m3⟩
  | .local _ .vmem, ⟨8, _⟩ => ⟨S1x8x96x128, .fp8e4m3⟩
  | .local _ .vmem, ⟨9, _⟩ => ⟨S1x8x96, .f32⟩
  | .local _ .vmem, ⟨10, _⟩ => ⟨S1x8x96, .f32⟩
  | .local _ .vmem, ⟨11, _⟩ => ⟨S1x8x96x128, .f32⟩
  | .local _ .vmem, ⟨12, _⟩ => ⟨S1x8x96x128, .f32⟩
  | .local _ .vmem, ⟨13, _⟩ => ⟨S1x896x768, .bf16⟩
  | .local _ .vmem, ⟨14, _⟩ => ⟨S1x896x768, .bf16⟩
  | .local _ .vmem, ⟨15, _⟩ => ⟨S1x8x96x128, .fp8e4m3⟩
  | .local _ .vmem, ⟨16, _⟩ => ⟨S1x8x96x128, .fp8e4m3⟩
  | .local _ .vmem, ⟨17, _⟩ => ⟨S1x8x96, .f32⟩
  | .local _ .vmem, ⟨18, _⟩ => ⟨S1x8x96, .f32⟩
  | .local _ .vmem, ⟨19, _⟩ => ⟨S8x896x128, .bf16⟩
  | .local _ .vmem, ⟨20, _⟩ => ⟨S896x128, .f32⟩
  | .local _ .vmem, ⟨21, _⟩ => ⟨S120x128, .f32⟩
  | .local _ .vmem, ⟨22, _⟩ => ⟨S128x128, .f32⟩
  | _, _ => ⟨S2x896x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨2, ![2, 15], ![false, false]⟩

def k0_off1 (i : grid0.Coords) (c0_i32_4 : BitVec 32) : Fin 2 → Nat :=
  let arg1 : BitVec 32 := BitVec.ofNat 32 (i 1).val
  let c8_i32 : BitVec 32 := 8#32
  let v12 : BitVec 32 := Scalar.muli arg1 c8_i32
  let v13 : BitVec 32 := Scalar.addi v12 c0_i32_4
  let v14 : Index := Scalar.indexCast v13
  let c0_5 : Index := 0#32
  ![v14.toNat, 0]
def k0_off2 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v841 : Index := Scalar.indexCast v828
  let c0_314 : Index := 0#32
  let c0_315 : Index := 0#32
  ![v841.toNat, 0, 0]
def k0_off3 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v844 : Index := Scalar.indexCast v830
  let c0_316 : Index := 0#32
  let c0_317 : Index := 0#32
  ![v844.toNat, 0, 0]
def k0_off4 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v918 : Index := Scalar.indexCast v828
  let c128_342 : Index := 128#32
  let c0_343 : Index := 0#32
  ![v918.toNat, 128, 0]
def k0_off5 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v921 : Index := Scalar.indexCast v830
  let c128_344 : Index := 128#32
  let c0_345 : Index := 0#32
  ![v921.toNat, 128, 0]
def k0_off6 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v995 : Index := Scalar.indexCast v828
  let c256 : Index := 256#32
  let c0_375 : Index := 0#32
  ![v995.toNat, 256, 0]
def k0_off7 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v998 : Index := Scalar.indexCast v830
  let c256_376 : Index := 256#32
  let c0_377 : Index := 0#32
  ![v998.toNat, 256, 0]
def k0_off8 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v1072 : Index := Scalar.indexCast v828
  let c384 : Index := 384#32
  let c0_407 : Index := 0#32
  ![v1072.toNat, 384, 0]
def k0_off9 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v1075 : Index := Scalar.indexCast v830
  let c384_408 : Index := 384#32
  let c0_409 : Index := 0#32
  ![v1075.toNat, 384, 0]
def k0_off10 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v1149 : Index := Scalar.indexCast v828
  let c512 : Index := 512#32
  let c0_439 : Index := 0#32
  ![v1149.toNat, 512, 0]
def k0_off11 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v1152 : Index := Scalar.indexCast v830
  let c512_440 : Index := 512#32
  let c0_441 : Index := 0#32
  ![v1152.toNat, 512, 0]
def k0_off12 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v1226 : Index := Scalar.indexCast v828
  let c640 : Index := 640#32
  let c0_471 : Index := 0#32
  ![v1226.toNat, 640, 0]
def k0_off13 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v1229 : Index := Scalar.indexCast v830
  let c640_472 : Index := 640#32
  let c0_473 : Index := 0#32
  ![v1229.toNat, 640, 0]
def k0_off14 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let v1303 : Index := Scalar.indexCast v828
  let c768 : Index := 768#32
  let c0_503 : Index := 0#32
  ![v1303.toNat, 768, 0]
def k0_off15 (i : grid0.Coords) (c0_i32_302 : BitVec 32) : Fin 3 → Nat :=
  let arg1 : BitVec 32 := BitVec.ofNat 32 (i 1).val
  let c768_i32 : BitVec 32 := 768#32
  let v810 : BitVec 32 := Scalar.muli arg1 c768_i32
  let v811 : BitVec 32 := Scalar.addi v810 c0_i32_302
  let c0_i32_303 : BitVec 32 := 0#32
  let v813 : BitVec 1 := Scalar.cmpi .sgt v811 c0_i32_303
  let v814 : BitVec 32 := Scalar.extui v813
  let c0_i32_304 : BitVec 32 := 0#32
  let v815 : BitVec 1 := Scalar.cmpi .slt v811 c0_i32_304
  let v816 : BitVec 32 := Scalar.extui v815
  let v817 : BitVec 32 := Scalar.subi v814 v816
  let c1440_i32 : BitVec 32 := 1440#32
  let c0_i32_305 : BitVec 32 := 0#32
  let v818 : BitVec 1 := Scalar.cmpi .sgt c1440_i32 c0_i32_305
  let v819 : BitVec 32 := Scalar.extui v818
  let c0_i32_306 : BitVec 32 := 0#32
  let v820 : BitVec 1 := Scalar.cmpi .slt c1440_i32 c0_i32_306
  let v821 : BitVec 32 := Scalar.extui v820
  let v822 : BitVec 32 := Scalar.subi v819 v821
  let v823 : BitVec 1 := Scalar.cmpi .ne v817 v822
  let v824 : BitVec 32 := Scalar.remsi v811 c1440_i32
  let c0_i32_307 : BitVec 32 := 0#32
  let v825 : BitVec 1 := Scalar.cmpi .ne v824 c0_i32_307
  let v826 : BitVec 1 := Scalar.andi v823 v825
  let v812 : BitVec 32 := Scalar.divsi v811 c1440_i32
  let c1_i32_308 : BitVec 32 := 1#32
  let v827 : BitVec 32 := Scalar.subi v812 c1_i32_308
  let v828 : BitVec 32 := Scalar.select v826 v827 v812
  let c1_i32_309 : BitVec 32 := 1#32
  let v829 : BitVec 32 := Scalar.addi v828 c1_i32_309
  let c7_i32_310 : BitVec 32 := 7#32
  let v830 : BitVec 32 := Scalar.minsi v829 c7_i32_310
  let v1306 : Index := Scalar.indexCast v830
  let c768_504 : Index := 768#32
  let c0_505 : Index := 0#32
  ![v1306.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x896x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x896x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x896x120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x96x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x96x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x896x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x96x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F]
-- ==== ReferenceIdeal.lean ====
abbrev S2x896x11520 : Shape := ⟨3, ![2, 896, 11520]⟩
abbrev S2x896x8x128 : Shape := ⟨4, ![2, 896, 8, 128]⟩
abbrev S2x896x120 : Shape := ⟨3, ![2, 896, 120]⟩
abbrev S120 : Shape := ⟨1, ![120]⟩
abbrev S2x120x96x128 : Shape := ⟨4, ![2, 120, 96, 128]⟩
abbrev S2x120x96 : Shape := ⟨3, ![2, 120, 96]⟩
abbrev S1x1x120 : Shape := ⟨3, ![1, 1, 120]⟩
abbrev S_ : Shape := ⟨0, ![]⟩
abbrev S2x8x896x128 : Shape := ⟨4, ![2, 8, 896, 128]⟩
abbrev S16x896x128 : Shape := ⟨3, ![16, 896, 128]⟩
abbrev S16x1440x128 : Shape := ⟨3, ![16, 1440, 128]⟩
abbrev S16x896x1440 : Shape := ⟨3, ![16, 896, 1440]⟩
abbrev S2x8x896x1440 : Shape := ⟨4, ![2, 8, 896, 1440]⟩
abbrev S2x896x8x1440 : Shape := ⟨4, ![2, 896, 8, 1440]⟩
abbrev S2x896x120x96 : Shape := ⟨4, ![2, 896, 120, 96]⟩
abbrev S2x1x120x96 : Shape := ⟨4, ![2, 1, 120, 96]⟩
abbrev S2x896x120x1 : Shape := ⟨4, ![2, 896, 120, 1]⟩
abbrev S2x1x120 : Shape := ⟨3, ![2, 1, 120]⟩
abbrev S2x120 : Shape := ⟨2, ![2, 120]⟩
abbrev S2x120x1x1 : Shape := ⟨4, ![2, 120, 1, 1]⟩
abbrev S2x120x96x1 : Shape := ⟨4, ![2, 120, 96, 1]⟩
abbrev S2x120x96x246 : Shape := ⟨4, ![2, 120, 96, 246]⟩

abbrev nBuf : Space → Nat
  | .hbm => 21
  | .vmem => 9
  | .smem => 0
  | _ => 0

abbrev bufTy : (tb : Table) → Fin (tcTables nBuf tb) → BufTy
  | .hbm, ⟨0, _⟩ => ⟨S2x896x11520, .bf16⟩
  | .hbm, ⟨1, _⟩ => ⟨S2x896x8x128, .bf16⟩
  | .hbm, ⟨2, _⟩ => ⟨S2x896x120, .f32⟩
  | .hbm, ⟨3, _⟩ => ⟨S120, .f32⟩
  | .hbm, ⟨4, _⟩ => ⟨S2x120x96x128, .fp8e4m3⟩
  | .hbm, ⟨5, _⟩ => ⟨S2x120x96, .f32⟩
  | .hbm, ⟨6, _⟩ => ⟨S2x120x96x128, .f32⟩
  | .hbm, ⟨7, _⟩ => ⟨S120, .f32⟩
  | .hbm, ⟨8, _⟩ => ⟨S120, .f32⟩
  | .hbm, ⟨9, _⟩ => ⟨S1x1x120, .f32⟩
  | .hbm, ⟨10, _⟩ => ⟨S2x896x120, .f32⟩
  | .hbm, ⟨11, _⟩ => ⟨S2x896x120, .f32⟩
  | .hbm, ⟨12, _⟩ => ⟨S_, .f32⟩
  | .hbm, ⟨13, _⟩ => ⟨S_, .f32⟩
  | .hbm, ⟨14, _⟩ => ⟨S2x896x120, .f32⟩
  | .hbm, ⟨15, _⟩ => ⟨S2x896x120, .f32⟩
  | .hbm, ⟨16, _⟩ => ⟨S2x8x896x128, .bf16⟩
  | .hbm, ⟨17, _⟩ => ⟨S16x896x128, .bf16⟩
  | .hbm, ⟨18, _⟩ => ⟨S2x896x11520, .bf16⟩
  | .hbm, ⟨19, _⟩ => ⟨S2x120x96x128, .fp8e4m3⟩
  | .hbm, ⟨20, _⟩ => ⟨S2x120x96, .f32⟩
  | .local _ .vmem, ⟨0, _⟩ => ⟨S2x896x11520, .bf16⟩
  | .local _ .vmem, ⟨1, _⟩ => ⟨S16x896x128, .bf16⟩
  | .local _ .vmem, ⟨2, _⟩ => ⟨S2x896x120, .f32⟩
  | .local _ .vmem, ⟨3, _⟩ => ⟨S2x120x96x128, .fp8e4m3⟩
  | .local _ .vmem, ⟨4, _⟩ => ⟨S2x120x96, .f32⟩
  | .local _ .vmem, ⟨5, _⟩ => ⟨S2x120x96x128, .f32⟩
  | .local _ .vmem, ⟨6, _⟩ => ⟨S2x896x11520, .bf16⟩
  | .local _ .vmem, ⟨7, _⟩ => ⟨S2x120x96x128, .fp8e4m3⟩
  | .local _ .vmem, ⟨8, _⟩ => ⟨S2x120x96, .f32⟩
  | _, _ => ⟨S2x896x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x896x11520 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x896x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x120x96x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x120x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x120x96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x11520 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x120x96x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x120x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelSplit.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel.Gen

open Idealize.ShloMosaic Idealize.ShloMosaic.TcCoe Idealize.ShloMosaic.Tactic
open Idealize.SL Idealize.SL.Sem

variable {F : FTy → Type} [BitOps F]

/-- What the kernel runs at a batch's first point only: the scans, the decays and the regrouped `c`, into scratch. -/
noncomputable def prep (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) PUnit := do
  let ⟨v3669, v3672, v3674⟩ : Σ' (v3669 : IVec S448x128 32) (v3672 : IVec S448x128 32), IVec S448x128 32 ← k0_part35 i arg2 harg2 arg3 harg3 arg4 harg4 arg5 harg5 arg6 harg6 arg7 harg7 arg8 harg8 arg9 harg9 arg10 harg10 arg11 harg11 arg12 harg12 arg13 harg13 arg14 harg14 arg15 harg15
  let v3684 : Vec F S1x896x128 .bf16 ← Prog.lift (.load arg12 (Rect.unit (s := S8x896x128) ![6, 0, 0] S1x896x128.size inb_S8x896x128_S1x896x128_6_0_0).toLoadRect (View.loadsAt_vmem h_S1x896x128))
  Prog.lift (.store arg12 (Rect.unit (s := S8x896x128) ![6, 0, 0] S1x896x128.size inb_S8x896x128_S1x896x128_6_0_0) (k0_pay167 (F := F) v3672 v3674) Finset.univ (View.stores_vmem h_S1x896x128 (harg12.storeExact_slice rfl _ packedbf16_S8x896x128_S1x896x128_6_0_0) (fun _ => rfl)) (.inl rfl))
  let v3688 : Vec F S1x896x128 .bf16 ← Prog.lift (.load arg12 (Rect.unit (s := S8x896x128) ![7, 0, 0] S1x896x128.size inb_S8x896x128_S1x896x128_7_0_0).toLoadRect (View.loadsAt_vmem h_S1x896x128))
  Prog.lift (.store arg12 (Rect.unit (s := S8x896x128) ![7, 0, 0] S1x896x128.size inb_S8x896x128_S1x896x128_7_0_0) (k0_pay168 (F := F) v3669 v3672) Finset.univ (View.stores_vmem h_S1x896x128 (harg12.storeExact_slice rfl _ packedbf16_S8x896x128_S1x896x128_7_0_0) (fun _ => rfl)) (.inl rfl))
  pure ⟨⟩

/-- `k0_part36` after its branch. -/
noncomputable def tail36 (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) (Σ' (arg1 : BitVec 32) (v4 : FVec F S8x96 .f32) (v9 : FVec F S128x128 .f32) (v10 : IVec S96x128 32) (v11 : IVec S96x128 32) (v26 : FVec F S96x128 .f32) (v33 : FVec F S96x128 .f32) (v34 : IVec S96x128 32), BitVec 32) := do
  let arg1 : BitVec 32 := BitVec.ofNat 32 (i 1).val
  let v3 : Vec F S1x8x96 .f32 ← Prog.lift (.load arg7 (Rect.unit (s := S1x8x96) ![0, 0, 0] S1x8x96.size inb_S1x8x96_S1x8x96_0_0_0).toLoadRect (View.loadsAt_vmem h_S1x8x96))
  have v10 : IVec S96x128 32 := iota .tc S96x128 32 [1] iota_S96x128_d1_w32
  have v11 : IVec S96x128 32 := iota .tc S96x128 32 [0] iota_S96x128_d0_w32
  let v15 : Vec F S1x128 .f32 ← Prog.lift (.load arg15 (Rect.unit (s := S128x128) (k0_off1 i 0#32) S1x128.size (k0_off1_inb i 0)).toLoadRect (View.loadsAt_vmem h_S1x128))
  let v16 : Vec F S1x1x96x128 .fp8e4m3 ← Prog.lift (.load arg6 (Rect.unit (s := S1x8x96x128) ![0, 0, 0, 0] S1x1x96x128.size inb_S1x8x96x128_S1x1x96x128_0_0_0_0).toLoadRect (View.loadsAt_vmem h_S1x1x96x128))
  let v24 : Vec F S1x1x96x128 .f32 ← Prog.lift (.load arg8 (Rect.unit (s := S1x8x96x128) ![0, 0, 0, 0] S1x1x96x128.size inb_S1x8x96x128_S1x1x96x128_0_0_0_0).toLoadRect (View.loadsAt_vmem h_S1x1x96x128))
  pure ⟨arg1, k0_pay169 v3, k0_pay170 v3, v10, v11, k0_pay171 v3 v15 v16 v24, k0_pay172 v3 v15 v16 v24, k0_pay173, 1073741824#32⟩

/-- What every point runs after `k0_part36`, as far as the last tile's product. -/
noncomputable def tail96 (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (r : Σ' (arg1 : BitVec 32) (v4 : FVec F S8x96 .f32) (v9 : FVec F S128x128 .f32) (v10 : IVec S96x128 32) (v11 : IVec S96x128 32) (v26 : FVec F S96x128 .f32) (v33 : FVec F S96x128 .f32) (v34 : IVec S96x128 32), BitVec 32) :
    Prog (TpuEff nD τ sig (Elt F) Λ₀ .tc) (Σ' (arg1 : BitVec 32) (v804 : FVec F S1x768 .f32) (v809 : IVec S128x128 32) (v2450 : FVec F S128x256 .f32) (v2451 : Vec F S128x128 .f32), BitVec 32) := do
  let ⟨arg1, v4, v9, v10, v11, v26, v33, v34, c1073741824_i32⟩ := r
  let ⟨v78, v83⟩ : Σ' (v78 : IVec S96x128 32), IVec S96x128 1 ← k0_part37 i arg2 harg2 arg3 harg3 arg4 harg4 arg5 harg5 arg6 harg6 arg7 harg7 arg8 harg8 arg9 harg9 arg10 harg10 arg11 harg11 arg12 harg12 arg13 harg13 arg14 harg14 arg15 harg15 v33 v34 c1073741824_i32
  let ⟨v119, v120⟩ : Σ' (v119 : FVec F S96x128 .f32), FVec F S96x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v26 v78 v83
  let ⟨v124, v131, v162, v164, v166⟩ : Σ' (v124 : FVec F S96x128 .f32) (v131 : FVec F S96x128 .f32) (v162 : IVec S96x128 32) (v164 : IVec S96x128 32), IVec S96x128 1 ← k0_part39 i arg2 harg2 arg3 harg3 arg4 harg4 arg5 harg5 arg6 harg6 arg7 harg7 arg8 harg8 arg9 harg9 arg10 harg10 arg11 harg11 arg12 harg12 arg13 harg13 arg14 harg14 arg15 harg15 v119 v120
  let v204 : FVec F S1x96 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 v10 v11 v124 v131 v162 v164 v166
  let ⟨v222, v229, v245, v247⟩ : Σ' (v222 : FVec F S96x128 .f32) (v229 : FVec F S96x128 .f32) (v245 : IVec S96x128 32), IVec S96x128 32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg1 v9 v204
  let ⟨v281, v290, v291⟩ : Σ' (v281 : IVec S96x128 32) (v290 : FVec F S96x128 .fp8e4m3), Vec F S1x1x96x128 .fp8e4m3 ← k0_part42 i arg2 harg2 arg3 harg3 arg4 harg4 arg5 harg5 arg6 harg6 arg7 harg7 arg8 harg8 arg9 harg9 arg10 harg10 arg11 harg11 arg12 harg12 arg13 harg13 arg14 harg14 arg15 harg15 v222 v229 v245 v247
  let ⟨v320, v327, v328, c1073741824_i32_120⟩ : Σ' (v320 : FVec F S96x128 .f32) (v327 : FVec F S96x128 .f32) (v328 : IVec S96x128 32), BitVec 32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v281 v290 v291
  let ⟨v372, v377⟩ : Σ' (v372 : IVec S96x128 32), IVec S96x128 1 ← k0_part44 i arg2 harg2 arg3 harg3 arg4 harg4 arg5 harg5 arg6 harg6 arg7 harg7 arg8 harg8 arg9 harg9 arg10 harg10 arg11 harg11 arg12 harg12 arg13 harg13 arg14 harg14 arg15 harg15 v327 v328 c1073741824_i32_120
  let ⟨v413, v414⟩ : Σ' (v413 : FVec F S96x128 .f32), FVec F S96x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v320 v372 v377
  let ⟨v418, v425, v456, v458, v460⟩ : Σ' (v418 : FVec F S96x128 .f32) (v425 : FVec F S96x128 .f32) (v456 : IVec S96x128 32) (v458 : IVec S96x128 32), IVec S96x128 1 ← k0_part46 i arg2 harg2 arg3 harg3 arg4 harg4 arg5 harg5 arg6 harg6 arg7 harg7 arg8 harg8 arg9 harg9 arg10 harg10 arg11 harg11 arg12 harg12 arg13 harg13 arg14 harg14 arg15 harg15 v413 v414
  let v498 : FVec F S1x96 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 v10 v11 v418 v425 v456 v458 v460
  let ⟨v516, v523, v539, v541⟩ : Σ' (v516 : FVec F S96x128 .f32) (v523 : FVec F S96x128 .f32) (v539 : IVec S96x128 32), IVec S96x128 32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg1 v9 v498
  let ⟨v575, v584, v585⟩ : Σ' (v575 : IVec S96x128 32) (v584 : FVec F S96x128 .fp8e4m3), Vec F S1x1x96x128 .fp8e4m3 ← k0_part49 i arg2 harg2 arg3 harg3 arg4 harg4 arg5 harg5 arg6 harg6 arg7 harg7 arg8 harg8 arg9 harg9 arg10 harg10 arg11 harg11 arg12 harg12 arg13 harg13 arg14 harg14 arg15 harg15 v516 v523 v539 v541
  let ⟨v614, v621, v622, c1073741824_i32_234⟩ : Σ' (v614 : FVec F S96x128 .f32) (v621 : FVec F S96x128 .f32) (v622 : IVec S96x128 32), BitVec 32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v575 v584 v585
  let ⟨v666, v671⟩ : Σ' (v666 : IVec S96x128 32), IVec S96x128 1 ← k0_part51 i arg2 harg2 arg3 harg3 arg4 harg4 arg5 harg5 arg6 harg6 arg7 harg7 arg8 harg8 arg9 harg9 arg10 harg10 arg11 harg11 arg12 harg12 arg13 harg13 arg14 harg14 arg15 harg15 v621 v622 c1073741824_i32_234
  let ⟨v707, v708⟩ : Σ' (v707 : FVec F S96x128 .f32), FVec F S96x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v614 v666 v671
  let ⟨v712, v719, v750, v752, v754⟩ : Σ' (v712 : FVec F S96x128 .f32) (v719 : FVec F S96x128 .f32) (v750 : IVec S96x128 32) (v752 : IVec S96x128 32), IVec S96x128 1 ← k0_part53 i arg2 harg2 arg3 harg3 arg4 harg4 arg5 harg5 arg6 harg6 arg7 harg7 arg8 harg8 arg9 harg9 arg10 harg10 arg11 harg11 arg12 harg12 arg13 harg13 arg14 harg14 arg15 harg15 v707 v708
  let v792 : FVec F S1x96 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 v10 v11 v712 v719 v750 v752 v754
  let ⟨v804, v807, v808, v809, v828, v830, v834, v836⟩ : Σ' (v804 : FVec F S1x768 .f32) (v807 : FVec F S768x128 .fp8e4m3) (v808 : IVec S256x128 32) (v809 : IVec S128x128 32) (v828 : BitVec 32) (v830 : BitVec 32) (v834 : FVec F S256x128 .fp8e4m3), IVec S256x128 1 ← k0_part55 i arg2 harg2 arg3 harg3 arg4 harg4 arg5 harg5 arg6 harg6 arg7 harg7 arg8 harg8 arg9 harg9 arg10 harg10 arg11 harg11 arg12 harg12 arg13 harg13 arg14 harg14 arg15 harg15 arg1 v4 v792
  let ⟨v840, v848, v849, v875, v878⟩ : Σ' (v840 : FVec F S256x256 .fp8e4m3) (v848 : FVec F S128x256 .f32) (v849 : Vec F S128x128 .f32) (v875 : FVec F S128x128 .f32), FVec F S128x128 .f32 ← k0_part56 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v834 v836
  k0_part57 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v848 v849 v875 v878
  let ⟨v925, v926, v960⟩ : Σ' (v925 : FVec F S128x256 .f32) (v926 : Vec F S128x128 .f32), FVec F S1x128x128 .bf16 ← k0_part58 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v830 v840
  let v1001 : FVec F S128x256 .bf16 ← k0_part59 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v925 v926 v960
  let ⟨v1002, v1003, v1039, v1041⟩ : Σ' (v1002 : FVec F S128x256 .f32) (v1003 : Vec F S128x128 .f32) (v1039 : IVec S128x128 32), BitVec 32 ← k0_part60 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v840 v1001
  let ⟨v1079, v1080, v1082⟩ : Σ' (v1079 : FVec F S128x256 .f32) (v1080 : Vec F S128x128 .f32), IVec S128x128 32 ← k0_part61 i arg2 harg2 arg3 harg3 arg4 harg4 arg5 harg5 arg6 harg6 arg7 harg7 arg8 harg8 arg9 harg9 arg10 harg10 arg11 harg11 arg12 harg12 arg13 harg13 arg14 harg14 arg15 harg15 v804 v809 v828 v830 v840 v1002 v1003 v1039 v1041
  let ⟨v1116, v1123, v1124⟩ : Σ' (v1116 : IVec S128x128 32) (v1123 : IVec S128x128 32), IVec S128x128 32 ← k0_part62 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1079 v1080 v1082
  let ⟨v1156, v1157, v1159, v1161, v1164⟩ : Σ' (v1156 : FVec F S128x256 .f32) (v1157 : Vec F S128x128 .f32) (v1159 : IVec S128x128 32) (v1161 : BitVec 32), IVec S128x128 32 ← k0_part63 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v840 v1079 v1080 v1116 v1123 v1124
  let ⟨v1204, v1206, v1207⟩ : Σ' (v1204 : IVec S128x128 32) (v1206 : IVec S128x128 1), IVec S128x128 32 ← k0_part64 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1156 v1157 v1159 v1161 v1164
  let ⟨v1233, v1234, v1247, c0_i32_482⟩ : Σ' (v1233 : FVec F S128x256 .f32) (v1234 : Vec F S128x128 .f32) (v1247 : IVec S128x128 32), BitVec 32 ← k0_part65 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v840 v1156 v1157 v1204 v1206 v1207
  let ⟨v1289, v1290, v1292⟩ : Σ' (v1289 : FVec F S128x128 .f32) (v1290 : FVec F S128x128 .f32), FVec F S128x128 .f32 ← k0_part66 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1233 v1234 v1247 c0_i32_482
  let ⟨v1310, v1311, v1331⟩ : Σ' (v1310 : FVec F S128x256 .f32) (v1311 : Vec F S128x128 .f32), IVec S128x128 32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg1 v809 v828 v830 v840 v1289 v1290 v1292
  let ⟨v1371, v1374⟩ : Σ' (v1371 : FVec F S128x128 .f32), FVec F S128x128 .f32 ← k0_part68 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1310 v1311 v1331
  let ⟨v1398, v1400, v1410, v1413⟩ : Σ' (v1398 : BitVec 32) (v1400 : BitVec 32) (v1410 : FVec F S256x256 .fp8e4m3), FVec F S128x128 .bf16 ← k0_part69 i arg2 harg2 arg3 harg3 arg4 harg4 arg5 harg5 arg6 harg6 arg7 harg7 arg8 harg8 arg9 harg9 arg10 harg10 arg11 harg11 arg12 harg12 arg13 harg13 arg14 harg14 arg15 harg15 arg1 v807 v808 v1371 v1374
  let ⟨v1418, v1419, v1454⟩ : Σ' (v1418 : FVec F S128x256 .f32) (v1419 : Vec F S128x128 .f32), IVec S128x128 32 ← k0_part70 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1410 v1413
  let v1495 : FVec F S128x256 .f32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1418 v1419 v1454
  let ⟨v1496, v1532, v1534, v1536⟩ : Σ' (v1496 : Vec F S128x128 .f32) (v1532 : IVec S128x128 32) (v1534 : BitVec 32), IVec S128x128 1 ← k0_part72 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1495
  let ⟨v1572, v1573, v1575, v1576, c2_i32_622⟩ : Σ' (v1572 : FVec F S128x256 .f32) (v1573 : Vec F S128x128 .f32) (v1575 : IVec S128x128 32) (v1576 : BitVec 32), BitVec 32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1495 v1496 v1532 v1534 v1536
  let v1620 : IVec S128x128 32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1572 v1573 v1575 v1576 c2_i32_622
  let ⟨v1649, v1650, v1652, v1659, c192_i32_657⟩ : Σ' (v1649 : FVec F S128x256 .f32) (v1650 : Vec F S128x128 .f32) (v1652 : IVec S128x128 32) (v1659 : IVec S128x128 32), BitVec 32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1572 v1573 v1620
  let v1703 : IVec S128x128x1 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1649 v1650 v1652 v1659 c192_i32_657
  let ⟨v1726, v1727, v1740, v1742, c128_i32_692⟩ : Σ' (v1726 : FVec F S128x256 .f32) (v1727 : Vec F S128x128 .f32) (v1740 : IVec S128x128 32) (v1742 : IVec S128x128 1), BitVec 32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1649 v1650 v1703
  let v1787 : FVec F S128x128 .f32 ← k0_part78 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1726 v1727 v1740 v1742 c128_i32_692
  let ⟨v1803, v1804, v1825, v1826, v1827⟩ : Σ' (v1803 : FVec F S128x256 .f32) (v1804 : Vec F S128x128 .f32) (v1825 : FVec F S128x128 .f32) (v1826 : FVec F S128x128 .f32), FVec F S1x128 .f32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1787
  let v1869 : FVec F S128x128 .bf16 ← k0_part80 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1803 v1804 v1825 v1826 v1827
  let ⟨v1880, v1881, v1907, v1909⟩ : Σ' (v1880 : FVec F S128x256 .f32) (v1881 : Vec F S128x128 .f32) (v1907 : FVec F S128x128 .f32), FVec F S128x128 .bf16 ← k0_part81 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1869
  let v1950 : BitVec 32 ← k0_part82 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1880 v1881 v1907 v1909
  let ⟨v1968, v1970, v1980, v1988, v1989, c32_i32_798⟩ : Σ' (v1968 : BitVec 32) (v1970 : BitVec 32) (v1980 : FVec F S256x256 .fp8e4m3) (v1988 : FVec F S128x256 .f32) (v1989 : Vec F S128x128 .f32), BitVec 32 ← k0_part83 i arg2 harg2 arg3 harg3 arg4 harg4 arg5 harg5 arg6 harg6 arg7 harg7 arg8 harg8 arg9 harg9 arg10 harg10 arg11 harg11 arg12 harg12 arg13 harg13 arg14 harg14 arg15 harg15 v807 v808 v1950
  let ⟨v2025, v2032⟩ : Σ' (v2025 : IVec S128x128 32), IVec S128x128 32 ← k0_part84 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1988 v1989 c32_i32_798
  let ⟨v2065, v2066, v2068, v2070, v2071⟩ : Σ' (v2065 : FVec F S128x256 .f32) (v2066 : Vec F S128x128 .f32) (v2068 : IVec S128x128 32) (v2070 : BitVec 32), IVec S128x128 32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v1988 v1989 v2025 v2032
  let ⟨v2113, v2115⟩ : Σ' (v2113 : IVec S128x128 32), IVec S128x128 1 ← k0_part86 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2065 v2066 v2068 v2070 v2071
  let ⟨v2142, v2143, v2152, v2155⟩ : Σ' (v2142 : FVec F S128x256 .f32) (v2143 : Vec F S128x128 .f32) (v2152 : IVec S128x128 32), IVec S128x128 32 ← k0_part87 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2065 v2066 v2113 v2115
  let ⟨v2198, v2199⟩ : Σ' (v2198 : FVec F S128x128 .f32), FVec F S128x128 .f32 ← k0_part88 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2142 v2143 v2152 v2155
  let ⟨v2219, v2220, v2238⟩ : Σ' (v2219 : FVec F S128x256 .f32) (v2220 : Vec F S128x128 .f32), IVec S128x128 32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2198 v2199
  let ⟨v2280, v2281⟩ : Σ' (v2280 : FVec F S128x128 .f32), Vec F S1x128x128 .bf16 ← k0_part90 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2219 v2220 v2238
  let ⟨v2296, v2297, v2323⟩ : Σ' (v2296 : FVec F S128x256 .f32) (v2297 : Vec F S128x128 .f32), FVec F S128x128 .f32 ← k0_part91 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2280 v2281
  let ⟨v2362, v2363⟩ : Σ' (v2362 : FVec F S128x128 .bf16), Vec F S1x128x128 .bf16 ← k0_part92 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2296 v2297 v2323
  let ⟨v2373, v2374, v2405⟩ : Σ' (v2373 : FVec F S128x256 .f32) (v2374 : Vec F S128x128 .f32), FVec F S128x128 .bf16 ← k0_part93 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2362 v2363
  let v2445 : FVec F S128x128 .bf16 ← k0_part94 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v2373 v2374 v2405
  let ⟨v2450, v2451, c64_i32_1009⟩ : Σ' (v2450 : FVec F S128x256 .f32) (v2451 : Vec F S128x128 .f32), BitVec 32 ← k0_part95 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1970 v1980 v2445
  pure ⟨arg1, v804, v809, v2450, v2451, c64_i32_1009⟩

/-- What every point runs, the batch's scratch being prepared. -/
noncomputable def tail (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) PUnit := do
  let r ← tail36 i arg2 harg2 arg3 harg3 arg4 harg4 arg5 harg5 arg6 harg6 arg7 harg7 arg8 harg8 arg9 harg9 arg10 harg10 arg11 harg11 arg12 harg12 arg13 harg13 arg14 harg14 arg15 harg15
  let ⟨arg1, v804, v809, v2450, v2451, c64_i32_1009⟩ : Σ' (arg1 : BitVec 32) (v804 : FVec F S1x768 .f32) (v809 : IVec S128x128 32) (v2450 : FVec F S128x256 .f32) (v2451 : Vec F S128x128 .f32), BitVec 32 ← tail96 i arg2 harg2 arg3 harg3 arg4 harg4 arg5 harg5 arg6 harg6 arg7 harg7 arg8 harg8 arg9 harg9 arg10 harg10 arg11 harg11 arg12 harg12 arg13 harg13 arg14 harg14 arg15 harg15 r
  let v2512 : Vec F S1x128x128 .bf16 ← Prog.lift (.load arg3 (Rect.unit (s := S1x896x768) ![0, 768, 640] S1x128x128.size inb_S1x896x768_S1x128x128_0_768_640).toLoadRect (View.loadsAt_vmem h_S1x128x128))
  let v2517 : Vec F S1x128x128 .bf16 ← Prog.lift (.load arg9 (Rect.unit (s := S1x896x768) ![0, 768, 640] S1x128x128.size inb_S1x896x768_S1x128x128_0_768_640).toLoadRect (View.loadsAt_vmem h_S1x128x128))
  Prog.lift (.store arg9 (Rect.unit (s := S1x896x768) ![0, 768, 640] S1x128x128.size inb_S1x896x768_S1x128x128_0_768_640) (k0_pay1 arg1 v804 v809 v2450 v2451 c64_i32_1009 v2512) Finset.univ (View.stores_vmem h_S1x128x128 (harg9.storeExact_slice rfl _ packedbf16_S1x896x768_S1x128x128_0_768_640) (fun _ => rfl)) (.inl rfl))
  pure ⟨⟩

/-- At a batch's first point the body is the preparation, then the tail. -/
theorem body_first (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc : Scalar.cmpi .ne (Scalar.extui (Scalar.cmpi .eq (BitVec.ofNat 32 (i 1).val) 0#32)) 0#32 = 1#1) :
    cc0_ssd_carry (F := F) i arg2 harg2 arg3 harg3 arg4 harg4 arg5 harg5 arg6 harg6 arg7 harg7 arg8 harg8 arg9 harg9 arg10 harg10 arg11 harg11 arg12 harg12 arg13 harg13 arg14 harg14 arg15 harg15 = prep i arg2 harg2 arg3 harg3 arg4 harg4 arg5 harg5 arg6 harg6 arg7 harg7 arg8 harg8 arg9 harg9 arg10 harg10 arg11 harg11 arg12 harg12 arg13 harg13 arg14 harg14 arg15 harg15 >>= fun _ => tail i arg2 harg2 arg3 harg3 arg4 harg4 arg5 harg5 arg6 harg6 arg7 harg7 arg8 harg8 arg9 harg9 arg10 harg10 arg11 harg11 arg12 harg12 arg13 harg13 arg14 harg14 arg15 harg15 := by
  simp only [cc0_ssd_carry_eq_skeleton]; unfold cc0_ssd_carry_skel
  rw [k0_part96_eq_skeleton]; unfold k0_part96_skel
  rw [k0_part36_eq_skeleton]; unfold k0_part36_skel tail tail36 tail96 prep
  simp only [hc, dite_true, Prog.bind_assoc, bind_assoc, pure_bind]

/-- At a batch's other points the body is the tail. -/
theorem body_later (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc : ¬ Scalar.cmpi .ne (Scalar.extui (Scalar.cmpi .eq (BitVec.ofNat 32 (i 1).val) 0#32)) 0#32 = 1#1) :
    cc0_ssd_carry (F := F) i arg2 harg2 arg3 harg3 arg4 harg4 arg5 harg5 arg6 harg6 arg7 harg7 arg8 harg8 arg9 harg9 arg10 harg10 arg11 harg11 arg12 harg12 arg13 harg13 arg14 harg14 arg15 harg15 = tail i arg2 harg2 arg3 harg3 arg4 harg4 arg5 harg5 arg6 harg6 arg7 harg7 arg8 harg8 arg9 harg9 arg10 harg10 arg11 harg11 arg12 harg12 arg13 harg13 arg14 harg14 arg15 harg15 := by
  simp only [cc0_ssd_carry_eq_skeleton]; unfold cc0_ssd_carry_skel
  rw [k0_part96_eq_skeleton]; unfold k0_part96_skel
  rw [k0_part36_eq_skeleton]; unfold k0_part36_skel tail tail36 tail96
  simp only [hc, dite_false, Prog.bind_assoc, bind_assoc, pure_bind]

end Cert.Kernel.Gen

end
-- ==== Proof.KernelPoints.lean ====
module

public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 15) — by arithmetic of the point. -/
theorem hcond0_0 : ∀ t : Fin cfg0.N, cond0_0 (grid0.coords t) ↔ t.val % 15 = 0 :=
  (fun t => by
    have ht : t.val < 30 := Nat.lt_of_lt_of_eq t.isLt N_0
    have e0 : (grid0.coords t 0).val = t.val / 15 % 2 := Pipeline.Grid.coords_val t 0 (by decide) rfl
    have e1 : (grid0.coords t 1).val = t.val / 1 % 15 := Pipeline.Grid.coords_val t 1 (by decide) rfl
    simp only [cond0_0, e0, e1]
    word_cmp
   : ∀ t : Fin grid0.N, cond0_0 (grid0.coords t) ↔ t.val % 15 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x8x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x896x120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x96x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x96x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x896x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x96x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x96 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x896x128 .bf16 := Memref.whole cc0_scratch0
abbrev scM0_1 : Memref sig .tc .vmem S896x128 .f32 := Memref.whole cc0_scratch1
abbrev scM0_2 : Memref sig .tc .vmem S120x128 .f32 := Memref.whole cc0_scratch2
abbrev scM0_3 : Memref sig .tc .vmem S128x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelRun.lean ====
module

public import proofs.«01_k».proof.Proof.KernelSplit
public import proofs.«01_k».proof.Proof.KernelPoints

@[expose] public section

set_option maxRecDepth 65536

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 5244000 in
/-- The preparation runs, whatever the outputs and the scratch hold, and leaves the inputs as they were. -/
theorem prep_run (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (prep i arg2 harg2 arg3 harg3 arg4 harg4 arg5 harg5 arg6 harg6 arg7 harg7 arg8 harg8 arg9 harg9 arg10 harg10 arg11 harg11 arg12 harg12 arg13 harg13 arg14 harg14 arg15 harg15) K := by
  unfold prep
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 5244000 in
/-- The tail runs, whatever the outputs and the scratch hold, and leaves the inputs as they were. -/
theorem tail_run (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (tail i arg2 harg2 arg3 harg3 arg4 harg4 arg5 harg5 arg6 harg6 arg7 harg7 arg8 harg8 arg9 harg9 arg10 harg10 arg11 harg11 arg12 harg12 arg13 harg13 arg14 harg14 arg15 harg15) K := by
  unfold tail tail36 tail96
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

/-- The body at a batch's first point: the preparation, then the tail. -/
theorem kernelRun0_A (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : cond0_0 i) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_ssd_carry i arg2 harg2 arg3 harg3 arg4 harg4 arg5 harg5 arg6 harg6 arg7 harg7 arg8 harg8 arg9 harg9 arg10 harg10 arg11 harg11 arg12 harg12 arg13 harg13 arg14 harg14 arg15 harg15) K := by
  rw [body_first i arg2 harg2 arg3 harg3 arg4 harg4 arg5 harg5 arg6 harg6 arg7 harg7 arg8 harg8 arg9 harg9 arg10 harg10 arg11 harg11 arg12 harg12 arg13 harg13 arg14 harg14 arg15 harg15 hc0]
  rw [wp_bind]
  iintro ⟨H0, H1, H2, H3, H4, H5, H6, H7, H8, H9, HS0, HS1, HS2, HS3, Hk⟩
  iapply (prep_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  iapply (tail_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

/-- The body at any later point of a batch: the tail alone. -/
theorem kernelRun0_B (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : ¬ cond0_0 i) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_ssd_carry i arg2 harg2 arg3 harg3 arg4 harg4 arg5 harg5 arg6 harg6 arg7 harg7 arg8 harg8 arg9 harg9 arg10 harg10 arg11 harg11 arg12 harg12 arg13 harg13 arg14 harg14 arg15 harg15) K := by
  rw [body_later i arg2 harg2 arg3 harg3 arg4 harg4 arg5 harg5 arg6 harg6 arg7 harg7 arg8 harg8 arg9 harg9 arg10 harg10 arg11 harg11 arg12 harg12 arg13 harg13 arg14 harg14 arg15 harg15 hc0]
  iintro ⟨H0, H1, H2, H3, H4, H5, H6, H7, H8, H9, HS0, HS1, HS2, HS3, Hk⟩
  iapply (tail_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

end Cert.Kernel.Hand

end
-- ==== Proof.KernelFrame.lean ====
module

public import proofs.«01_k».proof.Proof.KernelRun
public import Idealize.ShloMosaic.Lib.Claim

@[expose] public section

set_option maxRecDepth 65536

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 30 := lt_of_lt_of_eq t.isLt (show cfg0.N = 30 from N_0)
  by_cases h0 : t.val % 15 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.IdealSplit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.KernelIdeal.Gen

open Idealize.ShloMosaic Idealize.ShloMosaic.TcCoe Idealize.ShloMosaic.Tactic
open Idealize.SL Idealize.SL.Sem

variable {F : FTy → Type} [FloatOps F]

/-- What the kernel runs at a batch's first point only: the scans, the decays and the regrouped `c`, into scratch. -/
noncomputable def prep (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) PUnit := do
  let ⟨v3669_hi, v3672_hi, v3683, v3684⟩ : Σ' (v3669_hi : FVec F S448x128 .bf16) (v3672_hi : FVec F S448x128 .bf16) (v3683 : FVec F S896x128 .bf16), Vec F S1x896x128 .bf16 ← k0_part35 i arg2 harg2 arg3 harg3 arg4 harg4 arg5 harg5 arg6 harg6 arg7 harg7 arg8 harg8 arg9 harg9 arg10 harg10 arg11 harg11 arg12 harg12 arg13 harg13 arg14 harg14 arg15 harg15
  Prog.lift (.store arg12 (Rect.unit (s := S8x896x128) ![6, 0, 0] S1x896x128.size inb_S8x896x128_S1x896x128_6_0_0) (k0_pay162 v3683) Finset.univ (View.stores_vmem h_S1x896x128 (harg12.storeExact_slice rfl _ packedbf16_S8x896x128_S1x896x128_6_0_0) (fun _ => rfl)) (.inl rfl))
  let v3688 : Vec F S1x896x128 .bf16 ← Prog.lift (.load arg12 (Rect.unit (s := S8x896x128) ![7, 0, 0] S1x896x128.size inb_S8x896x128_S1x896x128_7_0_0).toLoadRect (View.loadsAt_vmem h_S1x896x128))
  Prog.lift (.store arg12 (Rect.unit (s := S8x896x128) ![7, 0, 0] S1x896x128.size inb_S8x896x128_S1x896x128_7_0_0) (k0_pay163 v3669_hi v3672_hi) Finset.univ (View.stores_vmem h_S1x896x128 (harg12.storeExact_slice rfl _ packedbf16_S8x896x128_S1x896x128_7_0_0) (fun _ => rfl)) (.inl rfl))
  pure ⟨⟩

/-- `k0_part36` after its branch. -/
noncomputable def tail36 (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) (Σ' (arg1 : BitVec 32) (v4 : FVec F S8x96 .f32) (v9 : FVec F S128x128 .f32) (v10 : IVec S96x128 32) (v11 : IVec S96x128 32) (v26 : FVec F S96x128 .f32) (v33 : FVec F S96x128 .f32) (v34 : IVec S96x128 32), BitVec 32) := do
  let arg1 : BitVec 32 := BitVec.ofNat 32 (i 1).val
  let v3 : Vec F S1x8x96 .f32 ← Prog.lift (.load arg7 (Rect.unit (s := S1x8x96) ![0, 0, 0] S1x8x96.size inb_S1x8x96_S1x8x96_0_0_0).toLoadRect (View.loadsAt_vmem h_S1x8x96))
  have v10 : IVec S96x128 32 := iota .tc S96x128 32 [1] iota_S96x128_d1_w32
  have v11 : IVec S96x128 32 := iota .tc S96x128 32 [0] iota_S96x128_d0_w32
  let v15 : Vec F S1x128 .f32 ← Prog.lift (.load arg15 (Rect.unit (s := S128x128) (k0_off1 i 0#32) S1x128.size (k0_off1_inb i 0)).toLoadRect (View.loadsAt_vmem h_S1x128))
  let v16 : Vec F S1x1x96x128 .fp8e4m3 ← Prog.lift (.load arg6 (Rect.unit (s := S1x8x96x128) ![0, 0, 0, 0] S1x1x96x128.size inb_S1x8x96x128_S1x1x96x128_0_0_0_0).toLoadRect (View.loadsAt_vmem h_S1x1x96x128))
  let v24 : Vec F S1x1x96x128 .f32 ← Prog.lift (.load arg8 (Rect.unit (s := S1x8x96x128) ![0, 0, 0, 0] S1x1x96x128.size inb_S1x8x96x128_S1x1x96x128_0_0_0_0).toLoadRect (View.loadsAt_vmem h_S1x1x96x128))
  pure ⟨arg1, k0_pay164 v3, k0_pay165 v3, v10, v11, k0_pay166 v3 v15 v16 v24, k0_pay167 v3 v15 v16 v24, k0_pay168, 1073741824#32⟩

/-- What every point runs after `k0_part36`, as far as the last tile's product. -/
noncomputable def tail96 (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (r : Σ' (arg1 : BitVec 32) (v4 : FVec F S8x96 .f32) (v9 : FVec F S128x128 .f32) (v10 : IVec S96x128 32) (v11 : IVec S96x128 32) (v26 : FVec F S96x128 .f32) (v33 : FVec F S96x128 .f32) (v34 : IVec S96x128 32), BitVec 32) :
    Prog (TpuEff nD τ sig (Elt F) Λ₀ .tc) (Σ' (arg1 : BitVec 32) (v804 : FVec F S1x768 .f32) (v809 : IVec S128x128 32) (v2450 : FVec F S128x256 .f32) (v2451 : Vec F S128x128 .f32), BitVec 32) := do
  let ⟨arg1, v4, v9, v10, v11, v26, v33, v34, c1073741824_i32⟩ := r
  let ⟨v78, v83⟩ : Σ' (v78 : IVec S96x128 32), IVec S96x128 1 ← k0_part37 i arg2 harg2 arg3 harg3 arg4 harg4 arg5 harg5 arg6 harg6 arg7 harg7 arg8 harg8 arg9 harg9 arg10 harg10 arg11 harg11 arg12 harg12 arg13 harg13 arg14 harg14 arg15 harg15 v33 v34 c1073741824_i32
  let ⟨v119, v120⟩ : Σ' (v119 : FVec F S96x128 .f32), FVec F S96x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v26 v78 v83
  let ⟨v124, v131, v162, v164, v166⟩ : Σ' (v124 : FVec F S96x128 .f32) (v131 : FVec F S96x128 .f32) (v162 : IVec S96x128 32) (v164 : IVec S96x128 32), IVec S96x128 1 ← k0_part39 i arg2 harg2 arg3 harg3 arg4 harg4 arg5 harg5 arg6 harg6 arg7 harg7 arg8 harg8 arg9 harg9 arg10 harg10 arg11 harg11 arg12 harg12 arg13 harg13 arg14 harg14 arg15 harg15 v119 v120
  let v204 : FVec F S1x96 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 v10 v11 v124 v131 v162 v164 v166
  let ⟨v222, v229, v245, v247⟩ : Σ' (v222 : FVec F S96x128 .f32) (v229 : FVec F S96x128 .f32) (v245 : IVec S96x128 32), IVec S96x128 32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg1 v9 v204
  let ⟨v281, v290, v291⟩ : Σ' (v281 : IVec S96x128 32) (v290 : FVec F S96x128 .fp8e4m3), Vec F S1x1x96x128 .fp8e4m3 ← k0_part42 i arg2 harg2 arg3 harg3 arg4 harg4 arg5 harg5 arg6 harg6 arg7 harg7 arg8 harg8 arg9 harg9 arg10 harg10 arg11 harg11 arg12 harg12 arg13 harg13 arg14 harg14 arg15 harg15 v222 v229 v245 v247
  let ⟨v320, v327, v328, c1073741824_i32_120⟩ : Σ' (v320 : FVec F S96x128 .f32) (v327 : FVec F S96x128 .f32) (v328 : IVec S96x128 32), BitVec 32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v281 v290 v291
  let ⟨v372, v377⟩ : Σ' (v372 : IVec S96x128 32), IVec S96x128 1 ← k0_part44 i arg2 harg2 arg3 harg3 arg4 harg4 arg5 harg5 arg6 harg6 arg7 harg7 arg8 harg8 arg9 harg9 arg10 harg10 arg11 harg11 arg12 harg12 arg13 harg13 arg14 harg14 arg15 harg15 v327 v328 c1073741824_i32_120
  let ⟨v413, v414⟩ : Σ' (v413 : FVec F S96x128 .f32), FVec F S96x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v320 v372 v377
  let ⟨v418, v425, v456, v458, v460⟩ : Σ' (v418 : FVec F S96x128 .f32) (v425 : FVec F S96x128 .f32) (v456 : IVec S96x128 32) (v458 : IVec S96x128 32), IVec S96x128 1 ← k0_part46 i arg2 harg2 arg3 harg3 arg4 harg4 arg5 harg5 arg6 harg6 arg7 harg7 arg8 harg8 arg9 harg9 arg10 harg10 arg11 harg11 arg12 harg12 arg13 harg13 arg14 harg14 arg15 harg15 v413 v414
  let v498 : FVec F S1x96 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 v10 v11 v418 v425 v456 v458 v460
  let ⟨v516, v523, v539, v541⟩ : Σ' (v516 : FVec F S96x128 .f32) (v523 : FVec F S96x128 .f32) (v539 : IVec S96x128 32), IVec S96x128 32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg1 v9 v498
  let ⟨v575, v584, v585⟩ : Σ' (v575 : IVec S96x128 32) (v584 : FVec F S96x128 .fp8e4m3), Vec F S1x1x96x128 .fp8e4m3 ← k0_part49 i arg2 harg2 arg3 harg3 arg4 harg4 arg5 harg5 arg6 harg6 arg7 harg7 arg8 harg8 arg9 harg9 arg10 harg10 arg11 harg11 arg12 harg12 arg13 harg13 arg14 harg14 arg15 harg15 v516 v523 v539 v541
  let ⟨v614, v621, v622, c1073741824_i32_234⟩ : Σ' (v614 : FVec F S96x128 .f32) (v621 : FVec F S96x128 .f32) (v622 : IVec S96x128 32), BitVec 32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v575 v584 v585
  let ⟨v666, v671⟩ : Σ' (v666 : IVec S96x128 32), IVec S96x128 1 ← k0_part51 i arg2 harg2 arg3 harg3 arg4 harg4 arg5 harg5 arg6 harg6 arg7 harg7 arg8 harg8 arg9 harg9 arg10 harg10 arg11 harg11 arg12 harg12 arg13 harg13 arg14 harg14 arg15 harg15 v621 v622 c1073741824_i32_234
  let ⟨v707, v708⟩ : Σ' (v707 : FVec F S96x128 .f32), FVec F S96x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg1 v9 v10 v11 v614 v666 v671
  let ⟨v712, v719, v750, v752, v754⟩ : Σ' (v712 : FVec F S96x128 .f32) (v719 : FVec F S96x128 .f32) (v750 : IVec S96x128 32) (v752 : IVec S96x128 32), IVec S96x128 1 ← k0_part53 i arg2 harg2 arg3 harg3 arg4 harg4 arg5 harg5 arg6 harg6 arg7 harg7 arg8 harg8 arg9 harg9 arg10 harg10 arg11 harg11 arg12 harg12 arg13 harg13 arg14 harg14 arg15 harg15 v707 v708
  let v792 : FVec F S1x96 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 v10 v11 v712 v719 v750 v752 v754
  let ⟨v804, v807, v808, v809, v828, v830, v834, v836⟩ : Σ' (v804 : FVec F S1x768 .f32) (v807 : FVec F S768x128 .fp8e4m3) (v808 : IVec S256x128 32) (v809 : IVec S128x128 32) (v828 : BitVec 32) (v830 : BitVec 32) (v834 : FVec F S256x128 .fp8e4m3), IVec S256x128 1 ← k0_part55 i arg2 harg2 arg3 harg3 arg4 harg4 arg5 harg5 arg6 harg6 arg7 harg7 arg8 harg8 arg9 harg9 arg10 harg10 arg11 harg11 arg12 harg12 arg13 harg13 arg14 harg14 arg15 harg15 arg1 v4 v792
  let ⟨v840, v848, v849, v875, v878⟩ : Σ' (v840 : FVec F S256x256 .fp8e4m3) (v848 : FVec F S128x256 .f32) (v849 : Vec F S128x128 .f32) (v875 : FVec F S128x128 .f32), FVec F S128x128 .f32 ← k0_part56 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v834 v836
  k0_part57 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v848 v849 v875 v878
  let ⟨v925, v926, v960⟩ : Σ' (v925 : FVec F S128x256 .f32) (v926 : Vec F S128x128 .f32), FVec F S1x128x128 .bf16 ← k0_part58 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v830 v840
  let v1001 : FVec F S128x256 .bf16 ← k0_part59 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v925 v926 v960
  let ⟨v1002, v1003, v1039, v1041⟩ : Σ' (v1002 : FVec F S128x256 .f32) (v1003 : Vec F S128x128 .f32) (v1039 : IVec S128x128 32), BitVec 32 ← k0_part60 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v840 v1001
  let ⟨v1079, v1080, v1082⟩ : Σ' (v1079 : FVec F S128x256 .f32) (v1080 : Vec F S128x128 .f32), IVec S128x128 32 ← k0_part61 i arg2 harg2 arg3 harg3 arg4 harg4 arg5 harg5 arg6 harg6 arg7 harg7 arg8 harg8 arg9 harg9 arg10 harg10 arg11 harg11 arg12 harg12 arg13 harg13 arg14 harg14 arg15 harg15 v804 v809 v828 v830 v840 v1002 v1003 v1039 v1041
  let ⟨v1116, v1123, v1124⟩ : Σ' (v1116 : IVec S128x128 32) (v1123 : IVec S128x128 32), IVec S128x128 32 ← k0_part62 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1079 v1080 v1082
  let ⟨v1156, v1157, v1159, v1161, v1164⟩ : Σ' (v1156 : FVec F S128x256 .f32) (v1157 : Vec F S128x128 .f32) (v1159 : IVec S128x128 32) (v1161 : BitVec 32), IVec S128x128 32 ← k0_part63 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v840 v1079 v1080 v1116 v1123 v1124
  let ⟨v1204, v1206, v1207⟩ : Σ' (v1204 : IVec S128x128 32) (v1206 : IVec S128x128 1), IVec S128x128 32 ← k0_part64 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1156 v1157 v1159 v1161 v1164
  let ⟨v1233, v1234, v1247, c0_i32_482⟩ : Σ' (v1233 : FVec F S128x256 .f32) (v1234 : Vec F S128x128 .f32) (v1247 : IVec S128x128 32), BitVec 32 ← k0_part65 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v828 v830 v840 v1156 v1157 v1204 v1206 v1207
  let ⟨v1289, v1290, v1292⟩ : Σ' (v1289 : FVec F S128x128 .f32) (v1290 : FVec F S128x128 .f32), FVec F S128x128 .f32 ← k0_part66 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1233 v1234 v1247 c0_i32_482
  let ⟨v1310, v1311, v1331⟩ : Σ' (v1310 : FVec F S128x256 .f32) (v1311 : Vec F S128x128 .f32), IVec S128x128 32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg1 v809 v828 v830 v840 v1289 v1290 v1292
  let ⟨v1371, v1374⟩ : Σ' (v1371 : FVec F S128x128 .f32), FVec F S128x128 .f32 ← k0_part68 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1310 v1311 v1331
  let ⟨v1398, v1400, v1410, v1413⟩ : Σ' (v1398 : BitVec 32) (v1400 : BitVec 32) (v1410 : FVec F S256x256 .fp8e4m3), FVec F S128x128 .bf16 ← k0_part69 i arg2 harg2 arg3 harg3 arg4 harg4 arg5 harg5 arg6 harg6 arg7 harg7 arg8 harg8 arg9 harg9 arg10 harg10 arg11 harg11 arg12 harg12 arg13 harg13 arg14 harg14 arg15 harg15 arg1 v807 v808 v1371 v1374
  let ⟨v1418, v1419, v1454⟩ : Σ' (v1418 : FVec F S128x256 .f32) (v1419 : Vec F S128x128 .f32), IVec S128x128 32 ← k0_part70 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1410 v1413
  let v1495 : FVec F S128x256 .f32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1418 v1419 v1454
  let ⟨v1496, v1532, v1534, v1536⟩ : Σ' (v1496 : Vec F S128x128 .f32) (v1532 : IVec S128x128 32) (v1534 : BitVec 32), IVec S128x128 1 ← k0_part72 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1495
  let ⟨v1572, v1573, v1575, v1576, c2_i32_622⟩ : Σ' (v1572 : FVec F S128x256 .f32) (v1573 : Vec F S128x128 .f32) (v1575 : IVec S128x128 32) (v1576 : BitVec 32), BitVec 32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1495 v1496 v1532 v1534 v1536
  let v1620 : IVec S128x128 32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1572 v1573 v1575 v1576 c2_i32_622
  let ⟨v1649, v1650, v1652, v1659, c192_i32_657⟩ : Σ' (v1649 : FVec F S128x256 .f32) (v1650 : Vec F S128x128 .f32) (v1652 : IVec S128x128 32) (v1659 : IVec S128x128 32), BitVec 32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1572 v1573 v1620
  let v1703 : IVec S128x128x1 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1649 v1650 v1652 v1659 c192_i32_657
  let ⟨v1726, v1727, v1740, v1742, c128_i32_692⟩ : Σ' (v1726 : FVec F S128x256 .f32) (v1727 : Vec F S128x128 .f32) (v1740 : IVec S128x128 32) (v1742 : IVec S128x128 1), BitVec 32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1649 v1650 v1703
  let v1787 : FVec F S128x128 .f32 ← k0_part78 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1726 v1727 v1740 v1742 c128_i32_692
  let ⟨v1803, v1804, v1825, v1826, v1827⟩ : Σ' (v1803 : FVec F S128x256 .f32) (v1804 : Vec F S128x128 .f32) (v1825 : FVec F S128x128 .f32) (v1826 : FVec F S128x128 .f32), FVec F S1x128 .f32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1787
  let v1869 : FVec F S128x128 .bf16 ← k0_part80 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1803 v1804 v1825 v1826 v1827
  let ⟨v1880, v1881, v1907, v1909⟩ : Σ' (v1880 : FVec F S128x256 .f32) (v1881 : Vec F S128x128 .f32) (v1907 : FVec F S128x128 .f32), FVec F S128x128 .bf16 ← k0_part81 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1398 v1400 v1410 v1869
  let v1950 : BitVec 32 ← k0_part82 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1880 v1881 v1907 v1909
  let ⟨v1968, v1970, v1980, v1988, v1989, c32_i32_798⟩ : Σ' (v1968 : BitVec 32) (v1970 : BitVec 32) (v1980 : FVec F S256x256 .fp8e4m3) (v1988 : FVec F S128x256 .f32) (v1989 : Vec F S128x128 .f32), BitVec 32 ← k0_part83 i arg2 harg2 arg3 harg3 arg4 harg4 arg5 harg5 arg6 harg6 arg7 harg7 arg8 harg8 arg9 harg9 arg10 harg10 arg11 harg11 arg12 harg12 arg13 harg13 arg14 harg14 arg15 harg15 v807 v808 v1950
  let ⟨v2025, v2032⟩ : Σ' (v2025 : IVec S128x128 32), IVec S128x128 32 ← k0_part84 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1988 v1989 c32_i32_798
  let ⟨v2065, v2066, v2068, v2070, v2071⟩ : Σ' (v2065 : FVec F S128x256 .f32) (v2066 : Vec F S128x128 .f32) (v2068 : IVec S128x128 32) (v2070 : BitVec 32), IVec S128x128 32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v1988 v1989 v2025 v2032
  let ⟨v2113, v2115⟩ : Σ' (v2113 : IVec S128x128 32), IVec S128x128 1 ← k0_part86 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2065 v2066 v2068 v2070 v2071
  let ⟨v2142, v2143, v2152, v2155⟩ : Σ' (v2142 : FVec F S128x256 .f32) (v2143 : Vec F S128x128 .f32) (v2152 : IVec S128x128 32), IVec S128x128 32 ← k0_part87 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2065 v2066 v2113 v2115
  let ⟨v2198, v2199⟩ : Σ' (v2198 : FVec F S128x128 .f32), FVec F S128x128 .f32 ← k0_part88 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2142 v2143 v2152 v2155
  let ⟨v2219, v2220, v2238⟩ : Σ' (v2219 : FVec F S128x256 .f32) (v2220 : Vec F S128x128 .f32), IVec S128x128 32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2198 v2199
  let ⟨v2280, v2281⟩ : Σ' (v2280 : FVec F S128x128 .f32), Vec F S1x128x128 .bf16 ← k0_part90 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2219 v2220 v2238
  let ⟨v2296, v2297, v2323⟩ : Σ' (v2296 : FVec F S128x256 .f32) (v2297 : Vec F S128x128 .f32), FVec F S128x128 .f32 ← k0_part91 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2280 v2281
  let ⟨v2362, v2363⟩ : Σ' (v2362 : FVec F S128x128 .bf16), Vec F S1x128x128 .bf16 ← k0_part92 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v2296 v2297 v2323
  let ⟨v2373, v2374, v2405⟩ : Σ' (v2373 : FVec F S128x256 .f32) (v2374 : Vec F S128x128 .f32), FVec F S128x128 .bf16 ← k0_part93 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v1970 v1980 v2362 v2363
  let v2445 : FVec F S128x128 .bf16 ← k0_part94 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1968 v2373 v2374 v2405
  let ⟨v2450, v2451, c64_i32_1009⟩ : Σ' (v2450 : FVec F S128x256 .f32) (v2451 : Vec F S128x128 .f32), BitVec 32 ← k0_part95 i arg2 harg2 arg3 harg3 arg4 harg4 arg5 harg5 arg6 harg6 arg7 harg7 arg8 harg8 arg9 harg9 arg10 harg10 arg11 harg11 arg12 harg12 arg13 harg13 arg14 harg14 arg15 harg15 arg1 v804 v809 v1970 v1980 v2445
  pure ⟨arg1, v804, v809, v2450, v2451, c64_i32_1009⟩

/-- What every point runs, the batch's scratch being prepared. -/
noncomputable def tail (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) :
    Prog (TpuEff nD τ sig (Elt F) Λ₀ .tc) PUnit := do
  let r ← tail36 i arg2 harg2 arg3 harg3 arg4 harg4 arg5 harg5 arg6 harg6 arg7 harg7 arg8 harg8 arg9 harg9 arg10 harg10 arg11 harg11 arg12 harg12 arg13 harg13 arg14 harg14 arg15 harg15
  let ⟨arg1, v804, v809, v2450, v2451, c64_i32_1009⟩ : Σ' (arg1 : BitVec 32) (v804 : FVec F S1x768 .f32) (v809 : IVec S128x128 32) (v2450 : FVec F S128x256 .f32) (v2451 : Vec F S128x128 .f32), BitVec 32 ← tail96 i arg2 harg2 arg3 harg3 arg4 harg4 arg5 harg5 arg6 harg6 arg7 harg7 arg8 harg8 arg9 harg9 arg10 harg10 arg11 harg11 arg12 harg12 arg13 harg13 arg14 harg14 arg15 harg15 r
  let v2512 : Vec F S1x128x128 .bf16 ← Prog.lift (.load arg3 (Rect.unit (s := S1x896x768) ![0, 768, 640] S1x128x128.size inb_S1x896x768_S1x128x128_0_768_640).toLoadRect (View.loadsAt_vmem h_S1x128x128))
  let v2517 : Vec F S1x128x128 .bf16 ← Prog.lift (.load arg9 (Rect.unit (s := S1x896x768) ![0, 768, 640] S1x128x128.size inb_S1x896x768_S1x128x128_0_768_640).toLoadRect (View.loadsAt_vmem h_S1x128x128))
  Prog.lift (.store arg9 (Rect.unit (s := S1x896x768) ![0, 768, 640] S1x128x128.size inb_S1x896x768_S1x128x128_0_768_640) (k0_pay1 arg1 v804 v809 v2450 v2451 c64_i32_1009 v2512) Finset.univ (View.stores_vmem h_S1x128x128 (harg9.storeExact_slice rfl _ packedbf16_S1x896x768_S1x128x128_0_768_640) (fun _ => rfl)) (.inl rfl))
  pure ⟨⟩

/-- At a batch's first point the body is the preparation, then the tail. -/
theorem body_first (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc : Scalar.cmpi .ne (Scalar.extui (Scalar.cmpi .eq (BitVec.ofNat 32 (i 1).val) 0#32)) 0#32 = 1#1) :
    cc0_ssd_carry (F := F) i arg2 harg2 arg3 harg3 arg4 harg4 arg5 harg5 arg6 harg6 arg7 harg7 arg8 harg8 arg9 harg9 arg10 harg10 arg11 harg11 arg12 harg12 arg13 harg13 arg14 harg14 arg15 harg15 = prep i arg2 harg2 arg3 harg3 arg4 harg4 arg5 harg5 arg6 harg6 arg7 harg7 arg8 harg8 arg9 harg9 arg10 harg10 arg11 harg11 arg12 harg12 arg13 harg13 arg14 harg14 arg15 harg15 >>= fun _ => tail i arg2 harg2 arg3 harg3 arg4 harg4 arg5 harg5 arg6 harg6 arg7 harg7 arg8 harg8 arg9 harg9 arg10 harg10 arg11 harg11 arg12 harg12 arg13 harg13 arg14 harg14 arg15 harg15 := by
  simp only [cc0_ssd_carry_eq_skeleton]; unfold cc0_ssd_carry_skel
  rw [k0_part96_eq_skeleton]; unfold k0_part96_skel
  rw [k0_part36_eq_skeleton]; unfold k0_part36_skel tail tail36 tail96 prep
  simp only [hc, dite_true, Prog.bind_assoc, bind_assoc, pure_bind]

/-- At a batch's other points the body is the tail. -/
theorem body_later (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc : ¬ Scalar.cmpi .ne (Scalar.extui (Scalar.cmpi .eq (BitVec.ofNat 32 (i 1).val) 0#32)) 0#32 = 1#1) :
    cc0_ssd_carry (F := F) i arg2 harg2 arg3 harg3 arg4 harg4 arg5 harg5 arg6 harg6 arg7 harg7 arg8 harg8 arg9 harg9 arg10 harg10 arg11 harg11 arg12 harg12 arg13 harg13 arg14 harg14 arg15 harg15 = tail i arg2 harg2 arg3 harg3 arg4 harg4 arg5 harg5 arg6 harg6 arg7 harg7 arg8 harg8 arg9 harg9 arg10 harg10 arg11 harg11 arg12 harg12 arg13 harg13 arg14 harg14 arg15 harg15 := by
  simp only [cc0_ssd_carry_eq_skeleton]; unfold cc0_ssd_carry_skel
  rw [k0_part96_eq_skeleton]; unfold k0_part96_skel
  rw [k0_part36_eq_skeleton]; unfold k0_part36_skel tail tail36 tail96
  simp only [hc, dite_false, Prog.bind_assoc, bind_assoc, pure_bind]

end Cert.KernelIdeal.Gen

end
-- ==== Proof.IdealPoints.lean ====
module

public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 15) — by arithmetic of the point. -/
theorem hcond0_0 : ∀ t : Fin cfg0.N, cond0_0 (grid0.coords t) ↔ t.val % 15 = 0 :=
  (fun t => by
    have ht : t.val < 30 := Nat.lt_of_lt_of_eq t.isLt N_0
    have e0 : (grid0.coords t 0).val = t.val / 15 % 2 := Pipeline.Grid.coords_val t 0 (by decide) rfl
    have e1 : (grid0.coords t 1).val = t.val / 1 % 15 := Pipeline.Grid.coords_val t 1 (by decide) rfl
    simp only [cond0_0, e0, e1]
    word_cmp
   : ∀ t : Fin grid0.N, cond0_0 (grid0.coords t) ↔ t.val % 15 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x8x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x896x120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x96x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x96x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x896x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x96x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x96 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x896x128 .bf16 := Memref.whole cc0_scratch0
abbrev scM0_1 : Memref sig .tc .vmem S896x128 .f32 := Memref.whole cc0_scratch1
abbrev scM0_2 : Memref sig .tc .vmem S120x128 .f32 := Memref.whole cc0_scratch2
abbrev scM0_3 : Memref sig .tc .vmem S128x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.IdealRun.lean ====
module

public import proofs.«01_k».proof.Proof.IdealSplit
public import proofs.«01_k».proof.Proof.IdealPoints

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5244000 in
/-- The preparation runs, whatever the outputs and the scratch hold, and leaves the inputs as they were. -/
theorem prep_run (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (prep i arg2 harg2 arg3 harg3 arg4 harg4 arg5 harg5 arg6 harg6 arg7 harg7 arg8 harg8 arg9 harg9 arg10 harg10 arg11 harg11 arg12 harg12 arg13 harg13 arg14 harg14 arg15 harg15) K := by
  unfold prep
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 5244000 in
/-- The tail runs, whatever the outputs and the scratch hold, and leaves the inputs as they were. -/
theorem tail_run (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (tail i arg2 harg2 arg3 harg3 arg4 harg4 arg5 harg5 arg6 harg6 arg7 harg7 arg8 harg8 arg9 harg9 arg10 harg10 arg11 harg11 arg12 harg12 arg13 harg13 arg14 harg14 arg15 harg15) K := by
  unfold tail tail36 tail96
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

/-- The body at a batch's first point: the preparation, then the tail. -/
theorem kernelRun0_A (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : cond0_0 i) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_ssd_carry i arg2 harg2 arg3 harg3 arg4 harg4 arg5 harg5 arg6 harg6 arg7 harg7 arg8 harg8 arg9 harg9 arg10 harg10 arg11 harg11 arg12 harg12 arg13 harg13 arg14 harg14 arg15 harg15) K := by
  rw [body_first i arg2 harg2 arg3 harg3 arg4 harg4 arg5 harg5 arg6 harg6 arg7 harg7 arg8 harg8 arg9 harg9 arg10 harg10 arg11 harg11 arg12 harg12 arg13 harg13 arg14 harg14 arg15 harg15 hc0]
  rw [wp_bind]
  iintro ⟨H0, H1, H2, H3, H4, H5, H6, H7, H8, H9, HS0, HS1, HS2, HS3, Hk⟩
  iapply (prep_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  iapply (tail_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

/-- The body at any later point of a batch: the tail alone. -/
theorem kernelRun0_B (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : ¬ cond0_0 i) (x0 : Vec F S1x120 .f32) (x1 : Vec F S1x896x768 .bf16) (x2 : Vec F S1x896x8x128 .bf16) (x3 : Vec F S1x896x120 .f32) (x4 : Vec F S1x8x96x128 .fp8e4m3) (x5 : Vec F S1x8x96 .f32) (x6 : Vec F S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_ssd_carry i arg2 harg2 arg3 harg3 arg4 harg4 arg5 harg5 arg6 harg6 arg7 harg7 arg8 harg8 arg9 harg9 arg10 harg10 arg11 harg11 arg12 harg12 arg13 harg13 arg14 harg14 arg15 harg15) K := by
  rw [body_later i arg2 harg2 arg3 harg3 arg4 harg4 arg5 harg5 arg6 harg6 arg7 harg7 arg8 harg8 arg9 harg9 arg10 harg10 arg11 harg11 arg12 harg12 arg13 harg13 arg14 harg14 arg15 harg15 hc0]
  iintro ⟨H0, H1, H2, H3, H4, H5, H6, H7, H8, H9, HS0, HS1, HS2, HS3, Hk⟩
  iapply (tail_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

end Cert.KernelIdeal.Hand

end
-- ==== Proof.IdealFrame.lean ====
module

public import proofs.«01_k».proof.Proof.IdealRun
public import Idealize.ShloMosaic.Lib.Claim

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 30 := lt_of_lt_of_eq t.isLt (show cfg0.N = 30 from N_0)
  by_cases h0 : t.val % 15 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Head.lean ====
module

public import proofs.«01_k».proof.Proof.Gen.KernelIdeal.Skeleton
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The corrected state of head `h`: the head's last decay times the scaled codes, plus the local state. -/
def headX (off : Fin 2 → ℕ) (hs : Shape.Slices S128x128 off S96x1) (v9 : FVec F S128x128 .f32) (v15 : Vec F S1x128 .f32) (v16 : Vec F S1x1x96x128 .fp8e4m3) (v24 : Vec F S1x1x96x128 .f32) : FVec F S96x128 .f32 :=
  have v17 : FVec F S96x128 .fp8e4m3 := shapeCast S96x128 v16 shapeCasts_S1x1x96x128_S96x128
  have v18 : FVec F S96x128 .f32 := extf .f32 v17 bitsLt_fp8e4m3_f32
  have v19 : FVec F S96x1 .f32 := extractStridedSlice S96x1 off v9 hs
  have v20 : FVec F S96x128 .f32 := broadcastTo S96x128 v19 broadcasts_S96x1_S96x128
  have v21 : FVec F S96x128 .f32 := mulf v18 v20
  have v22 : FVec F S96x128 .f32 := broadcastTo S96x128 v15 broadcasts_S1x128_S96x128
  have v23 : FVec F S96x128 .f32 := mulf v22 v21
  have v25 : FVec F S96x128 .f32 := shapeCast S96x128 v24 shapeCasts_S1x1x96x128_S96x128
  have v26 : FVec F S96x128 .f32 := addf v23 v25
  v26

/-- The row maxima of the absolute values over 448, along each row. -/
def headV (x : FVec F S96x128 .f32) : FVec F S96x128 .f32 :=
  have v27 : FVec F S96x128 .f32 := absf x
  have v28 : FVec F S96 .f32 := multiReduction .maximumf [1] S96 v27 0xFF800000#32 reduces_S96x128_S96 (.inl rfl) rfl
  have v29 : FVec F S96x1 .f32 := shapeCast S96x1 v28 shapeCasts_S96_S96x1
  have v30 : FVec F S96x1 .f32 := shapeCast S96x1 v29 shapeCasts_S96x1_S96x1
  have v31 : FVec F S96x128 .f32 := broadcastTo S96x128 v30 broadcasts_S96x1_S96x128
  have cst_15 : F .f32 := Scalar.ofBits .f32 0x3B124925#32
  have v32 : FVec F S96x128 .f32 := broadcast S96x128 cst_15
  have v33 : FVec F S96x128 .f32 := mulf v31 v32
  v33

/-- The exponent bits found by comparing with the powers of two, one bit at a time, an overflow marked. -/
def headE (v : FVec F S96x128 .f32) : IVec S96x128 32 :=
  have z : IVec S96x128 32 := broadcast S96x128 0#32
  have w0 : IVec S96x128 32 := broadcast S96x128 1073741824#32
  have t0 : IVec S96x128 32 := addi z w0
  have f0 : FVec F S96x128 .f32 := bitcastToFloat .f32 t0
  have c0 : IVec S96x128 1 := cmpf .oge v f0
  have e0 : IVec S96x128 32 := select c0 t0 z
  have w1 : IVec S96x128 32 := broadcast S96x128 536870912#32
  have t1 : IVec S96x128 32 := addi e0 w1
  have f1 : FVec F S96x128 .f32 := bitcastToFloat .f32 t1
  have c1 : IVec S96x128 1 := cmpf .oge v f1
  have e1 : IVec S96x128 32 := select c1 t1 e0
  have w2 : IVec S96x128 32 := broadcast S96x128 268435456#32
  have t2 : IVec S96x128 32 := addi e1 w2
  have f2 : FVec F S96x128 .f32 := bitcastToFloat .f32 t2
  have c2 : IVec S96x128 1 := cmpf .oge v f2
  have e2 : IVec S96x128 32 := select c2 t2 e1
  have w3 : IVec S96x128 32 := broadcast S96x128 134217728#32
  have t3 : IVec S96x128 32 := addi e2 w3
  have f3 : FVec F S96x128 .f32 := bitcastToFloat .f32 t3
  have c3 : IVec S96x128 1 := cmpf .oge v f3
  have e3 : IVec S96x128 32 := select c3 t3 e2
  have w4 : IVec S96x128 32 := broadcast S96x128 67108864#32
  have t4 : IVec S96x128 32 := addi e3 w4
  have f4 : FVec F S96x128 .f32 := bitcastToFloat .f32 t4
  have c4 : IVec S96x128 1 := cmpf .oge v f4
  have e4 : IVec S96x128 32 := select c4 t4 e3
  have w5 : IVec S96x128 32 := broadcast S96x128 33554432#32
  have t5 : IVec S96x128 32 := addi e4 w5
  have f5 : FVec F S96x128 .f32 := bitcastToFloat .f32 t5
  have c5 : IVec S96x128 1 := cmpf .oge v f5
  have e5 : IVec S96x128 32 := select c5 t5 e4
  have w6 : IVec S96x128 32 := broadcast S96x128 16777216#32
  have t6 : IVec S96x128 32 := addi e5 w6
  have f6 : FVec F S96x128 .f32 := bitcastToFloat .f32 t6
  have c6 : IVec S96x128 1 := cmpf .oge v f6
  have e6 : IVec S96x128 32 := select c6 t6 e5
  have w7 : IVec S96x128 32 := broadcast S96x128 8388608#32
  have t7 : IVec S96x128 32 := addi e6 w7
  have f7 : FVec F S96x128 .f32 := bitcastToFloat .f32 t7
  have c7 : IVec S96x128 1 := cmpf .oge v f7
  have e7 : IVec S96x128 32 := select c7 t7 e6
  have b0 : F .f32 := Scalar.ofBits .f32 0x7B800000#32
  have b1 : FVec F S96x128 .f32 := broadcast S96x128 b0
  have b2 : IVec S96x128 1 := cmpf .oge v b1
  have b3 : IVec S96x128 32 := broadcast S96x128 2139095040#32
  have b4 : IVec S96x128 32 := select b2 b3 e7
  b4

/-- The exponent bits, those of one half where they are zero or mark an overflow. -/
def headF (e : IVec S96x128 32) : IVec S96x128 32 :=
  have v79 : IVec S96x128 32 := broadcast S96x128 0#32
  have v80 : IVec S96x128 1 := cmpi .eq e v79
  have v81 : IVec S96x128 32 := broadcast S96x128 2139095040#32
  have v82 : IVec S96x128 1 := cmpi .eq e v81
  have v83 : IVec S96x128 1 := ori v80 v82
  have v84 : IVec S96x128 32 := broadcast S96x128 1056964608#32
  have v85 : IVec S96x128 32 := select v83 v84 e
  v85

/-- The codes of a head from its state and exponent bits. -/
def headCo (x : FVec F S96x128 .f32) (e : IVec S96x128 32) : FVec F S1x1x96x128 .fp8e4m3 :=
  have v86 : IVec S96x128 32 := broadcast S96x128 2122317824#32
  have v87 : IVec S96x128 32 := subi v86 e
  have v88 : FVec F S96x128 .f32 := bitcastToFloat .f32 v87
  have v89 : FVec F S96x128 .f32 := mulf x v88
  have cst_20 : F .f32 := Scalar.ofBits .f32 0xC3E00000#32
  have cst_21 : F .f32 := Scalar.ofBits .f32 0x43E00000#32
  have v90 : FVec F S96x128 .f32 := broadcast S96x128 cst_20
  have v91 : FVec F S96x128 .f32 := maximumf v90 v89
  have v92 : FVec F S96x128 .f32 := broadcast S96x128 cst_21
  have v93 : FVec F S96x128 .f32 := minimumf v92 v91
  have v94 : FVec F S96x128 .fp8e4m3 := truncf .fp8e4m3 v93 bitsLt_fp8e4m3_f32
  have v97 : FVec F S1x1x96x128 .fp8e4m3 := shapeCast S1x1x96x128 v94 shapeCasts_S96x128_S1x1x96x128
  v97

/-- The scales of a head from its exponent bits: the diagonal picked out of the rows. -/
def headSo (e : IVec S96x128 32) : FVec F S1x1x96 .f32 :=
  have v98 : IVec S96x128 1 := cmpi .eq (iota .tc S96x128 32 [1] iota_S96x128_d1_w32) (iota .tc S96x128 32 [0] iota_S96x128_d0_w32)
  have v99 : IVec S96x128 32 := broadcast S96x128 8388608#32
  have v100 : IVec S96x128 32 := addi e v99
  have v101 : IVec S96x128 32 := broadcast S96x128 0#32
  have v102 : IVec S96x128 32 := select v98 v100 v101
  have v103 : IVec S128 32 := multiReductionI .add [0] S128 v102 0#32 reduces_S96x128_S128 rfl
  have v104 : IVec S1x128 32 := shapeCast S1x128 v103 shapeCasts_S128_S1x128
  have v105 : FVec F S1x128 .f32 := bitcastToFloat .f32 v104
  have v106 : FVec F S1x96 .f32 := extractStridedSlice S1x96 ![0, 0] v105 slices_S1x128_o0_0_S1x96
  have v109 : FVec F S1x1x96 .f32 := shapeCast S1x1x96 v106 shapeCasts_S1x96_S1x1x96
  v109

theorem head_co_0 (v3 : Vec F S1x8x96 .f32) (v15 : Vec F S1x128 .f32) (v16 : Vec F S1x1x96x128 .fp8e4m3) (v24 : Vec F S1x1x96x128 .f32) :
    (k0_pay172 (k0_pay166 v3 v15 v16 v24) (k0_pay169 (k0_pay167 v3 v15 v16 v24) k0_pay168 1073741824#32) (k0_pay170 (k0_pay167 v3 v15 v16 v24) k0_pay168 1073741824#32) : FVec F S1x1x96x128 .fp8e4m3)
      = headCo (headX ![0, 0] slices_S128x128_o0_0_S96x1 (k0_pay165 v3) v15 v16 v24) (headF (headE (headV (headX ![0, 0] slices_S128x128_o0_0_S96x1 (k0_pay165 v3) v15 v16 v24)))) := rfl
theorem head_so_0 (v3 : Vec F S1x8x96 .f32) (v15 : Vec F S1x128 .f32) (v16 : Vec F S1x1x96x128 .fp8e4m3) (v24 : Vec F S1x1x96x128 .f32) :
    (k0_pay173 (iota .tc S96x128 32 [1] iota_S96x128_d1_w32) (iota .tc S96x128 32 [0] iota_S96x128_d0_w32) (k0_pay169 (k0_pay167 v3 v15 v16 v24) k0_pay168 1073741824#32) (k0_pay170 (k0_pay167 v3 v15 v16 v24) k0_pay168 1073741824#32) : FVec F S1x1x96 .f32)
      = headSo (headF (headE (headV (headX ![0, 0] slices_S128x128_o0_0_S96x1 (k0_pay165 v3) v15 v16 v24)))) := rfl

theorem head_co_1 (v3 : Vec F S1x8x96 .f32) (v15 : Vec F S1x128 .f32) (v16 : Vec F S1x1x96x128 .fp8e4m3) (v24 : Vec F S1x1x96x128 .f32) :
    (k0_pay182 (k0_pay176 (k0_pay174 (k0_pay165 v3) v16) (k0_pay175 v15) v24) (k0_pay177 (k0_pay174 (k0_pay165 v3) v16) (k0_pay175 v15) v24) (k0_pay178 (k0_pay174 (k0_pay165 v3) v16) (k0_pay175 v15) v24) (k0_pay179 (k0_pay174 (k0_pay165 v3) v16) (k0_pay175 v15) v24) (k0_pay180 (k0_pay174 (k0_pay165 v3) v16) (k0_pay175 v15) v24) : FVec F S1x1x96x128 .fp8e4m3)
      = headCo (headX ![0, 1] slices_S128x128_o0_1_S96x1 (k0_pay165 v3) v15 v16 v24) (headF (headE (headV (headX ![0, 1] slices_S128x128_o0_1_S96x1 (k0_pay165 v3) v15 v16 v24)))) := rfl
theorem head_so_1 (v3 : Vec F S1x8x96 .f32) (v15 : Vec F S1x128 .f32) (v16 : Vec F S1x1x96x128 .fp8e4m3) (v24 : Vec F S1x1x96x128 .f32) :
    (k0_pay184 (k0_pay183 (iota .tc S96x128 32 [1] iota_S96x128_d1_w32) (iota .tc S96x128 32 [0] iota_S96x128_d0_w32) (k0_pay177 (k0_pay174 (k0_pay165 v3) v16) (k0_pay175 v15) v24) (k0_pay178 (k0_pay174 (k0_pay165 v3) v16) (k0_pay175 v15) v24) (k0_pay179 (k0_pay174 (k0_pay165 v3) v16) (k0_pay175 v15) v24) (k0_pay180 (k0_pay174 (k0_pay165 v3) v16) (k0_pay175 v15) v24)) : FVec F S1x1x96 .f32)
      = headSo (headF (headE (headV (headX ![0, 1] slices_S128x128_o0_1_S96x1 (k0_pay165 v3) v15 v16 v24)))) := rfl

theorem head_co_2 (v3 : Vec F S1x8x96 .f32) (v15 : Vec F S1x128 .f32) (v16 : Vec F S1x1x96x128 .fp8e4m3) (v24 : Vec F S1x1x96x128 .f32) :
    (k0_pay191 (k0_pay190 (k0_pay185 (k0_pay165 v3) v15 v16 v24) (k0_pay186 (k0_pay165 v3) v15 v16 v24) (k0_pay187 (k0_pay165 v3) v15 v16 v24) (k0_pay188 (k0_pay165 v3) v15 v16 v24)) : FVec F S1x1x96x128 .fp8e4m3)
      = headCo (headX ![0, 2] slices_S128x128_o0_2_S96x1 (k0_pay165 v3) v15 v16 v24) (headF (headE (headV (headX ![0, 2] slices_S128x128_o0_2_S96x1 (k0_pay165 v3) v15 v16 v24)))) := rfl
theorem head_so_2 (v3 : Vec F S1x8x96 .f32) (v15 : Vec F S1x128 .f32) (v16 : Vec F S1x1x96x128 .fp8e4m3) (v24 : Vec F S1x1x96x128 .f32) :
    (k0_pay192 (iota .tc S96x128 32 [1] iota_S96x128_d1_w32) (iota .tc S96x128 32 [0] iota_S96x128_d0_w32) (k0_pay189 (k0_pay186 (k0_pay165 v3) v15 v16 v24) (k0_pay187 (k0_pay165 v3) v15 v16 v24) (k0_pay188 (k0_pay165 v3) v15 v16 v24)) : FVec F S1x1x96 .f32)
      = headSo (headF (headE (headV (headX ![0, 2] slices_S128x128_o0_2_S96x1 (k0_pay165 v3) v15 v16 v24)))) := rfl

theorem head_co_3 (v3 : Vec F S1x8x96 .f32) (v15 : Vec F S1x128 .f32) (v16 : Vec F S1x1x96x128 .fp8e4m3) (v24 : Vec F S1x1x96x128 .f32) :
    (k0_pay199 (k0_pay193 (k0_pay165 v3) v15 v16 v24) (k0_pay196 (k0_pay194 (k0_pay165 v3) v15 v16 v24) k0_pay195 1073741824#32) (k0_pay197 (k0_pay194 (k0_pay165 v3) v15 v16 v24) k0_pay195 1073741824#32) : FVec F S1x1x96x128 .fp8e4m3)
      = headCo (headX ![0, 3] slices_S128x128_o0_3_S96x1 (k0_pay165 v3) v15 v16 v24) (headF (headE (headV (headX ![0, 3] slices_S128x128_o0_3_S96x1 (k0_pay165 v3) v15 v16 v24)))) := rfl
theorem head_so_3 (v3 : Vec F S1x8x96 .f32) (v15 : Vec F S1x128 .f32) (v16 : Vec F S1x1x96x128 .fp8e4m3) (v24 : Vec F S1x1x96x128 .f32) :
    (k0_pay200 (iota .tc S96x128 32 [1] iota_S96x128_d1_w32) (iota .tc S96x128 32 [0] iota_S96x128_d0_w32) (k0_pay196 (k0_pay194 (k0_pay165 v3) v15 v16 v24) k0_pay195 1073741824#32) (k0_pay197 (k0_pay194 (k0_pay165 v3) v15 v16 v24) k0_pay195 1073741824#32) : FVec F S1x1x96 .f32)
      = headSo (headF (headE (headV (headX ![0, 3] slices_S128x128_o0_3_S96x1 (k0_pay165 v3) v15 v16 v24)))) := rfl

theorem head_co_4 (v3 : Vec F S1x8x96 .f32) (v15 : Vec F S1x128 .f32) (v16 : Vec F S1x1x96x128 .fp8e4m3) (v24 : Vec F S1x1x96x128 .f32) :
    (k0_pay209 (k0_pay203 (k0_pay201 (k0_pay165 v3) v16) (k0_pay202 v15) v24) (k0_pay204 (k0_pay201 (k0_pay165 v3) v16) (k0_pay202 v15) v24) (k0_pay205 (k0_pay201 (k0_pay165 v3) v16) (k0_pay202 v15) v24) (k0_pay206 (k0_pay201 (k0_pay165 v3) v16) (k0_pay202 v15) v24) (k0_pay207 (k0_pay201 (k0_pay165 v3) v16) (k0_pay202 v15) v24) : FVec F S1x1x96x128 .fp8e4m3)
      = headCo (headX ![0, 4] slices_S128x128_o0_4_S96x1 (k0_pay165 v3) v15 v16 v24) (headF (headE (headV (headX ![0, 4] slices_S128x128_o0_4_S96x1 (k0_pay165 v3) v15 v16 v24)))) := rfl
theorem head_so_4 (v3 : Vec F S1x8x96 .f32) (v15 : Vec F S1x128 .f32) (v16 : Vec F S1x1x96x128 .fp8e4m3) (v24 : Vec F S1x1x96x128 .f32) :
    (k0_pay211 (k0_pay210 (iota .tc S96x128 32 [1] iota_S96x128_d1_w32) (iota .tc S96x128 32 [0] iota_S96x128_d0_w32) (k0_pay204 (k0_pay201 (k0_pay165 v3) v16) (k0_pay202 v15) v24) (k0_pay205 (k0_pay201 (k0_pay165 v3) v16) (k0_pay202 v15) v24) (k0_pay206 (k0_pay201 (k0_pay165 v3) v16) (k0_pay202 v15) v24) (k0_pay207 (k0_pay201 (k0_pay165 v3) v16) (k0_pay202 v15) v24)) : FVec F S1x1x96 .f32)
      = headSo (headF (headE (headV (headX ![0, 4] slices_S128x128_o0_4_S96x1 (k0_pay165 v3) v15 v16 v24)))) := rfl

theorem head_co_5 (v3 : Vec F S1x8x96 .f32) (v15 : Vec F S1x128 .f32) (v16 : Vec F S1x1x96x128 .fp8e4m3) (v24 : Vec F S1x1x96x128 .f32) :
    (k0_pay218 (k0_pay217 (k0_pay212 (k0_pay165 v3) v15 v16 v24) (k0_pay213 (k0_pay165 v3) v15 v16 v24) (k0_pay214 (k0_pay165 v3) v15 v16 v24) (k0_pay215 (k0_pay165 v3) v15 v16 v24)) : FVec F S1x1x96x128 .fp8e4m3)
      = headCo (headX ![0, 5] slices_S128x128_o0_5_S96x1 (k0_pay165 v3) v15 v16 v24) (headF (headE (headV (headX ![0, 5] slices_S128x128_o0_5_S96x1 (k0_pay165 v3) v15 v16 v24)))) := rfl
theorem head_so_5 (v3 : Vec F S1x8x96 .f32) (v15 : Vec F S1x128 .f32) (v16 : Vec F S1x1x96x128 .fp8e4m3) (v24 : Vec F S1x1x96x128 .f32) :
    (k0_pay219 (iota .tc S96x128 32 [1] iota_S96x128_d1_w32) (iota .tc S96x128 32 [0] iota_S96x128_d0_w32) (k0_pay216 (k0_pay213 (k0_pay165 v3) v15 v16 v24) (k0_pay214 (k0_pay165 v3) v15 v16 v24) (k0_pay215 (k0_pay165 v3) v15 v16 v24)) : FVec F S1x1x96 .f32)
      = headSo (headF (headE (headV (headX ![0, 5] slices_S128x128_o0_5_S96x1 (k0_pay165 v3) v15 v16 v24)))) := rfl

theorem head_co_6 (v3 : Vec F S1x8x96 .f32) (v15 : Vec F S1x128 .f32) (v16 : Vec F S1x1x96x128 .fp8e4m3) (v24 : Vec F S1x1x96x128 .f32) :
    (k0_pay226 (k0_pay220 (k0_pay165 v3) v15 v16 v24) (k0_pay223 (k0_pay221 (k0_pay165 v3) v15 v16 v24) k0_pay222 1073741824#32) (k0_pay224 (k0_pay221 (k0_pay165 v3) v15 v16 v24) k0_pay222 1073741824#32) : FVec F S1x1x96x128 .fp8e4m3)
      = headCo (headX ![0, 6] slices_S128x128_o0_6_S96x1 (k0_pay165 v3) v15 v16 v24) (headF (headE (headV (headX ![0, 6] slices_S128x128_o0_6_S96x1 (k0_pay165 v3) v15 v16 v24)))) := rfl
theorem head_so_6 (v3 : Vec F S1x8x96 .f32) (v15 : Vec F S1x128 .f32) (v16 : Vec F S1x1x96x128 .fp8e4m3) (v24 : Vec F S1x1x96x128 .f32) :
    (k0_pay227 (iota .tc S96x128 32 [1] iota_S96x128_d1_w32) (iota .tc S96x128 32 [0] iota_S96x128_d0_w32) (k0_pay223 (k0_pay221 (k0_pay165 v3) v15 v16 v24) k0_pay222 1073741824#32) (k0_pay224 (k0_pay221 (k0_pay165 v3) v15 v16 v24) k0_pay222 1073741824#32) : FVec F S1x1x96 .f32)
      = headSo (headF (headE (headV (headX ![0, 6] slices_S128x128_o0_6_S96x1 (k0_pay165 v3) v15 v16 v24)))) := rfl

theorem head_co_7 (v3 : Vec F S1x8x96 .f32) (v15 : Vec F S1x128 .f32) (v16 : Vec F S1x1x96x128 .fp8e4m3) (v24 : Vec F S1x1x96x128 .f32) :
    (k0_pay236 (k0_pay230 (k0_pay228 (k0_pay165 v3) v16) (k0_pay229 v15) v24) (k0_pay231 (k0_pay228 (k0_pay165 v3) v16) (k0_pay229 v15) v24) (k0_pay232 (k0_pay228 (k0_pay165 v3) v16) (k0_pay229 v15) v24) (k0_pay233 (k0_pay228 (k0_pay165 v3) v16) (k0_pay229 v15) v24) (k0_pay234 (k0_pay228 (k0_pay165 v3) v16) (k0_pay229 v15) v24) : FVec F S1x1x96x128 .fp8e4m3)
      = headCo (headX ![0, 7] slices_S128x128_o0_7_S96x1 (k0_pay165 v3) v15 v16 v24) (headF (headE (headV (headX ![0, 7] slices_S128x128_o0_7_S96x1 (k0_pay165 v3) v15 v16 v24)))) := rfl
theorem head_so_7 (v3 : Vec F S1x8x96 .f32) (v15 : Vec F S1x128 .f32) (v16 : Vec F S1x1x96x128 .fp8e4m3) (v24 : Vec F S1x1x96x128 .f32) :
    (k0_pay238 (k0_pay237 (iota .tc S96x128 32 [1] iota_S96x128_d1_w32) (iota .tc S96x128 32 [0] iota_S96x128_d0_w32) (k0_pay231 (k0_pay228 (k0_pay165 v3) v16) (k0_pay229 v15) v24) (k0_pay232 (k0_pay228 (k0_pay165 v3) v16) (k0_pay229 v15) v24) (k0_pay233 (k0_pay228 (k0_pay165 v3) v16) (k0_pay229 v15) v24) (k0_pay234 (k0_pay228 (k0_pay165 v3) v16) (k0_pay229 v15) v24)) : FVec F S1x1x96 .f32)
      = headSo (headF (headE (headV (headX ![0, 7] slices_S128x128_o0_7_S96x1 (k0_pay165 v3) v15 v16 v24)))) := rfl

end Cert.KernelIdeal.Hand

end
-- ==== Proof.Exponent.lean ====
module

public import proofs.«01_k».proof.Proof.Head
public import Idealize.ShloMosaic.Lib.WordCmp
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- The power of two that the exponent field `k` stands for; zero below the normal range, infinite above it. -/
def powAt (k : ℕ) : EReal := if k = 0 then 0 else if k = 255 then ⊤ else (((2 : ℝ) ^ ((k : ℤ) - 127) : ℝ) : EReal)

theorem powAt_of (n : ℕ) (ha : 1 ≤ n) (hb : n ≤ 254) : powAt n = (((2 : ℝ) ^ ((n : ℤ) - 127) : ℝ) : EReal) := by
  unfold powAt
  rw [if_neg (by omega), if_neg (by omega)]

/-- A word with the exponent field `k` and nothing else denotes that power of two. -/
theorem ofBits_exp : ∀ k : ℕ, k < 256 → Ideal.ofBits .f32 (BitVec.ofNat 32 (k * 8388608)) = powAt k := by
  intro k hk
  have h1 : ∀ k : Fin 256, ((BitVec.ofNat 32 (k.val * 8388608)).extractLsb' 31 1 == 1#1) = false ∧ ((BitVec.ofNat 32 (k.val * 8388608)).extractLsb' 23 8).toNat = k.val
      ∧ ((BitVec.ofNat 32 (k.val * 8388608)).extractLsb' 0 23).toNat = 0 := by decide
  obtain ⟨ha, hb, hc⟩ := h1 ⟨k, hk⟩
  simp only [] at ha hb hc
  simp only [Ideal.ofBits, Ideal.ieee, powAt]
  norm_num [ha, hb, hc]
  try rw [show (8388608 : ℝ) = (2 : ℝ) ^ 23 by norm_num]
  by_cases h0 : k = 0
  · subst h0; simp
  by_cases h5 : k = 255
  · subst h5; simp
  simp only [h0, h5, if_false]
  rw [← EReal.coe_mul, ← zpow_natCast, ← zpow_add₀ (by norm_num)]
  congr 2
  push_cast
  ring

/-- One step of the search: the bit is kept where the value is not below the power it makes. -/
def expStep (v : EReal) (e w : BitVec 32) : BitVec 32 :=
  Scalar.select (Ideal.cmp .oge v (Ideal.ofBits .f32 (IntOp.addi e w))) (IntOp.addi e w) e

/-- The search over the eight exponent bits. -/
def expSearch (v : EReal) : BitVec 32 :=
  expStep v (expStep v (expStep v (expStep v (expStep v (expStep v (expStep v (expStep v 0#32 1073741824#32) 536870912#32) 268435456#32) 134217728#32) 67108864#32) 33554432#32) 16777216#32) 8388608#32

/-- The word kept for an exponent word: that of one half for the zero and the overflow mark. -/
def expKeep (g : BitVec 32) : BitVec 32 :=
  Scalar.select (IntOp.ori (IntOp.cmpi .eq g 0#32) (IntOp.cmpi .eq g 2139095040#32)) 1056964608#32 g

/-- The exponent word found for a value. -/
def expWord (v : EReal) : BitVec 32 :=
  expKeep (Scalar.select (Ideal.cmp .oge v (Ideal.ofBits .f32 0x7B800000#32)) 2139095040#32 (expSearch v))

theorem expStep_spec (v : EReal) (e : BitVec 32) (k w : ℕ) (hw : k + 2 * w ≤ 256) (w0 : 0 < w) (he : e = BitVec.ofNat 32 (k * 8388608))
    (W : BitVec 32) (hW : W = BitVec.ofNat 32 (w * 8388608)) (lo : k = 0 ∨ powAt k ≤ v) (hi : k + 2 * w = 256 ∨ v < powAt (k + 2 * w)) :
    ∃ k', k' + w ≤ 256 ∧ expStep v e W = BitVec.ofNat 32 (k' * 8388608) ∧ (k' = 0 ∨ powAt k' ≤ v) ∧ (k' + w = 256 ∨ v < powAt (k' + w)) := by
  subst he hW
  have e1 : IntOp.addi (BitVec.ofNat 32 (k * 8388608)) (BitVec.ofNat 32 (w * 8388608)) = BitVec.ofNat 32 ((k + w) * 8388608) := by
    rw [add_mul]; exact (BitVec.ofNat_add _ _).symm
  unfold expStep
  rw [e1, ofBits_exp _ (by omega)]
  by_cases h : powAt (k + w) ≤ v
  · refine ⟨k + w, by omega, ?_, Or.inr h, ?_⟩
    · simp [Ideal.cmp, h, Scalar.select]
    · rw [show k + w + w = k + 2 * w by omega]; exact hi
  · refine ⟨k, by omega, ?_, lo, Or.inr (not_le.mp h)⟩
    simp [Ideal.cmp, h, Scalar.select]

/-- The exponent word: the value's own power of two within the range the search keeps, that of one half elsewhere. -/
theorem expWord_spec (v : EReal) : ∃ k : ℕ, 1 ≤ k ∧ k ≤ 246 ∧ expWord v = BitVec.ofNat 32 (k * 8388608)
    ∧ ((powAt k ≤ v ∧ v < powAt (k + 1)) ∨ (k = 126 ∧ (v < powAt 1 ∨ powAt 247 ≤ v))) := by
  obtain ⟨k0, b0, q0, l0, h0⟩ := expStep_spec v 0#32 0 128 (by norm_num) (by norm_num) rfl 1073741824#32 rfl (Or.inl rfl) (Or.inl rfl)
  obtain ⟨k1, b1, q1, l1, h1⟩ := expStep_spec v _ k0 64 (by omega) (by norm_num) rfl 536870912#32 rfl l0 (by simpa only [Nat.reduceMul] using h0)
  obtain ⟨k2, b2, q2, l2, h2⟩ := expStep_spec v _ k1 32 (by omega) (by norm_num) rfl 268435456#32 rfl l1 (by simpa only [Nat.reduceMul] using h1)
  obtain ⟨k3, b3, q3, l3, h3⟩ := expStep_spec v _ k2 16 (by omega) (by norm_num) rfl 134217728#32 rfl l2 (by simpa only [Nat.reduceMul] using h2)
  obtain ⟨k4, b4, q4, l4, h4⟩ := expStep_spec v _ k3 8 (by omega) (by norm_num) rfl 67108864#32 rfl l3 (by simpa only [Nat.reduceMul] using h3)
  obtain ⟨k5, b5, q5, l5, h5⟩ := expStep_spec v _ k4 4 (by omega) (by norm_num) rfl 33554432#32 rfl l4 (by simpa only [Nat.reduceMul] using h4)
  obtain ⟨k6, b6, q6, l6, h6⟩ := expStep_spec v _ k5 2 (by omega) (by norm_num) rfl 16777216#32 rfl l5 (by simpa only [Nat.reduceMul] using h5)
  obtain ⟨k7, b7, q7, l7, h7⟩ := expStep_spec v _ k6 1 (by omega) (by norm_num) rfl 8388608#32 rfl l6 (by simpa only [Nat.reduceMul] using h6)
  unfold expWord expSearch expKeep
  simp only [q0, q1, q2, q3, q4, q5, q6, q7]
  clear q0 q1 q2 q3 q4 q5 q6 q7 l0 l1 l2 l3 l4 l5 l6 h0 h1 h2 h3 h4 h5 h6 b0 b1 b2 b3 b4 b5 b6
  rw [show Ideal.ofBits .f32 0x7B800000#32 = powAt 247 from ofBits_exp 247 (by norm_num)]
  by_cases hv : powAt 247 ≤ v
  · refine ⟨126, by norm_num, by norm_num, ?_, Or.inr ⟨rfl, Or.inr hv⟩⟩
    simp [Ideal.cmp, hv, Scalar.select, IntOp.cmpi, IntOp.ori]
  have hv' := not_le.mp hv
  have hk : k7 < 247 := by
    by_contra hc
    rcases l7 with hz | hl
    · omega
    · refine hv (le_trans ?_ hl)
      by_cases h5 : k7 = 255
      · subst h5; exact le_top
      · have g1 : 1 ≤ k7 := by omega
        have g2 : k7 ≤ 254 := by omega
        rw [powAt_of k7 g1 g2, powAt_of 247 (by norm_num) (by norm_num), EReal.coe_le_coe_iff]
        exact zpow_le_zpow_right₀ (by norm_num) (by push_cast; omega)
  by_cases hz : k7 = 0
  · subst hz
    refine ⟨126, by norm_num, by norm_num, ?_, Or.inr ⟨rfl, Or.inl ?_⟩⟩
    · simp [Ideal.cmp, hv, Scalar.select, IntOp.cmpi, IntOp.ori]
    · simpa using h7
  · refine ⟨k7, by omega, by omega, ?_, Or.inl ⟨?_, ?_⟩⟩
    · have n0 : ∀ k : Fin 247, k ≠ 0 → ¬ (BitVec.ofNat 32 (k.val * 8388608) = 0#32) ∧ ¬ (BitVec.ofNat 32 (k.val * 8388608) = 2139095040#32) := by decide
      obtain ⟨a, b⟩ := n0 ⟨k7, hk⟩ (by simpa [Fin.ext_iff] using hz)
      simp only [] at a b
      have a' : (BitVec.ofNat 32 (k7 * 8388608) == 0#32) = false := by simpa using a
      have b' : (BitVec.ofNat 32 (k7 * 8388608) == 2139095040#32) = false := by simpa using b
      simp [Ideal.cmp, hv, Scalar.select, IntOp.cmpi, IntOp.ori, a', b']
    · rcases l7 with h | h
      · exact absurd h hz
      · exact h
    · rcases h7 with h | h
      · omega
      · exact h

/-- The scale of a value: the power of two above it. -/
def scaleOf (v : EReal) : EReal := Ideal.ofBits .f32 (IntOp.addi (expWord v) 8388608#32)
/-- The scale's inverse. -/
def invOf (v : EReal) : EReal := Ideal.ofBits .f32 (IntOp.subi 2122317824#32 (expWord v))

theorem scale_spec (v : EReal) : ∃ e : ℤ, -125 ≤ e ∧ e ≤ 120 ∧ scaleOf v = (((2 : ℝ) ^ e : ℝ) : EReal) ∧ invOf v = (((2 : ℝ) ^ (-e) : ℝ) : EReal)
    ∧ (((((2 : ℝ) ^ (e - 1) : ℝ) : EReal) ≤ v ∧ v < (((2 : ℝ) ^ e : ℝ) : EReal)) ∨ (e = 0 ∧ (v < (((2 : ℝ) ^ (-126 : ℤ) : ℝ) : EReal) ∨ (((2 : ℝ) ^ (120 : ℤ) : ℝ) : EReal) ≤ v))) := by
  obtain ⟨k, h1, h2, hw, hv⟩ := expWord_spec v
  have e1 : IntOp.addi (BitVec.ofNat 32 (k * 8388608)) 8388608#32 = BitVec.ofNat 32 ((k + 1) * 8388608) := by
    rw [add_mul]; exact (BitVec.ofNat_add _ _).symm
  have e2' : ∀ k : Fin 254, IntOp.subi 2122317824#32 (BitVec.ofNat 32 (k.val * 8388608)) = BitVec.ofNat 32 ((253 - k.val) * 8388608) := by decide
  have e2 := e2' ⟨k, by omega⟩
  simp only [] at e2
  have pw := powAt_of
  refine ⟨(k : ℤ) - 126, by omega, by omega, ?_, ?_, ?_⟩
  · unfold scaleOf
    rw [hw, e1, ofBits_exp _ (by omega), pw _ (by omega) (by omega)]
    congr 2; push_cast; ring
  · unfold invOf
    rw [hw, e2, ofBits_exp _ (by omega), pw _ (by omega) (by omega)]
    congr 2; rw [Nat.cast_sub (by omega)]; push_cast; ring
  · rcases hv with ⟨ha, hb⟩ | ⟨hk, hb⟩
    · left
      rw [pw _ (by omega) (by omega)] at ha hb
      refine ⟨?_, ?_⟩
      · convert ha using 3; ring
      · convert hb using 3; push_cast; ring
    · right
      subst hk
      refine ⟨by norm_num, ?_⟩
      rw [pw _ (by norm_num) (by norm_num), pw _ (by norm_num) (by norm_num)] at hb
      norm_num at hb ⊢
      exact hb

end Cert.KernelIdeal.Hand

end
-- ==== Proof.HeadValue.lean ====
module

public import proofs.«01_k».proof.Proof.Head
public import proofs.«01_k».proof.Proof.Exponent
public import Idealize.ShloMosaic.Lib.WordCmp
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- One step of the search on a whole vector. -/
def vecStep (v : FVec Ideal S96x128 .f32) (e : IVec S96x128 32) (w : BitVec 32) : IVec S96x128 32 :=
  select (cmpf .oge v (bitcastToFloat .f32 (addi e (broadcast S96x128 w)))) (addi e (broadcast S96x128 w)) e

theorem vecStep_apply (v : FVec Ideal S96x128 .f32) (e : IVec S96x128 32) (w : BitVec 32) (i : S96x128.Idx) :
    vecStep v e w i = expStep (v i) (e i) w := rfl

theorem headE_eq (v : FVec Ideal S96x128 .f32) : headE v = select (cmpf .oge v (broadcast S96x128 (Scalar.ofBits .f32 0x7B800000#32)))
    (broadcast S96x128 2139095040#32) (vecStep v (vecStep v (vecStep v (vecStep v (vecStep v (vecStep v (vecStep v (vecStep v (broadcast S96x128 0#32) 1073741824#32) 536870912#32) 268435456#32) 134217728#32) 67108864#32) 33554432#32) 16777216#32) 8388608#32) := rfl

theorem headF_apply_gen (e : IVec S96x128 32) (i : S96x128.Idx) : headF e i = expKeep (e i) := rfl

theorem sel_apply (v : FVec Ideal S96x128 .f32) (e : IVec S96x128 32) (i : S96x128.Idx) : select (cmpf .oge v (broadcast S96x128 (Scalar.ofBits .f32 0x7B800000#32)))
    (broadcast S96x128 2139095040#32) e i = Scalar.select (Ideal.cmp .oge (v i) (Ideal.ofBits .f32 0x7B800000#32)) 2139095040#32 (e i) := rfl

theorem zero_apply (i : S96x128.Idx) : broadcast S96x128 0#32 i = 0#32 := rfl

theorem chain0 (v : FVec Ideal S96x128 .f32) (i : S96x128.Idx) : (vecStep v (broadcast S96x128 0#32) 1073741824#32) i = (expStep (v i) 0#32 1073741824#32) :=
  (vecStep_apply v _ 1073741824#32 i).trans (congrArg (fun e => expStep (v i) e 1073741824#32) (zero_apply i))
theorem chain1 (v : FVec Ideal S96x128 .f32) (i : S96x128.Idx) : (vecStep v (vecStep v (broadcast S96x128 0#32) 1073741824#32) 536870912#32) i = (expStep (v i) (expStep (v i) 0#32 1073741824#32) 536870912#32) :=
  (vecStep_apply v _ 536870912#32 i).trans (congrArg (fun e => expStep (v i) e 536870912#32) (chain0 v i))
theorem chain2 (v : FVec Ideal S96x128 .f32) (i : S96x128.Idx) : (vecStep v (vecStep v (vecStep v (broadcast S96x128 0#32) 1073741824#32) 536870912#32) 268435456#32) i = (expStep (v i) (expStep (v i) (expStep (v i) 0#32 1073741824#32) 536870912#32) 268435456#32) :=
  (vecStep_apply v _ 268435456#32 i).trans (congrArg (fun e => expStep (v i) e 268435456#32) (chain1 v i))
theorem chain3 (v : FVec Ideal S96x128 .f32) (i : S96x128.Idx) : (vecStep v (vecStep v (vecStep v (vecStep v (broadcast S96x128 0#32) 1073741824#32) 536870912#32) 268435456#32) 134217728#32) i = (expStep (v i) (expStep (v i) (expStep (v i) (expStep (v i) 0#32 1073741824#32) 536870912#32) 268435456#32) 134217728#32) :=
  (vecStep_apply v _ 134217728#32 i).trans (congrArg (fun e => expStep (v i) e 134217728#32) (chain2 v i))
theorem chain4 (v : FVec Ideal S96x128 .f32) (i : S96x128.Idx) : (vecStep v (vecStep v (vecStep v (vecStep v (vecStep v (broadcast S96x128 0#32) 1073741824#32) 536870912#32) 268435456#32) 134217728#32) 67108864#32) i = (expStep (v i) (expStep (v i) (expStep (v i) (expStep (v i) (expStep (v i) 0#32 1073741824#32) 536870912#32) 268435456#32) 134217728#32) 67108864#32) :=
  (vecStep_apply v _ 67108864#32 i).trans (congrArg (fun e => expStep (v i) e 67108864#32) (chain3 v i))
theorem chain5 (v : FVec Ideal S96x128 .f32) (i : S96x128.Idx) : (vecStep v (vecStep v (vecStep v (vecStep v (vecStep v (vecStep v (broadcast S96x128 0#32) 1073741824#32) 536870912#32) 268435456#32) 134217728#32) 67108864#32) 33554432#32) i = (expStep (v i) (expStep (v i) (expStep (v i) (expStep (v i) (expStep (v i) (expStep (v i) 0#32 1073741824#32) 536870912#32) 268435456#32) 134217728#32) 67108864#32) 33554432#32) :=
  (vecStep_apply v _ 33554432#32 i).trans (congrArg (fun e => expStep (v i) e 33554432#32) (chain4 v i))
theorem chain6 (v : FVec Ideal S96x128 .f32) (i : S96x128.Idx) : (vecStep v (vecStep v (vecStep v (vecStep v (vecStep v (vecStep v (vecStep v (broadcast S96x128 0#32) 1073741824#32) 536870912#32) 268435456#32) 134217728#32) 67108864#32) 33554432#32) 16777216#32) i = (expStep (v i) (expStep (v i) (expStep (v i) (expStep (v i) (expStep (v i) (expStep (v i) (expStep (v i) 0#32 1073741824#32) 536870912#32) 268435456#32) 134217728#32) 67108864#32) 33554432#32) 16777216#32) :=
  (vecStep_apply v _ 16777216#32 i).trans (congrArg (fun e => expStep (v i) e 16777216#32) (chain5 v i))
theorem chain7 (v : FVec Ideal S96x128 .f32) (i : S96x128.Idx) : (vecStep v (vecStep v (vecStep v (vecStep v (vecStep v (vecStep v (vecStep v (vecStep v (broadcast S96x128 0#32) 1073741824#32) 536870912#32) 268435456#32) 134217728#32) 67108864#32) 33554432#32) 16777216#32) 8388608#32) i = (expStep (v i) (expStep (v i) (expStep (v i) (expStep (v i) (expStep (v i) (expStep (v i) (expStep (v i) (expStep (v i) 0#32 1073741824#32) 536870912#32) 268435456#32) 134217728#32) 67108864#32) 33554432#32) 16777216#32) 8388608#32) :=
  (vecStep_apply v _ 8388608#32 i).trans (congrArg (fun e => expStep (v i) e 8388608#32) (chain6 v i))

theorem headF_apply (v : FVec Ideal S96x128 .f32) (i : S96x128.Idx) : headF (headE v) i = expWord (v i) := by
  have h : headE v i = Scalar.select (Ideal.cmp .oge (v i) (Ideal.ofBits .f32 0x7B800000#32)) 2139095040#32 (expSearch (v i)) :=
    (congrFun (headE_eq v) i).trans ((sel_apply v _ i).trans (congrArg (fun e => Scalar.select (Ideal.cmp .oge (v i) (Ideal.ofBits .f32 0x7B800000#32)) 2139095040#32 e) (chain7 v i)))
  exact (headF_apply_gen _ i).trans (congrArg expKeep h)

theorem headV_apply (x : FVec Ideal S96x128 .f32) (a : Fin 96) (d : Fin 128) :
    headV x (ix2 a d) = Finset.fold max (Ideal.ofBits .f32 4286578688#32) (fun k => FloatOps.absf (F := Ideal) (x (ix2 a k))) (Finset.univ : Finset (Fin 128)) * Ideal.ofBits .f32 991054117#32 := by
  pointwise [headV]
/-- The codes of a head before their shape is widened. -/
def headQ (x : FVec Ideal S96x128 .f32) (e : IVec S96x128 32) : FVec Ideal S96x128 .fp8e4m3 :=
  truncf .fp8e4m3 (minimumf (broadcast S96x128 (Scalar.ofBits .f32 0x43E00000#32)) (maximumf (broadcast S96x128 (Scalar.ofBits .f32 0xC3E00000#32))
    (mulf x (bitcastToFloat .f32 (subi (broadcast S96x128 2122317824#32) e))))) bitsLt_fp8e4m3_f32

theorem scalar_ofBits_f32 (b : BitVec 32) : Scalar.ofBits (F := Ideal) .f32 b = Ideal.ofBits .f32 b := rfl

theorem subC_apply (e : IVec S96x128 32) (i : S96x128.Idx) : subi (broadcast S96x128 2122317824#32) e i = IntOp.subi 2122317824#32 (e i) := rfl

theorem castW_apply (w : IVec S96x128 32) (i : S96x128.Idx) : bitcastToFloat (F := Ideal) .f32 w i = Ideal.ofBits .f32 (w i) := rfl

theorem mul_at (x y : FVec Ideal S96x128 .f32) (i : S96x128.Idx) : mulf x y i = x i * y i := rfl

theorem clip_at (x : FVec Ideal S96x128 .f32) (c : Ideal .f32) (i : S96x128.Idx) : minimumf (broadcast S96x128 c) x i = min c (x i) := rfl

theorem floor_at (x : FVec Ideal S96x128 .f32) (c : Ideal .f32) (i : S96x128.Idx) : maximumf (broadcast S96x128 c) x i = max c (x i) := rfl

theorem narrow_at (x : FVec Ideal S96x128 .f32) (i : S96x128.Idx) : truncf (F := Ideal) .fp8e4m3 x bitsLt_fp8e4m3_f32 i = x i := rfl

theorem headQ_apply (x : FVec Ideal S96x128 .f32) (e : IVec S96x128 32) (i : S96x128.Idx) :
    headQ x e i = min (Ideal.ofBits .f32 0x43E00000#32) (max (Ideal.ofBits .f32 0xC3E00000#32) (x i * Ideal.ofBits .f32 (IntOp.subi 2122317824#32 (e i)))) := by
  unfold headQ
  rw [narrow_at, clip_at, floor_at, mul_at, castW_apply, subC_apply, scalar_ofBits_f32, scalar_ofBits_f32]

theorem headCo_eq (x : FVec Ideal S96x128 .f32) (e : IVec S96x128 32) : headCo x e = shapeCast S1x1x96x128 (headQ x e) shapeCasts_S96x128_S1x1x96x128 := rfl

theorem wide_apply (x : FVec Ideal S96x128 .fp8e4m3) (a : Fin 96) (d : Fin 128) :
    shapeCast S1x1x96x128 x shapeCasts_S96x128_S1x1x96x128 (ix4 0 0 a d) = x (ix2 a d) := by
  pointwise []

theorem headCo_gen (x : FVec Ideal S96x128 .f32) (e : IVec S96x128 32) (a : Fin 96) (d : Fin 128) :
    headCo x e (ix4 0 0 a d) = min (Ideal.ofBits .f32 0x43E00000#32) (max (Ideal.ofBits .f32 0xC3E00000#32) (x (ix2 a d) * Ideal.ofBits .f32 (IntOp.subi 2122317824#32 (e (ix2 a d))))) := by
  rw [headCo_eq, wide_apply, headQ_apply]

/-- The codes of a head: the state over the scale, clipped to the code range. -/
theorem headCo_apply (x v : FVec Ideal S96x128 .f32) (a : Fin 96) (d : Fin 128) :
    headCo x (headF (headE v)) (ix4 0 0 a d) = min (Ideal.ofBits .f32 0x43E00000#32) (max (Ideal.ofBits .f32 0xC3E00000#32) (x (ix2 a d) * invOf (v (ix2 a d)))) := by
  rw [headCo_gen, headF_apply, invOf]

theorem fold_single (a : Fin 96) (f : Fin 96 → BitVec 32) (s : Finset (Fin 96)) :
    Finset.fold IntOp.addi 0#32 (fun x => Scalar.select (IntOp.cmpi .eq (BitVec.ofNat 32 a.val) (BitVec.ofNat 32 x.val)) (f x) 0#32) s = if a ∈ s then f a else 0#32 := by
  induction s using Finset.induction_on with
  | empty => simp
  | insert b s hb ih =>
    have hc : ∀ a b : Fin 96, IntOp.cmpi .eq (BitVec.ofNat 32 a.val) (BitVec.ofNat 32 b.val) = BitVec.ofBool (decide (a = b)) := by decide
    rw [Finset.fold_insert hb, ih, hc]
    by_cases h : a = b
    · subst h
      simp [hb, Scalar.select, IntOp.addi]
    · simp [h, Scalar.select, IntOp.addi]

theorem headSo_gen (e : IVec S96x128 32) (a : Fin 96) :
    headSo (F := Ideal) e (ix3 0 0 a) = Ideal.ofBits .f32 (IntOp.addi (e (ix2 a ⟨a.val, by omega⟩)) 8388608#32) := by
  pointwise [headSo]
  rw [fold_single a (fun x => IntOp.addi (e (ix2 x ⟨a.val, by omega⟩)) 8388608#32)]
  rw [if_pos (Finset.mem_univ a)]

/-- The scales of a head. -/
theorem headSo_apply (v : FVec Ideal S96x128 .f32) (a : Fin 96) :
    headSo (F := Ideal) (headF (headE v)) (ix3 0 0 a) = scaleOf (v (ix2 a ⟨a.val, by omega⟩)) := by
  rw [headSo_gen, headF_apply, scaleOf]

theorem headX_apply_0 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 0] hs (k0_pay165 v3) v15 v16 v24 (ix2 a d) = v15 (ix2 0 d) * (v16 (ix4 0 0 a d) * v3 (ix3 0 0 a)) + v24 (ix4 0 0 a d) := by
  pointwise [headX, k0_pay165, k0_pay164]

theorem headX_apply_1 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 1] hs (k0_pay165 v3) v15 v16 v24 (ix2 a d) = v15 (ix2 0 d) * (v16 (ix4 0 0 a d) * v3 (ix3 0 1 a)) + v24 (ix4 0 0 a d) := by
  pointwise [headX, k0_pay165, k0_pay164]

theorem headX_apply_2 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 2] hs (k0_pay165 v3) v15 v16 v24 (ix2 a d) = v15 (ix2 0 d) * (v16 (ix4 0 0 a d) * v3 (ix3 0 2 a)) + v24 (ix4 0 0 a d) := by
  pointwise [headX, k0_pay165, k0_pay164]

theorem headX_apply_3 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 3] hs (k0_pay165 v3) v15 v16 v24 (ix2 a d) = v15 (ix2 0 d) * (v16 (ix4 0 0 a d) * v3 (ix3 0 3 a)) + v24 (ix4 0 0 a d) := by
  pointwise [headX, k0_pay165, k0_pay164]

theorem headX_apply_4 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 4] hs (k0_pay165 v3) v15 v16 v24 (ix2 a d) = v15 (ix2 0 d) * (v16 (ix4 0 0 a d) * v3 (ix3 0 4 a)) + v24 (ix4 0 0 a d) := by
  pointwise [headX, k0_pay165, k0_pay164]

theorem headX_apply_5 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 5] hs (k0_pay165 v3) v15 v16 v24 (ix2 a d) = v15 (ix2 0 d) * (v16 (ix4 0 0 a d) * v3 (ix3 0 5 a)) + v24 (ix4 0 0 a d) := by
  pointwise [headX, k0_pay165, k0_pay164]

theorem headX_apply_6 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 6] hs (k0_pay165 v3) v15 v16 v24 (ix2 a d) = v15 (ix2 0 d) * (v16 (ix4 0 0 a d) * v3 (ix3 0 6 a)) + v24 (ix4 0 0 a d) := by
  pointwise [headX, k0_pay165, k0_pay164]

theorem headX_apply_7 (v3 : Vec Ideal S1x8x96 .f32) (v15 : Vec Ideal S1x128 .f32) (v16 : Vec Ideal S1x1x96x128 .fp8e4m3) (v24 : Vec Ideal S1x1x96x128 .f32) (hs) (a : Fin 96) (d : Fin 128) :
    headX ![0, 7] hs (k0_pay165 v3) v15 v16 v24 (ix2 a d) = v15 (ix2 0 d) * (v16 (ix4 0 0 a d) * v3 (ix3 0 7 a)) + v24 (ix4 0 0 a d) := by
  pointwise [headX, k0_pay165, k0_pay164]

end Cert.KernelIdeal.Hand

end
-- ==== Proof.Tile.lean ====
module

public import proofs.«01_k».proof.Proof.Gen.KernelIdeal.Skeleton
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The group of the first column of an MXU tile, as the kernel computes it: the floor of `768·j + cst` by 1440. -/
def groupWord (arg1 cst : BitVec 32) : BitVec 32 :=
  let v810 : BitVec 32 := Scalar.muli arg1 768#32
  let v811 : BitVec 32 := Scalar.addi v810 cst
  let v812 : BitVec 32 := Scalar.divsi v811 1440#32
  let v813 : BitVec 1 := Scalar.cmpi .sgt v811 0#32
  let v814 : BitVec 32 := Scalar.extui v813
  let v815 : BitVec 1 := Scalar.cmpi .slt v811 0#32
  let v816 : BitVec 32 := Scalar.extui v815
  let v817 : BitVec 32 := Scalar.subi v814 v816
  let v818 : BitVec 1 := Scalar.cmpi .sgt 1440#32 0#32
  let v819 : BitVec 32 := Scalar.extui v818
  let v820 : BitVec 1 := Scalar.cmpi .slt 1440#32 0#32
  let v821 : BitVec 32 := Scalar.extui v820
  let v822 : BitVec 32 := Scalar.subi v819 v821
  let v823 : BitVec 1 := Scalar.cmpi .ne v817 v822
  let v824 : BitVec 32 := Scalar.remsi v811 1440#32
  let v825 : BitVec 1 := Scalar.cmpi .ne v824 0#32
  let v826 : BitVec 1 := Scalar.andi v823 v825
  let v827 : BitVec 32 := Scalar.subi v812 1#32
  Scalar.select v826 v827 v812

/-- The columns of an MXU tile before its group's end, as the kernel computes their number. -/
def splitWord (arg1 cst : BitVec 32) : BitVec 32 :=
  Scalar.subi (Scalar.muli (Scalar.addi (groupWord arg1 cst) 1#32) 1440#32) (Scalar.addi (Scalar.muli arg1 768#32) cst)

/-- A tile's codes, masked to the first group and to the second, side by side. -/
def tileRhs (arg1 cst : BitVec 32) (v834 : FVec F S256x128 .fp8e4m3) : FVec F S256x256 .fp8e4m3 :=
  have v808 : IVec S256x128 32 := iota .tc S256x128 32 [0] iota_S256x128_d0_w32
  have v835 : IVec S256x128 32 := broadcast S256x128 (splitWord arg1 cst)
  have v836 : IVec S256x128 1 := cmpi .slt v808 v835
  have cst_313 : F .fp8e4m3 := Scalar.ofBits .fp8e4m3 0x00#8
  have v837 : FVec F S256x128 .fp8e4m3 := broadcast S256x128 cst_313
  have v838 : FVec F S256x128 .fp8e4m3 := select v836 v834 v837
  have v839 : FVec F S256x128 .fp8e4m3 := select v836 v837 v834
  concatenate S256x256 1 [⟨S256x128, v838⟩, ⟨S256x128, v839⟩] concatenates_S256x128_S256x128_S256x256_d1

/-- A tile's product with its two groups' rows of `c`. -/
def tileAcc (arg1 cst : BitVec 32) (v834 : FVec F S256x128 .fp8e4m3) (v842 v845 : Vec F S1x128x128 .bf16) : FVec F S128x256 .f32 :=
  have v843 : FVec F S128x128 .bf16 := shapeCast S128x128 v842 shapeCasts_S1x128x128_S128x128
  have v846 : FVec F S128x128 .bf16 := shapeCast S128x128 v845 shapeCasts_S1x128x128_S128x128
  have v847 : FVec F S128x256 .bf16 := concatenate S128x256 1 [⟨S128x128, v843⟩, ⟨S128x128, v846⟩] concatenates_S128x128_S128x128_S128x256_d1
  have cst_318 : FVec F S128x256 .f32 := constant S128x256 .f32 0x00000000#32
  matmul dot_S128x256_S256x256_S128x256_1_1_0_0_n_n none v847 (tileRhs arg1 cst v834) cst_318

/-- The head of each lane of a half tile, as the kernel computes it. -/
def headIdx (arg1 off head : BitVec 32) : IVec S128x128 32 :=
  have v809 : IVec S128x128 32 := iota .tc S128x128 32 [1] iota_S128x128_d1_w32
  have v850 : IVec S128x128 32 := broadcast S128x128 off
  have v851 : IVec S128x128 32 := addi v809 v850
  let v852 : BitVec 32 := Scalar.muli arg1 8#32
  let v853 : BitVec 32 := Scalar.addi v852 head
  have v854 : IVec S128x128 32 := broadcast S128x128 96#32
  have v855 : IVec S128x128 1 := cmpi .sge v851 v854
  have v856 : IVec S128x128 32 := extui 32 v855 natLt_1_32
  have v857 : IVec S128x128 32 := broadcast S128x128 v853
  have v858 : IVec S128x128 32 := addi v857 v856
  have v859 : IVec S128x128 32 := broadcast S128x128 192#32
  have v860 : IVec S128x128 1 := cmpi .sge v851 v859
  have v861 : IVec S128x128 32 := extui 32 v860 natLt_1_32
  have v862 : IVec S128x128 32 := addi v858 v861
  have v863 : IVec S128x128 32 := broadcast S128x128 0#32
  have v864 : IVec S128x128 1 := cmpi .slt v862 v863
  have v865 : IVec S128x128 32 := broadcast S128x128 128#32
  have v866 : IVec S128x128 32 := addi v862 v865
  have v867 : IVec S128x128 32 := select v864 v866 v862
  have v868 : IVec S128x128x1 32 := shapeCast S128x128x1 v867 shapeCasts_S128x128_S128x128x1
  have v869 : IVec S128x128 32 := shapeCast S128x128 v868 shapeCasts_S128x128x1_S128x128
  v869

/-- A half tile of `y`, corrected. -/
def halfTile (arg1 cst off head : BitVec 32) (o1 : Fin 2 → ℕ) (h1 : S768x128.Slices o1 S256x128) (o2 : Fin 2 → ℕ) (h2 : S128x256.Slices o2 S128x128)
    (o3 : Fin 2 → ℕ) (h3 : S1x768.Slices o3 S1x128) (v3 : Vec F S1x8x96 .f32) (v805 : Vec F S1x8x96x128 .fp8e4m3) (v842 v845 : Vec F S1x128x128 .bf16)
    (v849 : Vec F S128x128 .f32) (v910 : Vec F S1x128x128 .bf16) : FVec F S1x128x128 .bf16 :=
  have v834 : FVec F S256x128 .fp8e4m3 := extractStridedSlice S256x128 o1 (k0_pay240 v805) h1
  have v804 : FVec F S1x768 .f32 := k0_pay239 (k0_pay164 v3)
  have v904 : FVec F S128x128 .f32 := dynamicGather 1 v849 (headIdx arg1 off head)
  have v905 : FVec F S128x128 .f32 := extractStridedSlice S128x128 o2 (tileAcc arg1 cst v834 v842 v845) h2
  have v906 : FVec F S1x128 .f32 := extractStridedSlice S1x128 o3 v804 h3
  have v907 : FVec F S128x128 .f32 := broadcastTo S128x128 v906 broadcasts_S1x128_S128x128
  have v908 : FVec F S128x128 .f32 := mulf v905 v907
  have v909 : FVec F S128x128 .f32 := mulf v908 v904
  have v911 : FVec F S128x128 .bf16 := shapeCast S128x128 v910 shapeCasts_S1x128x128_S128x128
  have v912 : FVec F S128x128 .f32 := extf .f32 v911 bitsLt_bf16_f32
  have v913 : FVec F S128x128 .f32 := addf v912 v909
  have v914 : FVec F S128x128 .bf16 := truncf .bf16 v913 bitsLt_bf16_f32
  shapeCast S1x128x128 v914 shapeCasts_S128x128_S1x128x128

end Cert.KernelIdeal.Hand

end
-- ==== Proof.TileValue.lean ====
module

public import proofs.«01_k».proof.Proof.Tile
public import Idealize.ShloMosaic.Lib.WordCmp
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- One element of the corrected `y`: `y` plus the row of the column's group of `c` against the column's codes, times the
column's scale, times the decay of the column's head. -/
def yoAt (j : Fin 15) (x1 : Vec Ideal S1x896x768 .bf16) (x4 : Vec Ideal S1x8x96x128 .fp8e4m3) (x5 : Vec Ideal S1x8x96 .f32)
    (cg : Vec Ideal S8x896x128 .bf16) (dec : Vec Ideal S896x128 .f32) (s : Fin 896) (q : Fin 768) : EReal :=
  x1 (ix3 0 s q) + (∑ d : Fin 128, cg (ix3 ⟨(768 * j.val + q.val) / 1440, by omega⟩ s d)
    * x4 (ix4 0 ⟨q.val / 96, by omega⟩ ⟨q.val % 96, by omega⟩ d)) * x5 (ix3 0 ⟨q.val / 96, by omega⟩ ⟨q.val % 96, by omega⟩)
    * dec (ix2 s ⟨8 * j.val + q.val / 96, by omega⟩)

/-- The concatenated scale row holds column `q`'s scale. -/
theorem srow_apply (v3 : Vec Ideal S1x8x96 .f32) (q : Fin 768) :
    k0_pay239 (k0_pay164 v3) (ix2 0 q) = v3 (ix3 0 ⟨q.val / 96, by omega⟩ ⟨q.val % 96, by omega⟩) := by
  pointwise [k0_pay239, k0_pay164]
  have hq := q.isLt
  split_ifs <;> exact congrArg v3 (by
    rw [ix3_inj]; refine ⟨rfl, Fin.ext ?_, Fin.ext ?_⟩
    · first | (change 0 = q.val / 96; omega) | (change 1 = q.val / 96; omega) | (change 2 = q.val / 96; omega) | (change 3 = q.val / 96; omega) | (change 4 = q.val / 96; omega) | (change 5 = q.val / 96; omega) | (change 6 = q.val / 96; omega) | (change 7 = q.val / 96; omega)
    · dsimp only; omega)

theorem fp8_zero : Ideal.ofBits .fp8e4m3 0#8 = 0 := by
  exact Ideal.ofBits_zero .fp8e4m3

theorem select_true (α : Type) (a b : α) : Scalar.select (BitVec.ofBool true) a b = a := rfl
theorem select_false (α : Type) (a b : α) : Scalar.select (BitVec.ofBool false) a b = b := rfl

theorem groupWord_0 : ∀ j : Fin 15, groupWord (BitVec.ofNat 32 j.val) 0#32 = BitVec.ofNat 32 ((768 * j.val + 0) / 1440) := by decide
theorem splitWord_0 : ∀ j : Fin 15, splitWord (BitVec.ofNat 32 j.val) 0#32 = BitVec.ofNat 32 (((768 * j.val + 0) / 1440 + 1) * 1440 - (768 * j.val + 0)) := by decide
theorem cmp_split_0 (j : Fin 15) (q : ℕ) (hq : q < 256) :
    IntOp.cmpi .slt (BitVec.ofNat 32 q) (splitWord (BitVec.ofNat 32 j.val) 0#32)
      = BitVec.ofBool (decide ((768 * j.val + (0 + q)) / 1440 = (768 * j.val + 0) / 1440)) := by
  rw [splitWord_0]
  have hj := j.isLt
  unfold IntOp.cmpi
  simp only []
  congr 1
  rw [BitVec.slt_eq_decide, decide_eq_decide, BitVec.toInt_ofNat', BitVec.toInt_ofNat', Int.bmod_eq_of_le (by omega) (by omega), Int.bmod_eq_of_le (by omega) (by omega)]
  omega

theorem groupWord_1 : ∀ j : Fin 15, groupWord (BitVec.ofNat 32 j.val) 256#32 = BitVec.ofNat 32 ((768 * j.val + 256) / 1440) := by decide
theorem splitWord_1 : ∀ j : Fin 15, splitWord (BitVec.ofNat 32 j.val) 256#32 = BitVec.ofNat 32 (((768 * j.val + 256) / 1440 + 1) * 1440 - (768 * j.val + 256)) := by decide
theorem cmp_split_1 (j : Fin 15) (q : ℕ) (hq : q < 256) :
    IntOp.cmpi .slt (BitVec.ofNat 32 q) (splitWord (BitVec.ofNat 32 j.val) 256#32)
      = BitVec.ofBool (decide ((768 * j.val + (256 + q)) / 1440 = (768 * j.val + 256) / 1440)) := by
  rw [splitWord_1]
  have hj := j.isLt
  unfold IntOp.cmpi
  simp only []
  congr 1
  rw [BitVec.slt_eq_decide, decide_eq_decide, BitVec.toInt_ofNat', BitVec.toInt_ofNat', Int.bmod_eq_of_le (by omega) (by omega), Int.bmod_eq_of_le (by omega) (by omega)]
  omega

theorem groupWord_2 : ∀ j : Fin 15, groupWord (BitVec.ofNat 32 j.val) 512#32 = BitVec.ofNat 32 ((768 * j.val + 512) / 1440) := by decide
theorem splitWord_2 : ∀ j : Fin 15, splitWord (BitVec.ofNat 32 j.val) 512#32 = BitVec.ofNat 32 (((768 * j.val + 512) / 1440 + 1) * 1440 - (768 * j.val + 512)) := by decide
theorem cmp_split_2 (j : Fin 15) (q : ℕ) (hq : q < 256) :
    IntOp.cmpi .slt (BitVec.ofNat 32 q) (splitWord (BitVec.ofNat 32 j.val) 512#32)
      = BitVec.ofBool (decide ((768 * j.val + (512 + q)) / 1440 = (768 * j.val + 512) / 1440)) := by
  rw [splitWord_2]
  have hj := j.isLt
  unfold IntOp.cmpi
  simp only []
  congr 1
  rw [BitVec.slt_eq_decide, decide_eq_decide, BitVec.toInt_ofNat', BitVec.toInt_ofNat', Int.bmod_eq_of_le (by omega) (by omega), Int.bmod_eq_of_le (by omega) (by omega)]
  omega

theorem headIdx_0_0 (j : Fin 15) (r l : Fin 128) : (headIdx (BitVec.ofNat 32 j.val) 0#32 0#32 (ix2 r l)).toNat % 128 = 8 * j.val + (0 + l.val) / 96 := by
  pointwise [headIdx]
  have e1 : ∀ l : Fin 128, IntOp.addi (BitVec.setWidth 32 (IntOp.cmpi .sge (IntOp.addi (BitVec.ofNat 32 l.val) 0#32) 96#32))
      (BitVec.setWidth 32 (IntOp.cmpi .sge (IntOp.addi (BitVec.ofNat 32 l.val) 0#32) 192#32)) = BitVec.ofNat 32 ((0 + l.val) / 96 - 0) := by decide
  have e2 : ∀ (j : Fin 15) (k : Fin 3), (Scalar.select (IntOp.cmpi .slt (IntOp.addi (Scalar.addi (Scalar.muli (BitVec.ofNat 32 j.val) 8#32) 0#32) (BitVec.ofNat 32 k.val)) 0#32)
     (IntOp.addi (IntOp.addi (Scalar.addi (Scalar.muli (BitVec.ofNat 32 j.val) 8#32) 0#32) (BitVec.ofNat 32 k.val)) 128#32)
     (IntOp.addi (Scalar.addi (Scalar.muli (BitVec.ofNat 32 j.val) 8#32) 0#32) (BitVec.ofNat 32 k.val))).toNat % 128 = 8 * j.val + 0 + k.val := by decide
  have e3 : ∀ a b c : BitVec 32, IntOp.addi (IntOp.addi a b) c = IntOp.addi a (IntOp.addi b c) := fun a b c => BitVec.add_assoc a b c
  rw [e3, e1]
  have := e2 j ⟨(0 + l.val) / 96 - 0, by omega⟩
  simp only [] at this
  rw [this]
  omega

set_option maxHeartbeats 1000000 in
/-- Half 0 of tile 0, at an element. -/
theorem half_0_0 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 0) / 1440, by omega⟩ ⟨128 * m.val + r.val, by omega⟩ d))
    (hc1 : ∀ r d, c1 (ix3 0 r d) = cg (ix3 ⟨min ((768 * j.val + 0) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨0 + l.val, by omega⟩)) (r l : Fin 128) :
    halfTile (BitVec.ofNat 32 j.val) 0#32 0#32 0#32 ![0, 0] slices_S768x128_o0_0_S256x128 ![0, 0] slices_S128x256_o0_0_S128x128
      ![0, 0] slices_S1x768_o0_0_S1x128 x5 x4 c0 c1 v849 v910 (ix3 0 r l)
      = yoAt j x1 x4 x5 cg dec ⟨128 * m.val + r.val, by omega⟩ ⟨0 + l.val, by omega⟩ := by
  have hj := j.isLt
  have hl := l.isLt
  pointwise [halfTile, tileAcc, tileRhs, k0_pay240]
  simp only [hc0, hc1, hd, hy, srow_apply, headIdx_0_0]
  rw [cmp_split_0 j _ (by omega)]
  unfold yoAt
  simp only [Nat.zero_add, Nat.add_zero]
  by_cases hs : (768 * j.val + l.val) / 1440 = 768 * j.val / 1440
  · simp only [hs, decide_true, select_true, fp8_zero, mul_zero, Finset.sum_const_zero, add_zero]
  · have hg : (768 * j.val + l.val) / 1440 = min (768 * j.val / 1440 + 1) 7 := by omega
    simp only [hs, decide_false, select_false, fp8_zero, mul_zero, Finset.sum_const_zero, zero_add]
    simp only [hg]

theorem headIdx_0_1 (j : Fin 15) (r l : Fin 128) : (headIdx (BitVec.ofNat 32 j.val) 32#32 1#32 (ix2 r l)).toNat % 128 = 8 * j.val + (128 + l.val) / 96 := by
  pointwise [headIdx]
  have e1 : ∀ l : Fin 128, IntOp.addi (BitVec.setWidth 32 (IntOp.cmpi .sge (IntOp.addi (BitVec.ofNat 32 l.val) 32#32) 96#32))
      (BitVec.setWidth 32 (IntOp.cmpi .sge (IntOp.addi (BitVec.ofNat 32 l.val) 32#32) 192#32)) = BitVec.ofNat 32 ((128 + l.val) / 96 - 1) := by decide
  have e2 : ∀ (j : Fin 15) (k : Fin 3), (Scalar.select (IntOp.cmpi .slt (IntOp.addi (Scalar.addi (Scalar.muli (BitVec.ofNat 32 j.val) 8#32) 1#32) (BitVec.ofNat 32 k.val)) 0#32)
     (IntOp.addi (IntOp.addi (Scalar.addi (Scalar.muli (BitVec.ofNat 32 j.val) 8#32) 1#32) (BitVec.ofNat 32 k.val)) 128#32)
     (IntOp.addi (Scalar.addi (Scalar.muli (BitVec.ofNat 32 j.val) 8#32) 1#32) (BitVec.ofNat 32 k.val))).toNat % 128 = 8 * j.val + 1 + k.val := by decide
  have e3 : ∀ a b c : BitVec 32, IntOp.addi (IntOp.addi a b) c = IntOp.addi a (IntOp.addi b c) := fun a b c => BitVec.add_assoc a b c
  rw [e3, e1]
  have := e2 j ⟨(128 + l.val) / 96 - 1, by omega⟩
  simp only [] at this
  rw [this]
  omega

set_option maxHeartbeats 1000000 in
/-- Half 1 of tile 0, at an element. -/
theorem half_0_1 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 0) / 1440, by omega⟩ ⟨128 * m.val + r.val, by omega⟩ d))
    (hc1 : ∀ r d, c1 (ix3 0 r d) = cg (ix3 ⟨min ((768 * j.val + 0) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨128 + l.val, by omega⟩)) (r l : Fin 128) :
    halfTile (BitVec.ofNat 32 j.val) 0#32 32#32 1#32 ![0, 0] slices_S768x128_o0_0_S256x128 ![0, 128] slices_S128x256_o0_128_S128x128
      ![0, 128] slices_S1x768_o0_128_S1x128 x5 x4 c0 c1 v849 v910 (ix3 0 r l)
      = yoAt j x1 x4 x5 cg dec ⟨128 * m.val + r.val, by omega⟩ ⟨128 + l.val, by omega⟩ := by
  have hj := j.isLt
  have hl := l.isLt
  pointwise [halfTile, tileAcc, tileRhs, k0_pay240]
  simp only [hc0, hc1, hd, hy, srow_apply, headIdx_0_1]
  rw [cmp_split_0 j _ (by omega)]
  unfold yoAt
  have hx : 0 + (128 + l.val) = 128 + l.val := by omega
  simp only [hx]
  by_cases hs : (768 * j.val + (128 + l.val)) / 1440 = (768 * j.val + 0) / 1440
  · simp only [hs, decide_true, select_true, fp8_zero, mul_zero, Finset.sum_const_zero, add_zero]
  · have hg : (768 * j.val + (128 + l.val)) / 1440 = min ((768 * j.val + 0) / 1440 + 1) 7 := by omega
    simp only [hs, decide_false, select_false, fp8_zero, mul_zero, Finset.sum_const_zero, zero_add]
    simp only [hg]

theorem headIdx_1_0 (j : Fin 15) (r l : Fin 128) : (headIdx (BitVec.ofNat 32 j.val) 64#32 2#32 (ix2 r l)).toNat % 128 = 8 * j.val + (256 + l.val) / 96 := by
  pointwise [headIdx]
  have e1 : ∀ l : Fin 128, IntOp.addi (BitVec.setWidth 32 (IntOp.cmpi .sge (IntOp.addi (BitVec.ofNat 32 l.val) 64#32) 96#32))
      (BitVec.setWidth 32 (IntOp.cmpi .sge (IntOp.addi (BitVec.ofNat 32 l.val) 64#32) 192#32)) = BitVec.ofNat 32 ((256 + l.val) / 96 - 2) := by decide
  have e2 : ∀ (j : Fin 15) (k : Fin 3), (Scalar.select (IntOp.cmpi .slt (IntOp.addi (Scalar.addi (Scalar.muli (BitVec.ofNat 32 j.val) 8#32) 2#32) (BitVec.ofNat 32 k.val)) 0#32)
     (IntOp.addi (IntOp.addi (Scalar.addi (Scalar.muli (BitVec.ofNat 32 j.val) 8#32) 2#32) (BitVec.ofNat 32 k.val)) 128#32)
     (IntOp.addi (Scalar.addi (Scalar.muli (BitVec.ofNat 32 j.val) 8#32) 2#32) (BitVec.ofNat 32 k.val))).toNat % 128 = 8 * j.val + 2 + k.val := by decide
  have e3 : ∀ a b c : BitVec 32, IntOp.addi (IntOp.addi a b) c = IntOp.addi a (IntOp.addi b c) := fun a b c => BitVec.add_assoc a b c
  rw [e3, e1]
  have := e2 j ⟨(256 + l.val) / 96 - 2, by omega⟩
  simp only [] at this
  rw [this]
  omega

set_option maxHeartbeats 1000000 in
/-- Half 0 of tile 1, at an element. -/
theorem half_1_0 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 256) / 1440, by omega⟩ ⟨128 * m.val + r.val, by omega⟩ d))
    (hc1 : ∀ r d, c1 (ix3 0 r d) = cg (ix3 ⟨min ((768 * j.val + 256) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨256 + l.val, by omega⟩)) (r l : Fin 128) :
    halfTile (BitVec.ofNat 32 j.val) 256#32 64#32 2#32 ![256, 0] slices_S768x128_o256_0_S256x128 ![0, 0] slices_S128x256_o0_0_S128x128
      ![0, 256] slices_S1x768_o0_256_S1x128 x5 x4 c0 c1 v849 v910 (ix3 0 r l)
      = yoAt j x1 x4 x5 cg dec ⟨128 * m.val + r.val, by omega⟩ ⟨256 + l.val, by omega⟩ := by
  have hj := j.isLt
  have hl := l.isLt
  pointwise [halfTile, tileAcc, tileRhs, k0_pay240]
  simp only [hc0, hc1, hd, hy, srow_apply, headIdx_1_0]
  rw [cmp_split_1 j _ (by omega)]
  unfold yoAt
  have hx : 256 + l.val = 256 + l.val := by omega
  simp only [hx]
  by_cases hs : (768 * j.val + (256 + l.val)) / 1440 = (768 * j.val + 256) / 1440
  · simp only [hs, decide_true, select_true, fp8_zero, mul_zero, Finset.sum_const_zero, add_zero]
  · have hg : (768 * j.val + (256 + l.val)) / 1440 = min ((768 * j.val + 256) / 1440 + 1) 7 := by omega
    simp only [hs, decide_false, select_false, fp8_zero, mul_zero, Finset.sum_const_zero, zero_add]
    simp only [hg]

theorem headIdx_1_1 (j : Fin 15) (r l : Fin 128) : (headIdx (BitVec.ofNat 32 j.val) 0#32 4#32 (ix2 r l)).toNat % 128 = 8 * j.val + (384 + l.val) / 96 := by
  pointwise [headIdx]
  have e1 : ∀ l : Fin 128, IntOp.addi (BitVec.setWidth 32 (IntOp.cmpi .sge (IntOp.addi (BitVec.ofNat 32 l.val) 0#32) 96#32))
      (BitVec.setWidth 32 (IntOp.cmpi .sge (IntOp.addi (BitVec.ofNat 32 l.val) 0#32) 192#32)) = BitVec.ofNat 32 ((384 + l.val) / 96 - 4) := by decide
  have e2 : ∀ (j : Fin 15) (k : Fin 3), (Scalar.select (IntOp.cmpi .slt (IntOp.addi (Scalar.addi (Scalar.muli (BitVec.ofNat 32 j.val) 8#32) 4#32) (BitVec.ofNat 32 k.val)) 0#32)
     (IntOp.addi (IntOp.addi (Scalar.addi (Scalar.muli (BitVec.ofNat 32 j.val) 8#32) 4#32) (BitVec.ofNat 32 k.val)) 128#32)
     (IntOp.addi (Scalar.addi (Scalar.muli (BitVec.ofNat 32 j.val) 8#32) 4#32) (BitVec.ofNat 32 k.val))).toNat % 128 = 8 * j.val + 4 + k.val := by decide
  have e3 : ∀ a b c : BitVec 32, IntOp.addi (IntOp.addi a b) c = IntOp.addi a (IntOp.addi b c) := fun a b c => BitVec.add_assoc a b c
  rw [e3, e1]
  have := e2 j ⟨(384 + l.val) / 96 - 4, by omega⟩
  simp only [] at this
  rw [this]
  omega

set_option maxHeartbeats 1000000 in
/-- Half 1 of tile 1, at an element. -/
theorem half_1_1 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 256) / 1440, by omega⟩ ⟨128 * m.val + r.val, by omega⟩ d))
    (hc1 : ∀ r d, c1 (ix3 0 r d) = cg (ix3 ⟨min ((768 * j.val + 256) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨384 + l.val, by omega⟩)) (r l : Fin 128) :
    halfTile (BitVec.ofNat 32 j.val) 256#32 0#32 4#32 ![256, 0] slices_S768x128_o256_0_S256x128 ![0, 128] slices_S128x256_o0_128_S128x128
      ![0, 384] slices_S1x768_o0_384_S1x128 x5 x4 c0 c1 v849 v910 (ix3 0 r l)
      = yoAt j x1 x4 x5 cg dec ⟨128 * m.val + r.val, by omega⟩ ⟨384 + l.val, by omega⟩ := by
  have hj := j.isLt
  have hl := l.isLt
  pointwise [halfTile, tileAcc, tileRhs, k0_pay240]
  simp only [hc0, hc1, hd, hy, srow_apply, headIdx_1_1]
  rw [cmp_split_1 j _ (by omega)]
  unfold yoAt
  have hx : 256 + (128 + l.val) = 384 + l.val := by omega
  simp only [hx]
  by_cases hs : (768 * j.val + (384 + l.val)) / 1440 = (768 * j.val + 256) / 1440
  · simp only [hs, decide_true, select_true, fp8_zero, mul_zero, Finset.sum_const_zero, add_zero]
  · have hg : (768 * j.val + (384 + l.val)) / 1440 = min ((768 * j.val + 256) / 1440 + 1) 7 := by omega
    simp only [hs, decide_false, select_false, fp8_zero, mul_zero, Finset.sum_const_zero, zero_add]
    simp only [hg]

theorem headIdx_2_0 (j : Fin 15) (r l : Fin 128) : (headIdx (BitVec.ofNat 32 j.val) 32#32 5#32 (ix2 r l)).toNat % 128 = 8 * j.val + (512 + l.val) / 96 := by
  pointwise [headIdx]
  have e1 : ∀ l : Fin 128, IntOp.addi (BitVec.setWidth 32 (IntOp.cmpi .sge (IntOp.addi (BitVec.ofNat 32 l.val) 32#32) 96#32))
      (BitVec.setWidth 32 (IntOp.cmpi .sge (IntOp.addi (BitVec.ofNat 32 l.val) 32#32) 192#32)) = BitVec.ofNat 32 ((512 + l.val) / 96 - 5) := by decide
  have e2 : ∀ (j : Fin 15) (k : Fin 3), (Scalar.select (IntOp.cmpi .slt (IntOp.addi (Scalar.addi (Scalar.muli (BitVec.ofNat 32 j.val) 8#32) 5#32) (BitVec.ofNat 32 k.val)) 0#32)
     (IntOp.addi (IntOp.addi (Scalar.addi (Scalar.muli (BitVec.ofNat 32 j.val) 8#32) 5#32) (BitVec.ofNat 32 k.val)) 128#32)
     (IntOp.addi (Scalar.addi (Scalar.muli (BitVec.ofNat 32 j.val) 8#32) 5#32) (BitVec.ofNat 32 k.val))).toNat % 128 = 8 * j.val + 5 + k.val := by decide
  have e3 : ∀ a b c : BitVec 32, IntOp.addi (IntOp.addi a b) c = IntOp.addi a (IntOp.addi b c) := fun a b c => BitVec.add_assoc a b c
  rw [e3, e1]
  have := e2 j ⟨(512 + l.val) / 96 - 5, by omega⟩
  simp only [] at this
  rw [this]
  omega

set_option maxHeartbeats 1000000 in
/-- Half 0 of tile 2, at an element. -/
theorem half_2_0 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 512) / 1440, by omega⟩ ⟨128 * m.val + r.val, by omega⟩ d))
    (hc1 : ∀ r d, c1 (ix3 0 r d) = cg (ix3 ⟨min ((768 * j.val + 512) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨512 + l.val, by omega⟩)) (r l : Fin 128) :
    halfTile (BitVec.ofNat 32 j.val) 512#32 32#32 5#32 ![512, 0] slices_S768x128_o512_0_S256x128 ![0, 0] slices_S128x256_o0_0_S128x128
      ![0, 512] slices_S1x768_o0_512_S1x128 x5 x4 c0 c1 v849 v910 (ix3 0 r l)
      = yoAt j x1 x4 x5 cg dec ⟨128 * m.val + r.val, by omega⟩ ⟨512 + l.val, by omega⟩ := by
  have hj := j.isLt
  have hl := l.isLt
  pointwise [halfTile, tileAcc, tileRhs, k0_pay240]
  simp only [hc0, hc1, hd, hy, srow_apply, headIdx_2_0]
  rw [cmp_split_2 j _ (by omega)]
  unfold yoAt
  have hx : 512 + l.val = 512 + l.val := by omega
  simp only [hx]
  by_cases hs : (768 * j.val + (512 + l.val)) / 1440 = (768 * j.val + 512) / 1440
  · simp only [hs, decide_true, select_true, fp8_zero, mul_zero, Finset.sum_const_zero, add_zero]
  · have hg : (768 * j.val + (512 + l.val)) / 1440 = min ((768 * j.val + 512) / 1440 + 1) 7 := by omega
    simp only [hs, decide_false, select_false, fp8_zero, mul_zero, Finset.sum_const_zero, zero_add]
    simp only [hg]

theorem headIdx_2_1 (j : Fin 15) (r l : Fin 128) : (headIdx (BitVec.ofNat 32 j.val) 64#32 6#32 (ix2 r l)).toNat % 128 = 8 * j.val + (640 + l.val) / 96 := by
  pointwise [headIdx]
  have e1 : ∀ l : Fin 128, IntOp.addi (BitVec.setWidth 32 (IntOp.cmpi .sge (IntOp.addi (BitVec.ofNat 32 l.val) 64#32) 96#32))
      (BitVec.setWidth 32 (IntOp.cmpi .sge (IntOp.addi (BitVec.ofNat 32 l.val) 64#32) 192#32)) = BitVec.ofNat 32 ((640 + l.val) / 96 - 6) := by decide
  have e2 : ∀ (j : Fin 15) (k : Fin 3), (Scalar.select (IntOp.cmpi .slt (IntOp.addi (Scalar.addi (Scalar.muli (BitVec.ofNat 32 j.val) 8#32) 6#32) (BitVec.ofNat 32 k.val)) 0#32)
     (IntOp.addi (IntOp.addi (Scalar.addi (Scalar.muli (BitVec.ofNat 32 j.val) 8#32) 6#32) (BitVec.ofNat 32 k.val)) 128#32)
     (IntOp.addi (Scalar.addi (Scalar.muli (BitVec.ofNat 32 j.val) 8#32) 6#32) (BitVec.ofNat 32 k.val))).toNat % 128 = 8 * j.val + 6 + k.val := by decide
  have e3 : ∀ a b c : BitVec 32, IntOp.addi (IntOp.addi a b) c = IntOp.addi a (IntOp.addi b c) := fun a b c => BitVec.add_assoc a b c
  rw [e3, e1]
  have := e2 j ⟨(640 + l.val) / 96 - 6, by omega⟩
  simp only [] at this
  rw [this]
  omega

set_option maxHeartbeats 1000000 in
/-- Half 1 of tile 2, at an element. -/
theorem half_2_1 (j : Fin 15) (m : Fin 7) (x1 : Vec Ideal S1x896x768 .bf16) (x4 : Vec Ideal S1x8x96x128 .fp8e4m3) (x5 : Vec Ideal S1x8x96 .f32)
    (cg : Vec Ideal S8x896x128 .bf16) (dec : Vec Ideal S896x128 .f32) (c0 c1 : Vec Ideal S1x128x128 .bf16) (v849 : Vec Ideal S128x128 .f32) (v910 : Vec Ideal S1x128x128 .bf16)
    (hc0 : ∀ r d, c0 (ix3 0 r d) = cg (ix3 ⟨(768 * j.val + 512) / 1440, by omega⟩ ⟨128 * m.val + r.val, by omega⟩ d))
    (hc1 : ∀ r d, c1 (ix3 0 r d) = cg (ix3 ⟨min ((768 * j.val + 512) / 1440 + 1) 7, by omega⟩ ⟨128 * m.val + r.val, by omega⟩ d))
    (hd : ∀ r k, v849 (ix2 r k) = dec (ix2 ⟨128 * m.val + r.val, by omega⟩ k))
    (hy : ∀ r l, v910 (ix3 0 r l) = x1 (ix3 0 ⟨128 * m.val + r.val, by omega⟩ ⟨640 + l.val, by omega⟩)) (r l : Fin 128) :
    halfTile (BitVec.ofNat 32 j.val) 512#32 64#32 6#32 ![512, 0] slices_S768x128_o512_0_S256x128 ![0, 128] slices_S128x256_o0_128_S128x128
      ![0, 640] slices_S1x768_o0_640_S1x128 x5 x4 c0 c1 v849 v910 (ix3 0 r l)
      = yoAt j x1 x4 x5 cg dec ⟨128 * m.val + r.val, by omega⟩ ⟨640 + l.val, by omega⟩ := by
  have hj := j.isLt
  have hl := l.isLt
  pointwise [halfTile, tileAcc, tileRhs, k0_pay240]
  simp only [hc0, hc1, hd, hy, srow_apply, headIdx_2_1]
  rw [cmp_split_2 j _ (by omega)]
  unfold yoAt
  have hx : 512 + (128 + l.val) = 640 + l.val := by omega
  simp only [hx]
  by_cases hs : (768 * j.val + (640 + l.val)) / 1440 = (768 * j.val + 512) / 1440
  · simp only [hs, decide_true, select_true, fp8_zero, mul_zero, Finset.sum_const_zero, add_zero]
  · have hg : (768 * j.val + (640 + l.val)) / 1440 = min ((768 * j.val + 512) / 1440 + 1) 7 := by omega
    simp only [hs, decide_false, select_false, fp8_zero, mul_zero, Finset.sum_const_zero, zero_add]
    simp only [hg]

end Cert.KernelIdeal.Hand

end
-- ==== Proof.TailValue.lean ====
module

public import proofs.«01_k».proof.Proof.HeadValue
public import proofs.«01_k».proof.Proof.TileValue
public import Idealize.ShloMosaic.Lib.WholeRead
public import Idealize.ShloMosaic.Lib.Writes
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- The whole corrected block of `y`. -/
def yoSpec (j : Fin 15) (x1 : Vec Ideal S1x896x768 .bf16) (x4 : Vec Ideal S1x8x96x128 .fp8e4m3) (x5 : Vec Ideal S1x8x96 .f32)
    (cg : Vec Ideal S8x896x128 .bf16) (dec : Vec Ideal S896x128 .f32) : Vec Ideal S1x896x768 .bf16 :=
  fun y => yoAt j x1 x4 x5 cg dec (y 1) (y 2)

/-- A corrected state element: the head's last decay times the scaled code, plus the local state. -/
def hAt (j : Fin 15) (x4 : Vec Ideal S1x8x96x128 .fp8e4m3) (x5 : Vec Ideal S1x8x96 .f32) (x6 : Vec Ideal S1x8x96x128 .f32)
    (fdb : Vec Ideal S128x128 .f32) (h : Fin 8) (a : Fin 96) (d : Fin 128) : EReal :=
  fdb (ix2 ⟨8 * j.val + h.val, by omega⟩ d) * (x4 (ix4 0 h a d) * x5 (ix3 0 h a)) + x6 (ix4 0 h a d)

/-- A row's largest absolute value over 448. -/
def vAt (j : Fin 15) (x4 : Vec Ideal S1x8x96x128 .fp8e4m3) (x5 : Vec Ideal S1x8x96 .f32) (x6 : Vec Ideal S1x8x96x128 .f32)
    (fdb : Vec Ideal S128x128 .f32) (h : Fin 8) (a : Fin 96) : EReal :=
  Finset.fold max (Ideal.ofBits .f32 4286578688#32) (fun k => FloatOps.absf (F := Ideal) (φ := .f32) (hAt j x4 x5 x6 fdb h a k)) (Finset.univ : Finset (Fin 128))
    * Ideal.ofBits .f32 991054117#32

/-- The block of codes. -/
def coSpec (j : Fin 15) (x4 : Vec Ideal S1x8x96x128 .fp8e4m3) (x5 : Vec Ideal S1x8x96 .f32) (x6 : Vec Ideal S1x8x96x128 .f32)
    (fdb : Vec Ideal S128x128 .f32) : Vec Ideal S1x8x96x128 .fp8e4m3 :=
  fun y => min (Ideal.ofBits .f32 0x43E00000#32) (max (Ideal.ofBits .f32 0xC3E00000#32)
    (hAt j x4 x5 x6 fdb (y 1) (y 2) (y 3) * invOf (vAt j x4 x5 x6 fdb (y 1) (y 2))))

/-- The block of scales. -/
def soSpec (j : Fin 15) (x4 : Vec Ideal S1x8x96x128 .fp8e4m3) (x5 : Vec Ideal S1x8x96 .f32) (x6 : Vec Ideal S1x8x96x128 .f32)
    (fdb : Vec Ideal S128x128 .f32) : Vec Ideal S1x8x96 .f32 :=
  fun y => scaleOf (vAt j x4 x5 x6 fdb (y 1) (y 2))

/-- A load through a whole memref held at contents that read `X` reads `X` at the offset index. -/
theorem ld_at {κ : Kind} {sp : Space} {s : Shape} {e : EltTy} (m : Memref sig κ sp s e) (h : m.IsWhole) (X : Vec Ideal s e)
    (off size : Fin s.rank → ℕ) (inb : ∀ a, off a + size a ≤ s.size a) (x : (Rect.unit (s := s) off size inb).toLoadRect.shape.Idx) (y : s.Idx)
    (hy : ∀ a, off a + (x a).val = (y a).val) :
    View.readAt (Elt Ideal) m.view (Rect.unit (s := s) off size inb).toLoadRect (h.unread X) x = X y := by
  rw [Memref.IsWhole.readAt_unread]
  congr 1
  funext a
  apply Fin.ext
  rw [← hy a]
  change off a + 1 * (x a).val = _
  rw [one_mul]

theorem nextWord_0 : ∀ j : Fin 15, Scalar.minsi (Scalar.addi (groupWord (BitVec.ofNat 32 j.val) 0#32) 1#32) 7#32 = BitVec.ofNat 32 (min ((768 * j.val + 0) / 1440 + 1) 7) := by
  intro j; rw [groupWord_0]; revert j; decide
theorem castGroup_0 : ∀ j : Fin 15, (Scalar.indexCast (BitVec.ofNat 32 ((768 * j.val + 0) / 1440))).toNat = (768 * j.val + 0) / 1440 := by decide
theorem castNext_0 : ∀ j : Fin 15, (Scalar.indexCast (BitVec.ofNat 32 (min ((768 * j.val + 0) / 1440 + 1) 7))).toNat = min ((768 * j.val + 0) / 1440 + 1) 7 := by decide

theorem off2_0 (i : grid0.Coords) : k0_off2 i 0#32 = ![(768 * (i 1).val + 0) / 1440, 0, 0] := by
  have e : k0_off2 i 0#32 = ![(Scalar.indexCast (groupWord (BitVec.ofNat 32 (i 1).val) 0#32)).toNat, 0, 0] := rfl
  rw [e, groupWord_0 (i 1), castGroup_0 (i 1)]
theorem off3_0 (i : grid0.Coords) : k0_off3 i 0#32 = ![min ((768 * (i 1).val + 0) / 1440 + 1) 7, 0, 0] := by
  have e : k0_off3 i 0#32 = ![(Scalar.indexCast (Scalar.minsi (Scalar.addi (groupWord (BitVec.ofNat 32 (i 1).val) 0#32) 1#32) 7#32)).toNat, 0, 0] := rfl
  rw [e, nextWord_0 (i 1), castNext_0 (i 1)]

theorem off4_0 (i : grid0.Coords) : k0_off4 i 0#32 = ![(768 * (i 1).val + 0) / 1440, 128, 0] := by
  have e : k0_off4 i 0#32 = ![(Scalar.indexCast (groupWord (BitVec.ofNat 32 (i 1).val) 0#32)).toNat, 128, 0] := rfl
  rw [e, groupWord_0 (i 1), castGroup_0 (i 1)]
theorem off5_0 (i : grid0.Coords) : k0_off5 i 0#32 = ![min ((768 * (i 1).val + 0) / 1440 + 1) 7, 128, 0] := by
  have e : k0_off5 i 0#32 = ![(Scalar.indexCast (Scalar.minsi (Scalar.addi (groupWord (BitVec.ofNat 32 (i 1).val) 0#32) 1#32) 7#32)).toNat, 128, 0] := rfl
  rw [e, nextWord_0 (i 1), castNext_0 (i 1)]

theorem off6_0 (i : grid0.Coords) : k0_off6 i 0#32 = ![(768 * (i 1).val + 0) / 1440, 256, 0] := by
  have e : k0_off6 i 0#32 = ![(Scalar.indexCast (groupWord (BitVec.ofNat 32 (i 1).val) 0#32)).toNat, 256, 0] := rfl
  rw [e, groupWord_0 (i 1), castGroup_0 (i 1)]
theorem off7_0 (i : grid0.Coords) : k0_off7 i 0#32 = ![min ((768 * (i 1).val + 0) / 1440 + 1) 7, 256, 0] := by
  have e : k0_off7 i 0#32 = ![(Scalar.indexCast (Scalar.minsi (Scalar.addi (groupWord (BitVec.ofNat 32 (i 1).val) 0#32) 1#32) 7#32)).toNat, 256, 0] := rfl
  rw [e, nextWord_0 (i 1), castNext_0 (i 1)]

theorem off8_0 (i : grid0.Coords) : k0_off8 i 0#32 = ![(768 * (i 1).val + 0) / 1440, 384, 0] := by
  have e : k0_off8 i 0#32 = ![(Scalar.indexCast (groupWord (BitVec.ofNat 32 (i 1).val) 0#32)).toNat, 384, 0] := rfl
  rw [e, groupWord_0 (i 1), castGroup_0 (i 1)]
theorem off9_0 (i : grid0.Coords) : k0_off9 i 0#32 = ![min ((768 * (i 1).val + 0) / 1440 + 1) 7, 384, 0] := by
  have e : k0_off9 i 0#32 = ![(Scalar.indexCast (Scalar.minsi (Scalar.addi (groupWord (BitVec.ofNat 32 (i 1).val) 0#32) 1#32) 7#32)).toNat, 384, 0] := rfl
  rw [e, nextWord_0 (i 1), castNext_0 (i 1)]

theorem off10_0 (i : grid0.Coords) : k0_off10 i 0#32 = ![(768 * (i 1).val + 0) / 1440, 512, 0] := by
  have e : k0_off10 i 0#32 = ![(Scalar.indexCast (groupWord (BitVec.ofNat 32 (i 1).val) 0#32)).toNat, 512, 0] := rfl
  rw [e, groupWord_0 (i 1), castGroup_0 (i 1)]
theorem off11_0 (i : grid0.Coords) : k0_off11 i 0#32 = ![min ((768 * (i 1).val + 0) / 1440 + 1) 7, 512, 0] := by
  have e : k0_off11 i 0#32 = ![(Scalar.indexCast (Scalar.minsi (Scalar.addi (groupWord (BitVec.ofNat 32 (i 1).val) 0#32) 1#32) 7#32)).toNat, 512, 0] := rfl
  rw [e, nextWord_0 (i 1), castNext_0 (i 1)]

theorem off12_0 (i : grid0.Coords) : k0_off12 i 0#32 = ![(768 * (i 1).val + 0) / 1440, 640, 0] := by
  have e : k0_off12 i 0#32 = ![(Scalar.indexCast (groupWord (BitVec.ofNat 32 (i 1).val) 0#32)).toNat, 640, 0] := rfl
  rw [e, groupWord_0 (i 1), castGroup_0 (i 1)]
theorem off13_0 (i : grid0.Coords) : k0_off13 i 0#32 = ![min ((768 * (i 1).val + 0) / 1440 + 1) 7, 640, 0] := by
  have e : k0_off13 i 0#32 = ![(Scalar.indexCast (Scalar.minsi (Scalar.addi (groupWord (BitVec.ofNat 32 (i 1).val) 0#32) 1#32) 7#32)).toNat, 640, 0] := rfl
  rw [e, nextWord_0 (i 1), castNext_0 (i 1)]

theorem off14_0 (i : grid0.Coords) : k0_off14 i 0#32 = ![(768 * (i 1).val + 0) / 1440, 768, 0] := by
  have e : k0_off14 i 0#32 = ![(Scalar.indexCast (groupWord (BitVec.ofNat 32 (i 1).val) 0#32)).toNat, 768, 0] := rfl
  rw [e, groupWord_0 (i 1), castGroup_0 (i 1)]
theorem off15_0 (i : grid0.Coords) : k0_off15 i 0#32 = ![min ((768 * (i 1).val + 0) / 1440 + 1) 7, 768, 0] := by
  have e : k0_off15 i 0#32 = ![(Scalar.indexCast (Scalar.minsi (Scalar.addi (groupWord (BitVec.ofNat 32 (i 1).val) 0#32) 1#32) 7#32)).toNat, 768, 0] := rfl
  rw [e, nextWord_0 (i 1), castNext_0 (i 1)]

theorem nextWord_1 : ∀ j : Fin 15, Scalar.minsi (Scalar.addi (groupWord (BitVec.ofNat 32 j.val) 256#32) 1#32) 7#32 = BitVec.ofNat 32 (min ((768 * j.val + 256) / 1440 + 1) 7) := by
  intro j; rw [groupWord_1]; revert j; decide
theorem castGroup_1 : ∀ j : Fin 15, (Scalar.indexCast (BitVec.ofNat 32 ((768 * j.val + 256) / 1440))).toNat = (768 * j.val + 256) / 1440 := by decide
theorem castNext_1 : ∀ j : Fin 15, (Scalar.indexCast (BitVec.ofNat 32 (min ((768 * j.val + 256) / 1440 + 1) 7))).toNat = min ((768 * j.val + 256) / 1440 + 1) 7 := by decide

theorem off2_1 (i : grid0.Coords) : k0_off2 i 256#32 = ![(768 * (i 1).val + 256) / 1440, 0, 0] := by
  have e : k0_off2 i 256#32 = ![(Scalar.indexCast (groupWord (BitVec.ofNat 32 (i 1).val) 256#32)).toNat, 0, 0] := rfl
  rw [e, groupWord_1 (i 1), castGroup_1 (i 1)]
theorem off3_1 (i : grid0.Coords) : k0_off3 i 256#32 = ![min ((768 * (i 1).val + 256) / 1440 + 1) 7, 0, 0] := by
  have e : k0_off3 i 256#32 = ![(Scalar.indexCast (Scalar.minsi (Scalar.addi (groupWord (BitVec.ofNat 32 (i 1).val) 256#32) 1#32) 7#32)).toNat, 0, 0] := rfl
  rw [e, nextWord_1 (i 1), castNext_1 (i 1)]

theorem off4_1 (i : grid0.Coords) : k0_off4 i 256#32 = ![(768 * (i 1).val + 256) / 1440, 128, 0] := by
  have e : k0_off4 i 256#32 = ![(Scalar.indexCast (groupWord (BitVec.ofNat 32 (i 1).val) 256#32)).toNat, 128, 0] := rfl
  rw [e, groupWord_1 (i 1), castGroup_1 (i 1)]
theorem off5_1 (i : grid0.Coords) : k0_off5 i 256#32 = ![min ((768 * (i 1).val + 256) / 1440 + 1) 7, 128, 0] := by
  have e : k0_off5 i 256#32 = ![(Scalar.indexCast (Scalar.minsi (Scalar.addi (groupWord (BitVec.ofNat 32 (i 1).val) 256#32) 1#32) 7#32)).toNat, 128, 0] := rfl
  rw [e, nextWord_1 (i 1), castNext_1 (i 1)]

theorem off6_1 (i : grid0.Coords) : k0_off6 i 256#32 = ![(768 * (i 1).val + 256) / 1440, 256, 0] := by
  have e : k0_off6 i 256#32 = ![(Scalar.indexCast (groupWord (BitVec.ofNat 32 (i 1).val) 256#32)).toNat, 256, 0] := rfl
  rw [e, groupWord_1 (i 1), castGroup_1 (i 1)]
theorem off7_1 (i : grid0.Coords) : k0_off7 i 256#32 = ![min ((768 * (i 1).val + 256) / 1440 + 1) 7, 256, 0] := by
  have e : k0_off7 i 256#32 = ![(Scalar.indexCast (Scalar.minsi (Scalar.addi (groupWord (BitVec.ofNat 32 (i 1).val) 256#32) 1#32) 7#32)).toNat, 256, 0] := rfl
  rw [e, nextWord_1 (i 1), castNext_1 (i 1)]

theorem off8_1 (i : grid0.Coords) : k0_off8 i 256#32 = ![(768 * (i 1).val + 256) / 1440, 384, 0] := by
  have e : k0_off8 i 256#32 = ![(Scalar.indexCast (groupWord (BitVec.ofNat 32 (i 1).val) 256#32)).toNat, 384, 0] := rfl
  rw [e, groupWord_1 (i 1), castGroup_1 (i 1)]
theorem off9_1 (i : grid0.Coords) : k0_off9 i 256#32 = ![min ((768 * (i 1).val + 256) / 1440 + 1) 7, 384, 0] := by
  have e : k0_off9 i 256#32 = ![(Scalar.indexCast (Scalar.minsi (Scalar.addi (groupWord (BitVec.ofNat 32 (i 1).val) 256#32) 1#32) 7#32)).toNat, 384, 0] := rfl
  rw [e, nextWord_1 (i 1), castNext_1 (i 1)]

theorem off10_1 (i : grid0.Coords) : k0_off10 i 256#32 = ![(768 * (i 1).val + 256) / 1440, 512, 0] := by
  have e : k0_off10 i 256#32 = ![(Scalar.indexCast (groupWord (BitVec.ofNat 32 (i 1).val) 256#32)).toNat, 512, 0] := rfl
  rw [e, groupWord_1 (i 1), castGroup_1 (i 1)]
theorem off11_1 (i : grid0.Coords) : k0_off11 i 256#32 = ![min ((768 * (i 1).val + 256) / 1440 + 1) 7, 512, 0] := by
  have e : k0_off11 i 256#32 = ![(Scalar.indexCast (Scalar.minsi (Scalar.addi (groupWord (BitVec.ofNat 32 (i 1).val) 256#32) 1#32) 7#32)).toNat, 512, 0] := rfl
  rw [e, nextWord_1 (i 1), castNext_1 (i 1)]

theorem off12_1 (i : grid0.Coords) : k0_off12 i 256#32 = ![(768 * (i 1).val + 256) / 1440, 640, 0] := by
  have e : k0_off12 i 256#32 = ![(Scalar.indexCast (groupWord (BitVec.ofNat 32 (i 1).val) 256#32)).toNat, 640, 0] := rfl
  rw [e, groupWord_1 (i 1), castGroup_1 (i 1)]
theorem off13_1 (i : grid0.Coords) : k0_off13 i 256#32 = ![min ((768 * (i 1).val + 256) / 1440 + 1) 7, 640, 0] := by
  have e : k0_off13 i 256#32 = ![(Scalar.indexCast (Scalar.minsi (Scalar.addi (groupWord (BitVec.ofNat 32 (i 1).val) 256#32) 1#32) 7#32)).toNat, 640, 0] := rfl
  rw [e, nextWord_1 (i 1), castNext_1 (i 1)]

theorem off14_1 (i : grid0.Coords) : k0_off14 i 256#32 = ![(768 * (i 1).val + 256) / 1440, 768, 0] := by
  have e : k0_off14 i 256#32 = ![(Scalar.indexCast (groupWord (BitVec.ofNat 32 (i 1).val) 256#32)).toNat, 768, 0] := rfl
  rw [e, groupWord_1 (i 1), castGroup_1 (i 1)]
theorem off15_1 (i : grid0.Coords) : k0_off15 i 256#32 = ![min ((768 * (i 1).val + 256) / 1440 + 1) 7, 768, 0] := by
  have e : k0_off15 i 256#32 = ![(Scalar.indexCast (Scalar.minsi (Scalar.addi (groupWord (BitVec.ofNat 32 (i 1).val) 256#32) 1#32) 7#32)).toNat, 768, 0] := rfl
  rw [e, nextWord_1 (i 1), castNext_1 (i 1)]

theorem nextWord_2 : ∀ j : Fin 15, Scalar.minsi (Scalar.addi (groupWord (BitVec.ofNat 32 j.val) 512#32) 1#32) 7#32 = BitVec.ofNat 32 (min ((768 * j.val + 512) / 1440 + 1) 7) := by
  intro j; rw [groupWord_2]; revert j; decide
theorem castGroup_2 : ∀ j : Fin 15, (Scalar.indexCast (BitVec.ofNat 32 ((768 * j.val + 512) / 1440))).toNat = (768 * j.val + 512) / 1440 := by decide
theorem castNext_2 : ∀ j : Fin 15, (Scalar.indexCast (BitVec.ofNat 32 (min ((768 * j.val + 512) / 1440 + 1) 7))).toNat = min ((768 * j.val + 512) / 1440 + 1) 7 := by decide

theorem off2_2 (i : grid0.Coords) : k0_off2 i 512#32 = ![(768 * (i 1).val + 512) / 1440, 0, 0] := by
  have e : k0_off2 i 512#32 = ![(Scalar.indexCast (groupWord (BitVec.ofNat 32 (i 1).val) 512#32)).toNat, 0, 0] := rfl
  rw [e, groupWord_2 (i 1), castGroup_2 (i 1)]
theorem off3_2 (i : grid0.Coords) : k0_off3 i 512#32 = ![min ((768 * (i 1).val + 512) / 1440 + 1) 7, 0, 0] := by
  have e : k0_off3 i 512#32 = ![(Scalar.indexCast (Scalar.minsi (Scalar.addi (groupWord (BitVec.ofNat 32 (i 1).val) 512#32) 1#32) 7#32)).toNat, 0, 0] := rfl
  rw [e, nextWord_2 (i 1), castNext_2 (i 1)]

theorem off4_2 (i : grid0.Coords) : k0_off4 i 512#32 = ![(768 * (i 1).val + 512) / 1440, 128, 0] := by
  have e : k0_off4 i 512#32 = ![(Scalar.indexCast (groupWord (BitVec.ofNat 32 (i 1).val) 512#32)).toNat, 128, 0] := rfl
  rw [e, groupWord_2 (i 1), castGroup_2 (i 1)]
theorem off5_2 (i : grid0.Coords) : k0_off5 i 512#32 = ![min ((768 * (i 1).val + 512) / 1440 + 1) 7, 128, 0] := by
  have e : k0_off5 i 512#32 = ![(Scalar.indexCast (Scalar.minsi (Scalar.addi (groupWord (BitVec.ofNat 32 (i 1).val) 512#32) 1#32) 7#32)).toNat, 128, 0] := rfl
  rw [e, nextWord_2 (i 1), castNext_2 (i 1)]

theorem off6_2 (i : grid0.Coords) : k0_off6 i 512#32 = ![(768 * (i 1).val + 512) / 1440, 256, 0] := by
  have e : k0_off6 i 512#32 = ![(Scalar.indexCast (groupWord (BitVec.ofNat 32 (i 1).val) 512#32)).toNat, 256, 0] := rfl
  rw [e, groupWord_2 (i 1), castGroup_2 (i 1)]
theorem off7_2 (i : grid0.Coords) : k0_off7 i 512#32 = ![min ((768 * (i 1).val + 512) / 1440 + 1) 7, 256, 0] := by
  have e : k0_off7 i 512#32 = ![(Scalar.indexCast (Scalar.minsi (Scalar.addi (groupWord (BitVec.ofNat 32 (i 1).val) 512#32) 1#32) 7#32)).toNat, 256, 0] := rfl
  rw [e, nextWord_2 (i 1), castNext_2 (i 1)]

theorem off8_2 (i : grid0.Coords) : k0_off8 i 512#32 = ![(768 * (i 1).val + 512) / 1440, 384, 0] := by
  have e : k0_off8 i 512#32 = ![(Scalar.indexCast (groupWord (BitVec.ofNat 32 (i 1).val) 512#32)).toNat, 384, 0] := rfl
  rw [e, groupWord_2 (i 1), castGroup_2 (i 1)]
theorem off9_2 (i : grid0.Coords) : k0_off9 i 512#32 = ![min ((768 * (i 1).val + 512) / 1440 + 1) 7, 384, 0] := by
  have e : k0_off9 i 512#32 = ![(Scalar.indexCast (Scalar.minsi (Scalar.addi (groupWord (BitVec.ofNat 32 (i 1).val) 512#32) 1#32) 7#32)).toNat, 384, 0] := rfl
  rw [e, nextWord_2 (i 1), castNext_2 (i 1)]

theorem off10_2 (i : grid0.Coords) : k0_off10 i 512#32 = ![(768 * (i 1).val + 512) / 1440, 512, 0] := by
  have e : k0_off10 i 512#32 = ![(Scalar.indexCast (groupWord (BitVec.ofNat 32 (i 1).val) 512#32)).toNat, 512, 0] := rfl
  rw [e, groupWord_2 (i 1), castGroup_2 (i 1)]
theorem off11_2 (i : grid0.Coords) : k0_off11 i 512#32 = ![min ((768 * (i 1).val + 512) / 1440 + 1) 7, 512, 0] := by
  have e : k0_off11 i 512#32 = ![(Scalar.indexCast (Scalar.minsi (Scalar.addi (groupWord (BitVec.ofNat 32 (i 1).val) 512#32) 1#32) 7#32)).toNat, 512, 0] := rfl
  rw [e, nextWord_2 (i 1), castNext_2 (i 1)]

theorem off12_2 (i : grid0.Coords) : k0_off12 i 512#32 = ![(768 * (i 1).val + 512) / 1440, 640, 0] := by
  have e : k0_off12 i 512#32 = ![(Scalar.indexCast (groupWord (BitVec.ofNat 32 (i 1).val) 512#32)).toNat, 640, 0] := rfl
  rw [e, groupWord_2 (i 1), castGroup_2 (i 1)]
theorem off13_2 (i : grid0.Coords) : k0_off13 i 512#32 = ![min ((768 * (i 1).val + 512) / 1440 + 1) 7, 640, 0] := by
  have e : k0_off13 i 512#32 = ![(Scalar.indexCast (Scalar.minsi (Scalar.addi (groupWord (BitVec.ofNat 32 (i 1).val) 512#32) 1#32) 7#32)).toNat, 640, 0] := rfl
  rw [e, nextWord_2 (i 1), castNext_2 (i 1)]

theorem off14_2 (i : grid0.Coords) : k0_off14 i 512#32 = ![(768 * (i 1).val + 512) / 1440, 768, 0] := by
  have e : k0_off14 i 512#32 = ![(Scalar.indexCast (groupWord (BitVec.ofNat 32 (i 1).val) 512#32)).toNat, 768, 0] := rfl
  rw [e, groupWord_2 (i 1), castGroup_2 (i 1)]
theorem off15_2 (i : grid0.Coords) : k0_off15 i 512#32 = ![min ((768 * (i 1).val + 512) / 1440 + 1) 7, 768, 0] := by
  have e : k0_off15 i 512#32 = ![(Scalar.indexCast (Scalar.minsi (Scalar.addi (groupWord (BitVec.ofNat 32 (i 1).val) 512#32) 1#32) 7#32)).toNat, 768, 0] := rfl
  rw [e, nextWord_2 (i 1), castNext_2 (i 1)]

/-- The tile's rows of the column group's `c`. -/
theorem cg_at (arg12 : Memref sig .tc .vmem S8x896x128 .bf16) (harg12 : arg12.IsWhole) (cg : Vec Ideal S8x896x128 .bf16) (off : Fin 3 → ℕ) (g m : ℕ) (hg : g < 8) (hm : m < 7)
    (e : off = ![g, 128 * m, 0]) (inb) (r d : Fin 128) :
    View.readAt (Elt Ideal) arg12.view (Rect.unit (s := S8x896x128) off S1x128x128.size inb).toLoadRect (harg12.unread cg) (ix3 0 r d)
      = cg (ix3 ⟨g, hg⟩ ⟨128 * m + r.val, by omega⟩ d) := by
  subst e
  refine ld_at _ _ _ _ _ _ _ _ ?_
  intro a
  fin_cases a
  · rfl
  · rfl
  · exact Nat.zero_add _

/-- A stored half tile is the corrected block at the tile's place. -/
theorem piece_0_0 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 0) / 1440, 128 * m.val, 0]) (e1 : o1 = ![min ((768 * (i 1).val + 0) / 1440 + 1) 7, 128 * m.val, 0])
    (o2 : Fin 2 → ℕ) (e2 : o2 = ![128 * m.val, 0]) (o3 : Fin 3 → ℕ) (e3 : o3 = ![0, 128 * m.val, 0])
    (b0 b1 b2 b3 b5 b6) (x : S1x128x128.Idx) :
    halfTile (BitVec.ofNat 32 (i 1).val) 0#32 0#32 0#32 ![0, 0] slices_S768x128_o0_0_S256x128 ![0, 0] slices_S128x256_o0_0_S128x128
      ![0, 0] slices_S1x768_o0_0_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_0_0 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 0 + 1 * l.val; rw [one_mul]

/-- A stored half tile is the corrected block at the tile's place. -/
theorem piece_0_1 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 0) / 1440, 128 * m.val, 0]) (e1 : o1 = ![min ((768 * (i 1).val + 0) / 1440 + 1) 7, 128 * m.val, 0])
    (o2 : Fin 2 → ℕ) (e2 : o2 = ![128 * m.val, 0]) (o3 : Fin 3 → ℕ) (e3 : o3 = ![0, 128 * m.val, 128])
    (b0 b1 b2 b3 b5 b6) (x : S1x128x128.Idx) :
    halfTile (BitVec.ofNat 32 (i 1).val) 0#32 32#32 1#32 ![0, 0] slices_S768x128_o0_0_S256x128 ![0, 128] slices_S128x256_o0_128_S128x128
      ![0, 128] slices_S1x768_o0_128_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_0_1 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 128 + 1 * l.val; rw [one_mul]

/-- A stored half tile is the corrected block at the tile's place. -/
theorem piece_1_0 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 256) / 1440, 128 * m.val, 0]) (e1 : o1 = ![min ((768 * (i 1).val + 256) / 1440 + 1) 7, 128 * m.val, 0])
    (o2 : Fin 2 → ℕ) (e2 : o2 = ![128 * m.val, 0]) (o3 : Fin 3 → ℕ) (e3 : o3 = ![0, 128 * m.val, 256])
    (b0 b1 b2 b3 b5 b6) (x : S1x128x128.Idx) :
    halfTile (BitVec.ofNat 32 (i 1).val) 256#32 64#32 2#32 ![256, 0] slices_S768x128_o256_0_S256x128 ![0, 0] slices_S128x256_o0_0_S128x128
      ![0, 256] slices_S1x768_o0_256_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_1_0 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 256 + 1 * l.val; rw [one_mul]

/-- A stored half tile is the corrected block at the tile's place. -/
theorem piece_1_1 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 256) / 1440, 128 * m.val, 0]) (e1 : o1 = ![min ((768 * (i 1).val + 256) / 1440 + 1) 7, 128 * m.val, 0])
    (o2 : Fin 2 → ℕ) (e2 : o2 = ![128 * m.val, 0]) (o3 : Fin 3 → ℕ) (e3 : o3 = ![0, 128 * m.val, 384])
    (b0 b1 b2 b3 b5 b6) (x : S1x128x128.Idx) :
    halfTile (BitVec.ofNat 32 (i 1).val) 256#32 0#32 4#32 ![256, 0] slices_S768x128_o256_0_S256x128 ![0, 128] slices_S128x256_o0_128_S128x128
      ![0, 384] slices_S1x768_o0_384_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_1_1 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 384 + 1 * l.val; rw [one_mul]

/-- A stored half tile is the corrected block at the tile's place. -/
theorem piece_2_0 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 512) / 1440, 128 * m.val, 0]) (e1 : o1 = ![min ((768 * (i 1).val + 512) / 1440 + 1) 7, 128 * m.val, 0])
    (o2 : Fin 2 → ℕ) (e2 : o2 = ![128 * m.val, 0]) (o3 : Fin 3 → ℕ) (e3 : o3 = ![0, 128 * m.val, 512])
    (b0 b1 b2 b3 b5 b6) (x : S1x128x128.Idx) :
    halfTile (BitVec.ofNat 32 (i 1).val) 512#32 32#32 5#32 ![512, 0] slices_S768x128_o512_0_S256x128 ![0, 0] slices_S128x256_o0_0_S128x128
      ![0, 512] slices_S1x768_o0_512_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_2_0 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 512 + 1 * l.val; rw [one_mul]

/-- A stored half tile is the corrected block at the tile's place. -/
theorem piece_2_1 (i : grid0.Coords) (m : Fin 7) (arg3 : Memref sig .tc .vmem S1x896x768 .bf16) (harg3 : arg3.IsWhole) (arg6 : Memref sig .tc .vmem S1x8x96x128 .fp8e4m3) (harg6 : arg6.IsWhole)
    (arg7 : Memref sig .tc .vmem S1x8x96 .f32) (harg7 : arg7.IsWhole) (arg12 : Memref sig .tc .vmem S8x896x128 .bf16) (harg12 : arg12.IsWhole) (arg13 : Memref sig .tc .vmem S896x128 .f32) (harg13 : arg13.IsWhole)
    (x1 : Vec Ideal S1x896x768 .bf16) (x4 : Vec Ideal S1x8x96x128 .fp8e4m3) (x5 : Vec Ideal S1x8x96 .f32) (cg : Vec Ideal S8x896x128 .bf16) (dec : Vec Ideal S896x128 .f32)
    (o0 o1 : Fin 3 → ℕ) (e0 : o0 = ![(768 * (i 1).val + 512) / 1440, 128 * m.val, 0]) (e1 : o1 = ![min ((768 * (i 1).val + 512) / 1440 + 1) 7, 128 * m.val, 0])
    (o2 : Fin 2 → ℕ) (e2 : o2 = ![128 * m.val, 0]) (o3 : Fin 3 → ℕ) (e3 : o3 = ![0, 128 * m.val, 640])
    (b0 b1 b2 b3 b5 b6) (x : S1x128x128.Idx) :
    halfTile (BitVec.ofNat 32 (i 1).val) 512#32 64#32 6#32 ![512, 0] slices_S768x128_o512_0_S256x128 ![0, 128] slices_S128x256_o0_128_S128x128
      ![0, 640] slices_S1x768_o0_640_S1x128
      (View.readAt (Elt Ideal) arg7.view (Rect.unit (s := S1x8x96) ![0, 0, 0] S1x8x96.size b5).toLoadRect (harg7.unread x5))
      (View.readAt (Elt Ideal) arg6.view (Rect.unit (s := S1x8x96x128) ![0, 0, 0, 0] S1x8x96x128.size b6).toLoadRect (harg6.unread x4))
      (View.readAt (Elt Ideal) arg12.view (Rect.unit (s := S8x896x128) o0 S1x128x128.size b0).toLoadRect (harg12.unread cg))
      (View.readAt (Elt Ideal) arg12.view (Rect.unit (s := S8x896x128) o1 S1x128x128.size b1).toLoadRect (harg12.unread cg))
      (View.readAt (Elt Ideal) arg13.view (Rect.unit (s := S896x128) o2 S128x128.size b2).toLoadRect (harg13.unread dec))
      (View.readAt (Elt Ideal) arg3.view (Rect.unit (s := S1x896x768) o3 S1x128x128.size b3).toLoadRect (harg3.unread x1)) x
      = yoSpec (i 1) x1 x4 x5 cg dec ((Rect.unit (s := S1x896x768) o3 S1x128x128.size b3).emb x) := by
  subst e2 e3
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  have h6 : View.readAt (Elt Ideal) arg6.view (Rect.unit (s := S1x8x96x128) ![0, 0, 0, 0] S1x8x96x128.size b6).toLoadRect (harg6.unread x4) = x4 := by
    funext y; refine ld_at _ _ _ _ _ _ _ _ ?_; intro a; fin_cases a <;> exact Nat.zero_add _
  rw [h5, h6]
  have hj : (i 1).val < 15 := (i 1).isLt
  obtain ⟨z, r, l, rfl⟩ : ∃ (z : Fin 1) (r l : Fin 128), x = ix3 z r l := ⟨x 0, x 1, x 2, by funext a; fin_cases a <;> rfl⟩
  obtain rfl : z = 0 := Subsingleton.elim _ _
  refine (half_2_1 (i 1) m x1 x4 x5 cg dec _ _ _ _ ?_ ?_ ?_ ?_ r l).trans ?_
  · intro r d; exact cg_at _ _ _ _ _ m.val _ m.isLt e0 _ r d
  · intro r d; exact cg_at _ _ _ _ _ m.val _ m.isLt e1 _ r d
  · intro r k; refine ld_at _ _ _ _ _ _ _ _ ?_; intro a; fin_cases a
    · rfl
    · exact Nat.zero_add _
  · intro r l; refine ld_at _ _ _ _ _ _ _ _ ?_; intro a; fin_cases a <;> rfl
  · unfold yoSpec
    congr 1
    · apply Fin.ext; change _ = 128 * m.val + 1 * r.val; rw [one_mul]
    · apply Fin.ext; change _ = 640 + 1 * l.val; rw [one_mul]

end Cert.KernelIdeal.Hand

end
-- ==== Proof.HeadPiece.lean ====
module

public import proofs.«01_k».proof.Proof.TailValue
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

theorem offh_0 (i : grid0.Coords) : k0_off1 i 0#32 = ![8 * (i 1).val + 0, 0] := by
  have e : k0_off1 i 0#32 = ![(Scalar.indexCast (Scalar.addi (Scalar.muli (BitVec.ofNat 32 (i 1).val) 8#32) 0#32)).toNat, 0] := rfl
  have w : ∀ j : Fin 15, (Scalar.indexCast (Scalar.addi (Scalar.muli (BitVec.ofNat 32 j.val) 8#32) 0#32)).toNat = 8 * j.val + 0 := by decide
  rw [e, w (i 1)]

theorem lt_0 (i : grid0.Coords) : 8 * (i 1).val + 0 < 128 := by
  have h : (i 1).val < 15 := (i 1).isLt
  omega

/-- Head 0's state, read from the blocks. -/
theorem hx_0 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 0] slices_S128x128_o0_0_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 0#32) S1x128.size b15).toLoadRect (harg15.unread fdb))
        (View.readAt (Elt Ideal) arg6.view (Rect.unit (s := S1x8x96x128) ![0, 0, 0, 0] S1x1x96x128.size b6).toLoadRect (harg6.unread x4))
        (View.readAt (Elt Ideal) arg8.view (Rect.unit (s := S1x8x96x128) ![0, 0, 0, 0] S1x1x96x128.size b8).toLoadRect (harg8.unread x6))) (ix2 a d) = hAt (i 1) x4 x5 x6 fdb 0 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_0]
  unfold hAt
  have e15 := ld_at arg15 harg15 fdb (k0_off1 i 0#32) S1x128.size b15 (ix2 0 d) (ix2 ⟨8 * (i 1).val + 0, lt_0 i⟩ d)
    (by intro a; refine (congrArg (· + _) (congrFun (offh_0 i) a)).trans ?_; fin_cases a <;> first | rfl | exact Nat.zero_add _)
  have e6 := ld_at arg6 harg6 x4 ![0, 0, 0, 0] S1x1x96x128.size b6 (ix4 0 0 a d) (ix4 0 0 a d)
    (by intro a; fin_cases a <;> first | rfl | exact Nat.zero_add _)
  have e8 := ld_at arg8 harg8 x6 ![0, 0, 0, 0] S1x1x96x128.size b8 (ix4 0 0 a d) (ix4 0 0 a d)
    (by intro a; fin_cases a <;> first | rfl | exact Nat.zero_add _)
  exact congrArg₂ (· + ·) (congrArg₂ (· * ·) e15 (congrArg₂ (· * ·) e6 rfl)) e8

theorem hv_0 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 0] slices_S128x128_o0_0_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 0#32) S1x128.size b15).toLoadRect (harg15.unread fdb))
        (View.readAt (Elt Ideal) arg6.view (Rect.unit (s := S1x8x96x128) ![0, 0, 0, 0] S1x1x96x128.size b6).toLoadRect (harg6.unread x4))
        (View.readAt (Elt Ideal) arg8.view (Rect.unit (s := S1x8x96x128) ![0, 0, 0, 0] S1x1x96x128.size b8).toLoadRect (harg8.unread x6))) (ix2 a d) = vAt (i 1) x4 x5 x6 fdb 0 a := by
  rw [headV_apply]
  unfold vAt
  congr 2
  funext k
  rw [hx_0]

/-- The stored codes of head 0 are the block of codes at the head's place. -/
theorem co_piece_0 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 0] slices_S128x128_o0_0_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 0#32) S1x128.size b15).toLoadRect (harg15.unread fdb))
        (View.readAt (Elt Ideal) arg6.view (Rect.unit (s := S1x8x96x128) ![0, 0, 0, 0] S1x1x96x128.size b6).toLoadRect (harg6.unread x4))
        (View.readAt (Elt Ideal) arg8.view (Rect.unit (s := S1x8x96x128) ![0, 0, 0, 0] S1x1x96x128.size b8).toLoadRect (harg8.unread x6))) (headF (headE (headV (headX (F := Ideal) ![0, 0] slices_S128x128_o0_0_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 0#32) S1x128.size b15).toLoadRect (harg15.unread fdb))
        (View.readAt (Elt Ideal) arg6.view (Rect.unit (s := S1x8x96x128) ![0, 0, 0, 0] S1x1x96x128.size b6).toLoadRect (harg6.unread x4))
        (View.readAt (Elt Ideal) arg8.view (Rect.unit (s := S1x8x96x128) ![0, 0, 0, 0] S1x1x96x128.size b8).toLoadRect (harg8.unread x6)))))) x
      = coSpec (i 1) x4 x5 x6 fdb ((Rect.unit (s := S1x8x96x128) ![0, 0, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_0, hv_0]
  have e : (Rect.unit (s := S1x8x96x128) ![0, 0, 0, 0] S1x1x96x128.size bo).emb (ix4 0 0 a d) = ix4 0 0 a d := by
    funext q; apply Fin.ext; fin_cases q
    · rfl
    · rfl
    · change 0 + 1 * a.val = a.val; omega
    · change 0 + 1 * d.val = d.val; omega
  rw [e]
  rfl

/-- The stored scales of head 0 are the block of scales at the head's place. -/
theorem so_piece_0 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 0] slices_S128x128_o0_0_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 0#32) S1x128.size b15).toLoadRect (harg15.unread fdb))
        (View.readAt (Elt Ideal) arg6.view (Rect.unit (s := S1x8x96x128) ![0, 0, 0, 0] S1x1x96x128.size b6).toLoadRect (harg6.unread x4))
        (View.readAt (Elt Ideal) arg8.view (Rect.unit (s := S1x8x96x128) ![0, 0, 0, 0] S1x1x96x128.size b8).toLoadRect (harg8.unread x6)))))) x
      = soSpec (i 1) x4 x5 x6 fdb ((Rect.unit (s := S1x8x96) ![0, 0, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_0]
  have e : (Rect.unit (s := S1x8x96) ![0, 0, 0] S1x1x96.size bo).emb (ix3 0 0 a) = ix3 0 0 a := by
    funext q; apply Fin.ext; fin_cases q
    · rfl
    · rfl
    · change 0 + 1 * a.val = a.val; omega
  rw [e]
  rfl

theorem offh_1 (i : grid0.Coords) : k0_off1 i 1#32 = ![8 * (i 1).val + 1, 0] := by
  have e : k0_off1 i 1#32 = ![(Scalar.indexCast (Scalar.addi (Scalar.muli (BitVec.ofNat 32 (i 1).val) 8#32) 1#32)).toNat, 0] := rfl
  have w : ∀ j : Fin 15, (Scalar.indexCast (Scalar.addi (Scalar.muli (BitVec.ofNat 32 j.val) 8#32) 1#32)).toNat = 8 * j.val + 1 := by decide
  rw [e, w (i 1)]

theorem lt_1 (i : grid0.Coords) : 8 * (i 1).val + 1 < 128 := by
  have h : (i 1).val < 15 := (i 1).isLt
  omega

/-- Head 1's state, read from the blocks. -/
theorem hx_1 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 1] slices_S128x128_o0_1_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 1#32) S1x128.size b15).toLoadRect (harg15.unread fdb))
        (View.readAt (Elt Ideal) arg6.view (Rect.unit (s := S1x8x96x128) ![0, 1, 0, 0] S1x1x96x128.size b6).toLoadRect (harg6.unread x4))
        (View.readAt (Elt Ideal) arg8.view (Rect.unit (s := S1x8x96x128) ![0, 1, 0, 0] S1x1x96x128.size b8).toLoadRect (harg8.unread x6))) (ix2 a d) = hAt (i 1) x4 x5 x6 fdb 1 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_1]
  unfold hAt
  have e15 := ld_at arg15 harg15 fdb (k0_off1 i 1#32) S1x128.size b15 (ix2 0 d) (ix2 ⟨8 * (i 1).val + 1, lt_1 i⟩ d)
    (by intro a; refine (congrArg (· + _) (congrFun (offh_1 i) a)).trans ?_; fin_cases a <;> first | rfl | exact Nat.zero_add _)
  have e6 := ld_at arg6 harg6 x4 ![0, 1, 0, 0] S1x1x96x128.size b6 (ix4 0 0 a d) (ix4 0 1 a d)
    (by intro a; fin_cases a <;> first | rfl | exact Nat.zero_add _)
  have e8 := ld_at arg8 harg8 x6 ![0, 1, 0, 0] S1x1x96x128.size b8 (ix4 0 0 a d) (ix4 0 1 a d)
    (by intro a; fin_cases a <;> first | rfl | exact Nat.zero_add _)
  exact congrArg₂ (· + ·) (congrArg₂ (· * ·) e15 (congrArg₂ (· * ·) e6 rfl)) e8

theorem hv_1 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 1] slices_S128x128_o0_1_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 1#32) S1x128.size b15).toLoadRect (harg15.unread fdb))
        (View.readAt (Elt Ideal) arg6.view (Rect.unit (s := S1x8x96x128) ![0, 1, 0, 0] S1x1x96x128.size b6).toLoadRect (harg6.unread x4))
        (View.readAt (Elt Ideal) arg8.view (Rect.unit (s := S1x8x96x128) ![0, 1, 0, 0] S1x1x96x128.size b8).toLoadRect (harg8.unread x6))) (ix2 a d) = vAt (i 1) x4 x5 x6 fdb 1 a := by
  rw [headV_apply]
  unfold vAt
  congr 2
  funext k
  rw [hx_1]

/-- The stored codes of head 1 are the block of codes at the head's place. -/
theorem co_piece_1 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 1] slices_S128x128_o0_1_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 1#32) S1x128.size b15).toLoadRect (harg15.unread fdb))
        (View.readAt (Elt Ideal) arg6.view (Rect.unit (s := S1x8x96x128) ![0, 1, 0, 0] S1x1x96x128.size b6).toLoadRect (harg6.unread x4))
        (View.readAt (Elt Ideal) arg8.view (Rect.unit (s := S1x8x96x128) ![0, 1, 0, 0] S1x1x96x128.size b8).toLoadRect (harg8.unread x6))) (headF (headE (headV (headX (F := Ideal) ![0, 1] slices_S128x128_o0_1_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 1#32) S1x128.size b15).toLoadRect (harg15.unread fdb))
        (View.readAt (Elt Ideal) arg6.view (Rect.unit (s := S1x8x96x128) ![0, 1, 0, 0] S1x1x96x128.size b6).toLoadRect (harg6.unread x4))
        (View.readAt (Elt Ideal) arg8.view (Rect.unit (s := S1x8x96x128) ![0, 1, 0, 0] S1x1x96x128.size b8).toLoadRect (harg8.unread x6)))))) x
      = coSpec (i 1) x4 x5 x6 fdb ((Rect.unit (s := S1x8x96x128) ![0, 1, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_1, hv_1]
  have e : (Rect.unit (s := S1x8x96x128) ![0, 1, 0, 0] S1x1x96x128.size bo).emb (ix4 0 0 a d) = ix4 0 1 a d := by
    funext q; apply Fin.ext; fin_cases q
    · rfl
    · rfl
    · change 0 + 1 * a.val = a.val; omega
    · change 0 + 1 * d.val = d.val; omega
  rw [e]
  rfl

/-- The stored scales of head 1 are the block of scales at the head's place. -/
theorem so_piece_1 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 1] slices_S128x128_o0_1_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 1#32) S1x128.size b15).toLoadRect (harg15.unread fdb))
        (View.readAt (Elt Ideal) arg6.view (Rect.unit (s := S1x8x96x128) ![0, 1, 0, 0] S1x1x96x128.size b6).toLoadRect (harg6.unread x4))
        (View.readAt (Elt Ideal) arg8.view (Rect.unit (s := S1x8x96x128) ![0, 1, 0, 0] S1x1x96x128.size b8).toLoadRect (harg8.unread x6)))))) x
      = soSpec (i 1) x4 x5 x6 fdb ((Rect.unit (s := S1x8x96) ![0, 1, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_1]
  have e : (Rect.unit (s := S1x8x96) ![0, 1, 0] S1x1x96.size bo).emb (ix3 0 0 a) = ix3 0 1 a := by
    funext q; apply Fin.ext; fin_cases q
    · rfl
    · rfl
    · change 0 + 1 * a.val = a.val; omega
  rw [e]
  rfl

theorem offh_2 (i : grid0.Coords) : k0_off1 i 2#32 = ![8 * (i 1).val + 2, 0] := by
  have e : k0_off1 i 2#32 = ![(Scalar.indexCast (Scalar.addi (Scalar.muli (BitVec.ofNat 32 (i 1).val) 8#32) 2#32)).toNat, 0] := rfl
  have w : ∀ j : Fin 15, (Scalar.indexCast (Scalar.addi (Scalar.muli (BitVec.ofNat 32 j.val) 8#32) 2#32)).toNat = 8 * j.val + 2 := by decide
  rw [e, w (i 1)]

theorem lt_2 (i : grid0.Coords) : 8 * (i 1).val + 2 < 128 := by
  have h : (i 1).val < 15 := (i 1).isLt
  omega

/-- Head 2's state, read from the blocks. -/
theorem hx_2 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 2] slices_S128x128_o0_2_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 2#32) S1x128.size b15).toLoadRect (harg15.unread fdb))
        (View.readAt (Elt Ideal) arg6.view (Rect.unit (s := S1x8x96x128) ![0, 2, 0, 0] S1x1x96x128.size b6).toLoadRect (harg6.unread x4))
        (View.readAt (Elt Ideal) arg8.view (Rect.unit (s := S1x8x96x128) ![0, 2, 0, 0] S1x1x96x128.size b8).toLoadRect (harg8.unread x6))) (ix2 a d) = hAt (i 1) x4 x5 x6 fdb 2 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_2]
  unfold hAt
  have e15 := ld_at arg15 harg15 fdb (k0_off1 i 2#32) S1x128.size b15 (ix2 0 d) (ix2 ⟨8 * (i 1).val + 2, lt_2 i⟩ d)
    (by intro a; refine (congrArg (· + _) (congrFun (offh_2 i) a)).trans ?_; fin_cases a <;> first | rfl | exact Nat.zero_add _)
  have e6 := ld_at arg6 harg6 x4 ![0, 2, 0, 0] S1x1x96x128.size b6 (ix4 0 0 a d) (ix4 0 2 a d)
    (by intro a; fin_cases a <;> first | rfl | exact Nat.zero_add _)
  have e8 := ld_at arg8 harg8 x6 ![0, 2, 0, 0] S1x1x96x128.size b8 (ix4 0 0 a d) (ix4 0 2 a d)
    (by intro a; fin_cases a <;> first | rfl | exact Nat.zero_add _)
  exact congrArg₂ (· + ·) (congrArg₂ (· * ·) e15 (congrArg₂ (· * ·) e6 rfl)) e8

theorem hv_2 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 2] slices_S128x128_o0_2_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 2#32) S1x128.size b15).toLoadRect (harg15.unread fdb))
        (View.readAt (Elt Ideal) arg6.view (Rect.unit (s := S1x8x96x128) ![0, 2, 0, 0] S1x1x96x128.size b6).toLoadRect (harg6.unread x4))
        (View.readAt (Elt Ideal) arg8.view (Rect.unit (s := S1x8x96x128) ![0, 2, 0, 0] S1x1x96x128.size b8).toLoadRect (harg8.unread x6))) (ix2 a d) = vAt (i 1) x4 x5 x6 fdb 2 a := by
  rw [headV_apply]
  unfold vAt
  congr 2
  funext k
  rw [hx_2]

/-- The stored codes of head 2 are the block of codes at the head's place. -/
theorem co_piece_2 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 2] slices_S128x128_o0_2_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 2#32) S1x128.size b15).toLoadRect (harg15.unread fdb))
        (View.readAt (Elt Ideal) arg6.view (Rect.unit (s := S1x8x96x128) ![0, 2, 0, 0] S1x1x96x128.size b6).toLoadRect (harg6.unread x4))
        (View.readAt (Elt Ideal) arg8.view (Rect.unit (s := S1x8x96x128) ![0, 2, 0, 0] S1x1x96x128.size b8).toLoadRect (harg8.unread x6))) (headF (headE (headV (headX (F := Ideal) ![0, 2] slices_S128x128_o0_2_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 2#32) S1x128.size b15).toLoadRect (harg15.unread fdb))
        (View.readAt (Elt Ideal) arg6.view (Rect.unit (s := S1x8x96x128) ![0, 2, 0, 0] S1x1x96x128.size b6).toLoadRect (harg6.unread x4))
        (View.readAt (Elt Ideal) arg8.view (Rect.unit (s := S1x8x96x128) ![0, 2, 0, 0] S1x1x96x128.size b8).toLoadRect (harg8.unread x6)))))) x
      = coSpec (i 1) x4 x5 x6 fdb ((Rect.unit (s := S1x8x96x128) ![0, 2, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_2, hv_2]
  have e : (Rect.unit (s := S1x8x96x128) ![0, 2, 0, 0] S1x1x96x128.size bo).emb (ix4 0 0 a d) = ix4 0 2 a d := by
    funext q; apply Fin.ext; fin_cases q
    · rfl
    · rfl
    · change 0 + 1 * a.val = a.val; omega
    · change 0 + 1 * d.val = d.val; omega
  rw [e]
  rfl

/-- The stored scales of head 2 are the block of scales at the head's place. -/
theorem so_piece_2 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 2] slices_S128x128_o0_2_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 2#32) S1x128.size b15).toLoadRect (harg15.unread fdb))
        (View.readAt (Elt Ideal) arg6.view (Rect.unit (s := S1x8x96x128) ![0, 2, 0, 0] S1x1x96x128.size b6).toLoadRect (harg6.unread x4))
        (View.readAt (Elt Ideal) arg8.view (Rect.unit (s := S1x8x96x128) ![0, 2, 0, 0] S1x1x96x128.size b8).toLoadRect (harg8.unread x6)))))) x
      = soSpec (i 1) x4 x5 x6 fdb ((Rect.unit (s := S1x8x96) ![0, 2, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_2]
  have e : (Rect.unit (s := S1x8x96) ![0, 2, 0] S1x1x96.size bo).emb (ix3 0 0 a) = ix3 0 2 a := by
    funext q; apply Fin.ext; fin_cases q
    · rfl
    · rfl
    · change 0 + 1 * a.val = a.val; omega
  rw [e]
  rfl

theorem offh_3 (i : grid0.Coords) : k0_off1 i 3#32 = ![8 * (i 1).val + 3, 0] := by
  have e : k0_off1 i 3#32 = ![(Scalar.indexCast (Scalar.addi (Scalar.muli (BitVec.ofNat 32 (i 1).val) 8#32) 3#32)).toNat, 0] := rfl
  have w : ∀ j : Fin 15, (Scalar.indexCast (Scalar.addi (Scalar.muli (BitVec.ofNat 32 j.val) 8#32) 3#32)).toNat = 8 * j.val + 3 := by decide
  rw [e, w (i 1)]

theorem lt_3 (i : grid0.Coords) : 8 * (i 1).val + 3 < 128 := by
  have h : (i 1).val < 15 := (i 1).isLt
  omega

/-- Head 3's state, read from the blocks. -/
theorem hx_3 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 3] slices_S128x128_o0_3_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 3#32) S1x128.size b15).toLoadRect (harg15.unread fdb))
        (View.readAt (Elt Ideal) arg6.view (Rect.unit (s := S1x8x96x128) ![0, 3, 0, 0] S1x1x96x128.size b6).toLoadRect (harg6.unread x4))
        (View.readAt (Elt Ideal) arg8.view (Rect.unit (s := S1x8x96x128) ![0, 3, 0, 0] S1x1x96x128.size b8).toLoadRect (harg8.unread x6))) (ix2 a d) = hAt (i 1) x4 x5 x6 fdb 3 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_3]
  unfold hAt
  have e15 := ld_at arg15 harg15 fdb (k0_off1 i 3#32) S1x128.size b15 (ix2 0 d) (ix2 ⟨8 * (i 1).val + 3, lt_3 i⟩ d)
    (by intro a; refine (congrArg (· + _) (congrFun (offh_3 i) a)).trans ?_; fin_cases a <;> first | rfl | exact Nat.zero_add _)
  have e6 := ld_at arg6 harg6 x4 ![0, 3, 0, 0] S1x1x96x128.size b6 (ix4 0 0 a d) (ix4 0 3 a d)
    (by intro a; fin_cases a <;> first | rfl | exact Nat.zero_add _)
  have e8 := ld_at arg8 harg8 x6 ![0, 3, 0, 0] S1x1x96x128.size b8 (ix4 0 0 a d) (ix4 0 3 a d)
    (by intro a; fin_cases a <;> first | rfl | exact Nat.zero_add _)
  exact congrArg₂ (· + ·) (congrArg₂ (· * ·) e15 (congrArg₂ (· * ·) e6 rfl)) e8

theorem hv_3 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 3] slices_S128x128_o0_3_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 3#32) S1x128.size b15).toLoadRect (harg15.unread fdb))
        (View.readAt (Elt Ideal) arg6.view (Rect.unit (s := S1x8x96x128) ![0, 3, 0, 0] S1x1x96x128.size b6).toLoadRect (harg6.unread x4))
        (View.readAt (Elt Ideal) arg8.view (Rect.unit (s := S1x8x96x128) ![0, 3, 0, 0] S1x1x96x128.size b8).toLoadRect (harg8.unread x6))) (ix2 a d) = vAt (i 1) x4 x5 x6 fdb 3 a := by
  rw [headV_apply]
  unfold vAt
  congr 2
  funext k
  rw [hx_3]

/-- The stored codes of head 3 are the block of codes at the head's place. -/
theorem co_piece_3 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 3] slices_S128x128_o0_3_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 3#32) S1x128.size b15).toLoadRect (harg15.unread fdb))
        (View.readAt (Elt Ideal) arg6.view (Rect.unit (s := S1x8x96x128) ![0, 3, 0, 0] S1x1x96x128.size b6).toLoadRect (harg6.unread x4))
        (View.readAt (Elt Ideal) arg8.view (Rect.unit (s := S1x8x96x128) ![0, 3, 0, 0] S1x1x96x128.size b8).toLoadRect (harg8.unread x6))) (headF (headE (headV (headX (F := Ideal) ![0, 3] slices_S128x128_o0_3_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 3#32) S1x128.size b15).toLoadRect (harg15.unread fdb))
        (View.readAt (Elt Ideal) arg6.view (Rect.unit (s := S1x8x96x128) ![0, 3, 0, 0] S1x1x96x128.size b6).toLoadRect (harg6.unread x4))
        (View.readAt (Elt Ideal) arg8.view (Rect.unit (s := S1x8x96x128) ![0, 3, 0, 0] S1x1x96x128.size b8).toLoadRect (harg8.unread x6)))))) x
      = coSpec (i 1) x4 x5 x6 fdb ((Rect.unit (s := S1x8x96x128) ![0, 3, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_3, hv_3]
  have e : (Rect.unit (s := S1x8x96x128) ![0, 3, 0, 0] S1x1x96x128.size bo).emb (ix4 0 0 a d) = ix4 0 3 a d := by
    funext q; apply Fin.ext; fin_cases q
    · rfl
    · rfl
    · change 0 + 1 * a.val = a.val; omega
    · change 0 + 1 * d.val = d.val; omega
  rw [e]
  rfl

/-- The stored scales of head 3 are the block of scales at the head's place. -/
theorem so_piece_3 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 3] slices_S128x128_o0_3_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 3#32) S1x128.size b15).toLoadRect (harg15.unread fdb))
        (View.readAt (Elt Ideal) arg6.view (Rect.unit (s := S1x8x96x128) ![0, 3, 0, 0] S1x1x96x128.size b6).toLoadRect (harg6.unread x4))
        (View.readAt (Elt Ideal) arg8.view (Rect.unit (s := S1x8x96x128) ![0, 3, 0, 0] S1x1x96x128.size b8).toLoadRect (harg8.unread x6)))))) x
      = soSpec (i 1) x4 x5 x6 fdb ((Rect.unit (s := S1x8x96) ![0, 3, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_3]
  have e : (Rect.unit (s := S1x8x96) ![0, 3, 0] S1x1x96.size bo).emb (ix3 0 0 a) = ix3 0 3 a := by
    funext q; apply Fin.ext; fin_cases q
    · rfl
    · rfl
    · change 0 + 1 * a.val = a.val; omega
  rw [e]
  rfl

theorem offh_4 (i : grid0.Coords) : k0_off1 i 4#32 = ![8 * (i 1).val + 4, 0] := by
  have e : k0_off1 i 4#32 = ![(Scalar.indexCast (Scalar.addi (Scalar.muli (BitVec.ofNat 32 (i 1).val) 8#32) 4#32)).toNat, 0] := rfl
  have w : ∀ j : Fin 15, (Scalar.indexCast (Scalar.addi (Scalar.muli (BitVec.ofNat 32 j.val) 8#32) 4#32)).toNat = 8 * j.val + 4 := by decide
  rw [e, w (i 1)]

theorem lt_4 (i : grid0.Coords) : 8 * (i 1).val + 4 < 128 := by
  have h : (i 1).val < 15 := (i 1).isLt
  omega

/-- Head 4's state, read from the blocks. -/
theorem hx_4 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 4] slices_S128x128_o0_4_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 4#32) S1x128.size b15).toLoadRect (harg15.unread fdb))
        (View.readAt (Elt Ideal) arg6.view (Rect.unit (s := S1x8x96x128) ![0, 4, 0, 0] S1x1x96x128.size b6).toLoadRect (harg6.unread x4))
        (View.readAt (Elt Ideal) arg8.view (Rect.unit (s := S1x8x96x128) ![0, 4, 0, 0] S1x1x96x128.size b8).toLoadRect (harg8.unread x6))) (ix2 a d) = hAt (i 1) x4 x5 x6 fdb 4 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_4]
  unfold hAt
  have e15 := ld_at arg15 harg15 fdb (k0_off1 i 4#32) S1x128.size b15 (ix2 0 d) (ix2 ⟨8 * (i 1).val + 4, lt_4 i⟩ d)
    (by intro a; refine (congrArg (· + _) (congrFun (offh_4 i) a)).trans ?_; fin_cases a <;> first | rfl | exact Nat.zero_add _)
  have e6 := ld_at arg6 harg6 x4 ![0, 4, 0, 0] S1x1x96x128.size b6 (ix4 0 0 a d) (ix4 0 4 a d)
    (by intro a; fin_cases a <;> first | rfl | exact Nat.zero_add _)
  have e8 := ld_at arg8 harg8 x6 ![0, 4, 0, 0] S1x1x96x128.size b8 (ix4 0 0 a d) (ix4 0 4 a d)
    (by intro a; fin_cases a <;> first | rfl | exact Nat.zero_add _)
  exact congrArg₂ (· + ·) (congrArg₂ (· * ·) e15 (congrArg₂ (· * ·) e6 rfl)) e8

theorem hv_4 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 4] slices_S128x128_o0_4_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 4#32) S1x128.size b15).toLoadRect (harg15.unread fdb))
        (View.readAt (Elt Ideal) arg6.view (Rect.unit (s := S1x8x96x128) ![0, 4, 0, 0] S1x1x96x128.size b6).toLoadRect (harg6.unread x4))
        (View.readAt (Elt Ideal) arg8.view (Rect.unit (s := S1x8x96x128) ![0, 4, 0, 0] S1x1x96x128.size b8).toLoadRect (harg8.unread x6))) (ix2 a d) = vAt (i 1) x4 x5 x6 fdb 4 a := by
  rw [headV_apply]
  unfold vAt
  congr 2
  funext k
  rw [hx_4]

/-- The stored codes of head 4 are the block of codes at the head's place. -/
theorem co_piece_4 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 4] slices_S128x128_o0_4_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 4#32) S1x128.size b15).toLoadRect (harg15.unread fdb))
        (View.readAt (Elt Ideal) arg6.view (Rect.unit (s := S1x8x96x128) ![0, 4, 0, 0] S1x1x96x128.size b6).toLoadRect (harg6.unread x4))
        (View.readAt (Elt Ideal) arg8.view (Rect.unit (s := S1x8x96x128) ![0, 4, 0, 0] S1x1x96x128.size b8).toLoadRect (harg8.unread x6))) (headF (headE (headV (headX (F := Ideal) ![0, 4] slices_S128x128_o0_4_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 4#32) S1x128.size b15).toLoadRect (harg15.unread fdb))
        (View.readAt (Elt Ideal) arg6.view (Rect.unit (s := S1x8x96x128) ![0, 4, 0, 0] S1x1x96x128.size b6).toLoadRect (harg6.unread x4))
        (View.readAt (Elt Ideal) arg8.view (Rect.unit (s := S1x8x96x128) ![0, 4, 0, 0] S1x1x96x128.size b8).toLoadRect (harg8.unread x6)))))) x
      = coSpec (i 1) x4 x5 x6 fdb ((Rect.unit (s := S1x8x96x128) ![0, 4, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_4, hv_4]
  have e : (Rect.unit (s := S1x8x96x128) ![0, 4, 0, 0] S1x1x96x128.size bo).emb (ix4 0 0 a d) = ix4 0 4 a d := by
    funext q; apply Fin.ext; fin_cases q
    · rfl
    · rfl
    · change 0 + 1 * a.val = a.val; omega
    · change 0 + 1 * d.val = d.val; omega
  rw [e]
  rfl

/-- The stored scales of head 4 are the block of scales at the head's place. -/
theorem so_piece_4 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 4] slices_S128x128_o0_4_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 4#32) S1x128.size b15).toLoadRect (harg15.unread fdb))
        (View.readAt (Elt Ideal) arg6.view (Rect.unit (s := S1x8x96x128) ![0, 4, 0, 0] S1x1x96x128.size b6).toLoadRect (harg6.unread x4))
        (View.readAt (Elt Ideal) arg8.view (Rect.unit (s := S1x8x96x128) ![0, 4, 0, 0] S1x1x96x128.size b8).toLoadRect (harg8.unread x6)))))) x
      = soSpec (i 1) x4 x5 x6 fdb ((Rect.unit (s := S1x8x96) ![0, 4, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_4]
  have e : (Rect.unit (s := S1x8x96) ![0, 4, 0] S1x1x96.size bo).emb (ix3 0 0 a) = ix3 0 4 a := by
    funext q; apply Fin.ext; fin_cases q
    · rfl
    · rfl
    · change 0 + 1 * a.val = a.val; omega
  rw [e]
  rfl

theorem offh_5 (i : grid0.Coords) : k0_off1 i 5#32 = ![8 * (i 1).val + 5, 0] := by
  have e : k0_off1 i 5#32 = ![(Scalar.indexCast (Scalar.addi (Scalar.muli (BitVec.ofNat 32 (i 1).val) 8#32) 5#32)).toNat, 0] := rfl
  have w : ∀ j : Fin 15, (Scalar.indexCast (Scalar.addi (Scalar.muli (BitVec.ofNat 32 j.val) 8#32) 5#32)).toNat = 8 * j.val + 5 := by decide
  rw [e, w (i 1)]

theorem lt_5 (i : grid0.Coords) : 8 * (i 1).val + 5 < 128 := by
  have h : (i 1).val < 15 := (i 1).isLt
  omega

/-- Head 5's state, read from the blocks. -/
theorem hx_5 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 5] slices_S128x128_o0_5_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 5#32) S1x128.size b15).toLoadRect (harg15.unread fdb))
        (View.readAt (Elt Ideal) arg6.view (Rect.unit (s := S1x8x96x128) ![0, 5, 0, 0] S1x1x96x128.size b6).toLoadRect (harg6.unread x4))
        (View.readAt (Elt Ideal) arg8.view (Rect.unit (s := S1x8x96x128) ![0, 5, 0, 0] S1x1x96x128.size b8).toLoadRect (harg8.unread x6))) (ix2 a d) = hAt (i 1) x4 x5 x6 fdb 5 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_5]
  unfold hAt
  have e15 := ld_at arg15 harg15 fdb (k0_off1 i 5#32) S1x128.size b15 (ix2 0 d) (ix2 ⟨8 * (i 1).val + 5, lt_5 i⟩ d)
    (by intro a; refine (congrArg (· + _) (congrFun (offh_5 i) a)).trans ?_; fin_cases a <;> first | rfl | exact Nat.zero_add _)
  have e6 := ld_at arg6 harg6 x4 ![0, 5, 0, 0] S1x1x96x128.size b6 (ix4 0 0 a d) (ix4 0 5 a d)
    (by intro a; fin_cases a <;> first | rfl | exact Nat.zero_add _)
  have e8 := ld_at arg8 harg8 x6 ![0, 5, 0, 0] S1x1x96x128.size b8 (ix4 0 0 a d) (ix4 0 5 a d)
    (by intro a; fin_cases a <;> first | rfl | exact Nat.zero_add _)
  exact congrArg₂ (· + ·) (congrArg₂ (· * ·) e15 (congrArg₂ (· * ·) e6 rfl)) e8

theorem hv_5 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 5] slices_S128x128_o0_5_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 5#32) S1x128.size b15).toLoadRect (harg15.unread fdb))
        (View.readAt (Elt Ideal) arg6.view (Rect.unit (s := S1x8x96x128) ![0, 5, 0, 0] S1x1x96x128.size b6).toLoadRect (harg6.unread x4))
        (View.readAt (Elt Ideal) arg8.view (Rect.unit (s := S1x8x96x128) ![0, 5, 0, 0] S1x1x96x128.size b8).toLoadRect (harg8.unread x6))) (ix2 a d) = vAt (i 1) x4 x5 x6 fdb 5 a := by
  rw [headV_apply]
  unfold vAt
  congr 2
  funext k
  rw [hx_5]

/-- The stored codes of head 5 are the block of codes at the head's place. -/
theorem co_piece_5 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 5] slices_S128x128_o0_5_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 5#32) S1x128.size b15).toLoadRect (harg15.unread fdb))
        (View.readAt (Elt Ideal) arg6.view (Rect.unit (s := S1x8x96x128) ![0, 5, 0, 0] S1x1x96x128.size b6).toLoadRect (harg6.unread x4))
        (View.readAt (Elt Ideal) arg8.view (Rect.unit (s := S1x8x96x128) ![0, 5, 0, 0] S1x1x96x128.size b8).toLoadRect (harg8.unread x6))) (headF (headE (headV (headX (F := Ideal) ![0, 5] slices_S128x128_o0_5_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 5#32) S1x128.size b15).toLoadRect (harg15.unread fdb))
        (View.readAt (Elt Ideal) arg6.view (Rect.unit (s := S1x8x96x128) ![0, 5, 0, 0] S1x1x96x128.size b6).toLoadRect (harg6.unread x4))
        (View.readAt (Elt Ideal) arg8.view (Rect.unit (s := S1x8x96x128) ![0, 5, 0, 0] S1x1x96x128.size b8).toLoadRect (harg8.unread x6)))))) x
      = coSpec (i 1) x4 x5 x6 fdb ((Rect.unit (s := S1x8x96x128) ![0, 5, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_5, hv_5]
  have e : (Rect.unit (s := S1x8x96x128) ![0, 5, 0, 0] S1x1x96x128.size bo).emb (ix4 0 0 a d) = ix4 0 5 a d := by
    funext q; apply Fin.ext; fin_cases q
    · rfl
    · rfl
    · change 0 + 1 * a.val = a.val; omega
    · change 0 + 1 * d.val = d.val; omega
  rw [e]
  rfl

/-- The stored scales of head 5 are the block of scales at the head's place. -/
theorem so_piece_5 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 5] slices_S128x128_o0_5_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 5#32) S1x128.size b15).toLoadRect (harg15.unread fdb))
        (View.readAt (Elt Ideal) arg6.view (Rect.unit (s := S1x8x96x128) ![0, 5, 0, 0] S1x1x96x128.size b6).toLoadRect (harg6.unread x4))
        (View.readAt (Elt Ideal) arg8.view (Rect.unit (s := S1x8x96x128) ![0, 5, 0, 0] S1x1x96x128.size b8).toLoadRect (harg8.unread x6)))))) x
      = soSpec (i 1) x4 x5 x6 fdb ((Rect.unit (s := S1x8x96) ![0, 5, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_5]
  have e : (Rect.unit (s := S1x8x96) ![0, 5, 0] S1x1x96.size bo).emb (ix3 0 0 a) = ix3 0 5 a := by
    funext q; apply Fin.ext; fin_cases q
    · rfl
    · rfl
    · change 0 + 1 * a.val = a.val; omega
  rw [e]
  rfl

theorem offh_6 (i : grid0.Coords) : k0_off1 i 6#32 = ![8 * (i 1).val + 6, 0] := by
  have e : k0_off1 i 6#32 = ![(Scalar.indexCast (Scalar.addi (Scalar.muli (BitVec.ofNat 32 (i 1).val) 8#32) 6#32)).toNat, 0] := rfl
  have w : ∀ j : Fin 15, (Scalar.indexCast (Scalar.addi (Scalar.muli (BitVec.ofNat 32 j.val) 8#32) 6#32)).toNat = 8 * j.val + 6 := by decide
  rw [e, w (i 1)]

theorem lt_6 (i : grid0.Coords) : 8 * (i 1).val + 6 < 128 := by
  have h : (i 1).val < 15 := (i 1).isLt
  omega

/-- Head 6's state, read from the blocks. -/
theorem hx_6 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 6] slices_S128x128_o0_6_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 6#32) S1x128.size b15).toLoadRect (harg15.unread fdb))
        (View.readAt (Elt Ideal) arg6.view (Rect.unit (s := S1x8x96x128) ![0, 6, 0, 0] S1x1x96x128.size b6).toLoadRect (harg6.unread x4))
        (View.readAt (Elt Ideal) arg8.view (Rect.unit (s := S1x8x96x128) ![0, 6, 0, 0] S1x1x96x128.size b8).toLoadRect (harg8.unread x6))) (ix2 a d) = hAt (i 1) x4 x5 x6 fdb 6 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_6]
  unfold hAt
  have e15 := ld_at arg15 harg15 fdb (k0_off1 i 6#32) S1x128.size b15 (ix2 0 d) (ix2 ⟨8 * (i 1).val + 6, lt_6 i⟩ d)
    (by intro a; refine (congrArg (· + _) (congrFun (offh_6 i) a)).trans ?_; fin_cases a <;> first | rfl | exact Nat.zero_add _)
  have e6 := ld_at arg6 harg6 x4 ![0, 6, 0, 0] S1x1x96x128.size b6 (ix4 0 0 a d) (ix4 0 6 a d)
    (by intro a; fin_cases a <;> first | rfl | exact Nat.zero_add _)
  have e8 := ld_at arg8 harg8 x6 ![0, 6, 0, 0] S1x1x96x128.size b8 (ix4 0 0 a d) (ix4 0 6 a d)
    (by intro a; fin_cases a <;> first | rfl | exact Nat.zero_add _)
  exact congrArg₂ (· + ·) (congrArg₂ (· * ·) e15 (congrArg₂ (· * ·) e6 rfl)) e8

theorem hv_6 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 6] slices_S128x128_o0_6_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 6#32) S1x128.size b15).toLoadRect (harg15.unread fdb))
        (View.readAt (Elt Ideal) arg6.view (Rect.unit (s := S1x8x96x128) ![0, 6, 0, 0] S1x1x96x128.size b6).toLoadRect (harg6.unread x4))
        (View.readAt (Elt Ideal) arg8.view (Rect.unit (s := S1x8x96x128) ![0, 6, 0, 0] S1x1x96x128.size b8).toLoadRect (harg8.unread x6))) (ix2 a d) = vAt (i 1) x4 x5 x6 fdb 6 a := by
  rw [headV_apply]
  unfold vAt
  congr 2
  funext k
  rw [hx_6]

/-- The stored codes of head 6 are the block of codes at the head's place. -/
theorem co_piece_6 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 6] slices_S128x128_o0_6_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 6#32) S1x128.size b15).toLoadRect (harg15.unread fdb))
        (View.readAt (Elt Ideal) arg6.view (Rect.unit (s := S1x8x96x128) ![0, 6, 0, 0] S1x1x96x128.size b6).toLoadRect (harg6.unread x4))
        (View.readAt (Elt Ideal) arg8.view (Rect.unit (s := S1x8x96x128) ![0, 6, 0, 0] S1x1x96x128.size b8).toLoadRect (harg8.unread x6))) (headF (headE (headV (headX (F := Ideal) ![0, 6] slices_S128x128_o0_6_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 6#32) S1x128.size b15).toLoadRect (harg15.unread fdb))
        (View.readAt (Elt Ideal) arg6.view (Rect.unit (s := S1x8x96x128) ![0, 6, 0, 0] S1x1x96x128.size b6).toLoadRect (harg6.unread x4))
        (View.readAt (Elt Ideal) arg8.view (Rect.unit (s := S1x8x96x128) ![0, 6, 0, 0] S1x1x96x128.size b8).toLoadRect (harg8.unread x6)))))) x
      = coSpec (i 1) x4 x5 x6 fdb ((Rect.unit (s := S1x8x96x128) ![0, 6, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_6, hv_6]
  have e : (Rect.unit (s := S1x8x96x128) ![0, 6, 0, 0] S1x1x96x128.size bo).emb (ix4 0 0 a d) = ix4 0 6 a d := by
    funext q; apply Fin.ext; fin_cases q
    · rfl
    · rfl
    · change 0 + 1 * a.val = a.val; omega
    · change 0 + 1 * d.val = d.val; omega
  rw [e]
  rfl

/-- The stored scales of head 6 are the block of scales at the head's place. -/
theorem so_piece_6 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 6] slices_S128x128_o0_6_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 6#32) S1x128.size b15).toLoadRect (harg15.unread fdb))
        (View.readAt (Elt Ideal) arg6.view (Rect.unit (s := S1x8x96x128) ![0, 6, 0, 0] S1x1x96x128.size b6).toLoadRect (harg6.unread x4))
        (View.readAt (Elt Ideal) arg8.view (Rect.unit (s := S1x8x96x128) ![0, 6, 0, 0] S1x1x96x128.size b8).toLoadRect (harg8.unread x6)))))) x
      = soSpec (i 1) x4 x5 x6 fdb ((Rect.unit (s := S1x8x96) ![0, 6, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_6]
  have e : (Rect.unit (s := S1x8x96) ![0, 6, 0] S1x1x96.size bo).emb (ix3 0 0 a) = ix3 0 6 a := by
    funext q; apply Fin.ext; fin_cases q
    · rfl
    · rfl
    · change 0 + 1 * a.val = a.val; omega
  rw [e]
  rfl

theorem offh_7 (i : grid0.Coords) : k0_off1 i 7#32 = ![8 * (i 1).val + 7, 0] := by
  have e : k0_off1 i 7#32 = ![(Scalar.indexCast (Scalar.addi (Scalar.muli (BitVec.ofNat 32 (i 1).val) 8#32) 7#32)).toNat, 0] := rfl
  have w : ∀ j : Fin 15, (Scalar.indexCast (Scalar.addi (Scalar.muli (BitVec.ofNat 32 j.val) 8#32) 7#32)).toNat = 8 * j.val + 7 := by decide
  rw [e, w (i 1)]

theorem lt_7 (i : grid0.Coords) : 8 * (i 1).val + 7 < 128 := by
  have h : (i 1).val < 15 := (i 1).isLt
  omega

/-- Head 7's state, read from the blocks. -/
theorem hx_7 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    (headX (F := Ideal) ![0, 7] slices_S128x128_o0_7_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 7#32) S1x128.size b15).toLoadRect (harg15.unread fdb))
        (View.readAt (Elt Ideal) arg6.view (Rect.unit (s := S1x8x96x128) ![0, 7, 0, 0] S1x1x96x128.size b6).toLoadRect (harg6.unread x4))
        (View.readAt (Elt Ideal) arg8.view (Rect.unit (s := S1x8x96x128) ![0, 7, 0, 0] S1x1x96x128.size b8).toLoadRect (harg8.unread x6))) (ix2 a d) = hAt (i 1) x4 x5 x6 fdb 7 a d := by
  have h5 : View.readAt (Elt Ideal) arg7.view (Rect.unit (s := S1x8x96) ![0, 0, 0] S1x8x96.size b5).toLoadRect (harg7.unread x5) = x5 := by
    funext y; refine ld_at _ _ _ _ _ _ _ _ ?_; intro a; fin_cases a <;> exact Nat.zero_add _
  rw [h5, headX_apply_7]
  unfold hAt
  have e15 := ld_at arg15 harg15 fdb (k0_off1 i 7#32) S1x128.size b15 (ix2 0 d) (ix2 ⟨8 * (i 1).val + 7, lt_7 i⟩ d)
    (by intro a; refine (congrArg (· + _) (congrFun (offh_7 i) a)).trans ?_; fin_cases a <;> first | rfl | exact Nat.zero_add _)
  have e6 := ld_at arg6 harg6 x4 ![0, 7, 0, 0] S1x1x96x128.size b6 (ix4 0 0 a d) (ix4 0 7 a d)
    (by intro a; fin_cases a <;> first | rfl | exact Nat.zero_add _)
  have e8 := ld_at arg8 harg8 x6 ![0, 7, 0, 0] S1x1x96x128.size b8 (ix4 0 0 a d) (ix4 0 7 a d)
    (by intro a; fin_cases a <;> first | rfl | exact Nat.zero_add _)
  exact congrArg₂ (· + ·) (congrArg₂ (· * ·) e15 (congrArg₂ (· * ·) e6 rfl)) e8

theorem hv_7 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (a : Fin 96) (d : Fin 128) :
    headV (headX (F := Ideal) ![0, 7] slices_S128x128_o0_7_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 7#32) S1x128.size b15).toLoadRect (harg15.unread fdb))
        (View.readAt (Elt Ideal) arg6.view (Rect.unit (s := S1x8x96x128) ![0, 7, 0, 0] S1x1x96x128.size b6).toLoadRect (harg6.unread x4))
        (View.readAt (Elt Ideal) arg8.view (Rect.unit (s := S1x8x96x128) ![0, 7, 0, 0] S1x1x96x128.size b8).toLoadRect (harg8.unread x6))) (ix2 a d) = vAt (i 1) x4 x5 x6 fdb 7 a := by
  rw [headV_apply]
  unfold vAt
  congr 2
  funext k
  rw [hx_7]

/-- The stored codes of head 7 are the block of codes at the head's place. -/
theorem co_piece_7 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96x128.Idx) :
    headCo (headX (F := Ideal) ![0, 7] slices_S128x128_o0_7_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 7#32) S1x128.size b15).toLoadRect (harg15.unread fdb))
        (View.readAt (Elt Ideal) arg6.view (Rect.unit (s := S1x8x96x128) ![0, 7, 0, 0] S1x1x96x128.size b6).toLoadRect (harg6.unread x4))
        (View.readAt (Elt Ideal) arg8.view (Rect.unit (s := S1x8x96x128) ![0, 7, 0, 0] S1x1x96x128.size b8).toLoadRect (harg8.unread x6))) (headF (headE (headV (headX (F := Ideal) ![0, 7] slices_S128x128_o0_7_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 7#32) S1x128.size b15).toLoadRect (harg15.unread fdb))
        (View.readAt (Elt Ideal) arg6.view (Rect.unit (s := S1x8x96x128) ![0, 7, 0, 0] S1x1x96x128.size b6).toLoadRect (harg6.unread x4))
        (View.readAt (Elt Ideal) arg8.view (Rect.unit (s := S1x8x96x128) ![0, 7, 0, 0] S1x1x96x128.size b8).toLoadRect (harg8.unread x6)))))) x
      = coSpec (i 1) x4 x5 x6 fdb ((Rect.unit (s := S1x8x96x128) ![0, 7, 0, 0] S1x1x96x128.size bo).emb x) := by
  obtain ⟨z, w, a, d, rfl⟩ : ∃ (z w : Fin 1) (a : Fin 96) (d : Fin 128), x = ix4 z w a d := ⟨x 0, x 1, x 2, x 3, by funext a; fin_cases a <;> rfl⟩
  obtain rfl : z = 0 := Subsingleton.elim _ _
  obtain rfl : w = 0 := Subsingleton.elim _ _
  rw [headCo_apply, hx_7, hv_7]
  have e : (Rect.unit (s := S1x8x96x128) ![0, 7, 0, 0] S1x1x96x128.size bo).emb (ix4 0 0 a d) = ix4 0 7 a d := by
    funext q; apply Fin.ext; fin_cases q
    · rfl
    · rfl
    · change 0 + 1 * a.val = a.val; omega
    · change 0 + 1 * d.val = d.val; omega
  rw [e]
  rfl

/-- The stored scales of head 7 are the block of scales at the head's place. -/
theorem so_piece_7 (i : grid0.Coords) (arg6 : Memref sig .tc .vmem S1x8x96x128 .fp8e4m3) (harg6 : arg6.IsWhole)
    (arg7 : Memref sig .tc .vmem S1x8x96 .f32) (harg7 : arg7.IsWhole) (arg8 : Memref sig .tc .vmem S1x8x96x128 .f32) (harg8 : arg8.IsWhole) (arg15 : Memref sig .tc .vmem S128x128 .f32) (harg15 : arg15.IsWhole)
    (x4 : Vec Ideal S1x8x96x128 .fp8e4m3) (x5 : Vec Ideal S1x8x96 .f32) (x6 : Vec Ideal S1x8x96x128 .f32) (fdb : Vec Ideal S128x128 .f32) (b5 b6 b8 b15) (bo) (x : S1x1x96.Idx) :
    headSo (F := Ideal) (headF (headE (headV (headX (F := Ideal) ![0, 7] slices_S128x128_o0_7_S96x1 (k0_pay165 (View.readAt (Elt Ideal) arg7.view (Rect.unit (s := S1x8x96) ![0, 0, 0] S1x8x96.size b5).toLoadRect (harg7.unread x5)))
        (View.readAt (Elt Ideal) arg15.view (Rect.unit (s := S128x128) (k0_off1 i 7#32) S1x128.size b15).toLoadRect (harg15.unread fdb))
        (View.readAt (Elt Ideal) arg6.view (Rect.unit (s := S1x8x96x128) ![0, 7, 0, 0] S1x1x96x128.size b6).toLoadRect (harg6.unread x4))
        (View.readAt (Elt Ideal) arg8.view (Rect.unit (s := S1x8x96x128) ![0, 7, 0, 0] S1x1x96x128.size b8).toLoadRect (harg8.unread x6)))))) x
      = soSpec (i 1) x4 x5 x6 fdb ((Rect.unit (s := S1x8x96) ![0, 7, 0] S1x1x96.size bo).emb x) := by
  obtain ⟨z, w, a, rfl⟩ : ∃ (z w : Fin 1) (a : Fin 96), x = ix3 z w a := ⟨x 0, x 1, x 2, by funext a; fin_cases a <;> rfl⟩
  obtain rfl : z = 0 := Subsingleton.elim _ _
  obtain rfl : w = 0 := Subsingleton.elim _ _
  rw [headSo_apply, hv_7]
  have e : (Rect.unit (s := S1x8x96) ![0, 7, 0] S1x1x96.size bo).emb (ix3 0 0 a) = ix3 0 7 a := by
    funext q; apply Fin.ext; fin_cases q
    · rfl
    · rfl
    · change 0 + 1 * a.val = a.val; omega
  rw [e]
  rfl

end Cert.KernelIdeal.Hand

end
-- ==== Proof.PrepScan.lean ====
module

public import proofs.«01_k».proof.Proof.IdealSplit
public import proofs.«01_k».proof.Proof.HeadPiece
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- One step of the scan of eight rows, on the rows' numbers. -/
def upRow (n : ℕ) (g : ℕ → EReal) (t : ℕ) : EReal := if n ≤ t then g t + g (t - n) else g t

/-- Three steps add up the rows so far. -/
theorem upRow_scan (g : ℕ → EReal) (s : ℕ) (h : s < 8) :
    upRow 4 (upRow 2 (upRow 1 g)) s = ∑ t ∈ Finset.range (s + 1), g t := by
  interval_cases s <;> simp [upRow, Finset.sum_range_succ] <;> abel

/-- One step of the scan of the rows of 8. -/
def scanStep_14_1 (v : FVec Ideal S14x8x128 .f32) : FVec Ideal S14x8x128 .f32 :=
    addf v (select (cmpi .sge (iota .tc S14x8x128 32 [1] iota_S14x8x128_d1_w32) (broadcast S14x8x128 1#32))
      (dynamicRotate 1 1#32 none v rotates_S14x8x128_d1) (broadcast S14x8x128 (Scalar.ofBits .f32 0x00000000#32)))

/-- A row adds the row `1` above it, if there is one. -/
theorem scanStep_14_1_apply (v : FVec Ideal S14x8x128 .f32) (q : Fin 14) (l : Fin 128) (g : ℕ → EReal)
    (hg : ∀ t : Fin 8, v (ix3 q t l) = g t.val) (s : Fin 8) : scanStep_14_1 v (ix3 q s l) = upRow 1 g s.val := by
  have e : scanStep_14_1 v (ix3 q s l) = v (ix3 q s l) + Scalar.select (IntOp.cmpi CmpIPredicate.sge (BitVec.ofNat 32 s.val) 1#32)
      (v (ix3 q ⟨(s.val + 8 - 1) % 8, Nat.mod_lt _ (by norm_num)⟩ l)) (0 : EReal) := by
    pointwise [scanStep_14_1]
  rw [e, hg, hg]
  fin_cases s <;> first | exact add_zero _ | rfl

/-- One step of the scan of the rows of 8. -/
def scanStep_14_2 (v : FVec Ideal S14x8x128 .f32) : FVec Ideal S14x8x128 .f32 :=
    addf v (select (cmpi .sge (iota .tc S14x8x128 32 [1] iota_S14x8x128_d1_w32) (broadcast S14x8x128 2#32))
      (dynamicRotate 1 2#32 none v rotates_S14x8x128_d1) (broadcast S14x8x128 (Scalar.ofBits .f32 0x00000000#32)))

/-- A row adds the row `2` above it, if there is one. -/
theorem scanStep_14_2_apply (v : FVec Ideal S14x8x128 .f32) (q : Fin 14) (l : Fin 128) (g : ℕ → EReal)
    (hg : ∀ t : Fin 8, v (ix3 q t l) = g t.val) (s : Fin 8) : scanStep_14_2 v (ix3 q s l) = upRow 2 g s.val := by
  have e : scanStep_14_2 v (ix3 q s l) = v (ix3 q s l) + Scalar.select (IntOp.cmpi CmpIPredicate.sge (BitVec.ofNat 32 s.val) 2#32)
      (v (ix3 q ⟨(s.val + 8 - 2) % 8, Nat.mod_lt _ (by norm_num)⟩ l)) (0 : EReal) := by
    pointwise [scanStep_14_2]
  rw [e, hg, hg]
  fin_cases s <;> first | exact add_zero _ | rfl

/-- One step of the scan of the rows of 8. -/
def scanStep_14_4 (v : FVec Ideal S14x8x128 .f32) : FVec Ideal S14x8x128 .f32 :=
    addf v (select (cmpi .sge (iota .tc S14x8x128 32 [1] iota_S14x8x128_d1_w32) (broadcast S14x8x128 4#32))
      (dynamicRotate 1 4#32 none v rotates_S14x8x128_d1) (broadcast S14x8x128 (Scalar.ofBits .f32 0x00000000#32)))

/-- A row adds the row `4` above it, if there is one. -/
theorem scanStep_14_4_apply (v : FVec Ideal S14x8x128 .f32) (q : Fin 14) (l : Fin 128) (g : ℕ → EReal)
    (hg : ∀ t : Fin 8, v (ix3 q t l) = g t.val) (s : Fin 8) : scanStep_14_4 v (ix3 q s l) = upRow 4 g s.val := by
  have e : scanStep_14_4 v (ix3 q s l) = v (ix3 q s l) + Scalar.select (IntOp.cmpi CmpIPredicate.sge (BitVec.ofNat 32 s.val) 4#32)
      (v (ix3 q ⟨(s.val + 8 - 4) % 8, Nat.mod_lt _ (by norm_num)⟩ l)) (0 : EReal) := by
    pointwise [scanStep_14_4]
  rw [e, hg, hg]
  fin_cases s <;> first | exact add_zero _ | rfl

/-- The scan of the rows of 8 adds up the rows so far. -/
def scanRows_14 (v : FVec Ideal S14x8x128 .f32) : FVec Ideal S14x8x128 .f32 :=
  scanStep_14_4 (scanStep_14_2 (scanStep_14_1 v))

theorem scanRows_14_apply (v : FVec Ideal S14x8x128 .f32) (q : Fin 14) (l : Fin 128) (g : ℕ → EReal)
    (hg : ∀ t : Fin 8, v (ix3 q t l) = g t.val) (s : Fin 8) : scanRows_14 v (ix3 q s l) = ∑ t ∈ Finset.range (s.val + 1), g t :=
  (scanStep_14_4_apply _ q l _ (scanStep_14_2_apply _ q l _ (scanStep_14_1_apply v q l g hg)) s).trans (upRow_scan g s.val s.isLt)

/-- One step of the scan of the rows of 8. -/
def scanStep_112_1 (v : FVec Ideal S112x8x128 .f32) : FVec Ideal S112x8x128 .f32 :=
    addf v (select (cmpi .sge (iota .tc S112x8x128 32 [1] iota_S112x8x128_d1_w32) (broadcast S112x8x128 1#32))
      (dynamicRotate 1 1#32 none v rotates_S112x8x128_d1) (broadcast S112x8x128 (Scalar.ofBits .f32 0x00000000#32)))

/-- A row adds the row `1` above it, if there is one. -/
theorem scanStep_112_1_apply (v : FVec Ideal S112x8x128 .f32) (q : Fin 112) (l : Fin 128) (g : ℕ → EReal)
    (hg : ∀ t : Fin 8, v (ix3 q t l) = g t.val) (s : Fin 8) : scanStep_112_1 v (ix3 q s l) = upRow 1 g s.val := by
  have e : scanStep_112_1 v (ix3 q s l) = v (ix3 q s l) + Scalar.select (IntOp.cmpi CmpIPredicate.sge (BitVec.ofNat 32 s.val) 1#32)
      (v (ix3 q ⟨(s.val + 8 - 1) % 8, Nat.mod_lt _ (by norm_num)⟩ l)) (0 : EReal) := by
    pointwise [scanStep_112_1]
  rw [e, hg, hg]
  fin_cases s <;> first | exact add_zero _ | rfl

/-- One step of the scan of the rows of 8. -/
def scanStep_112_2 (v : FVec Ideal S112x8x128 .f32) : FVec Ideal S112x8x128 .f32 :=
    addf v (select (cmpi .sge (iota .tc S112x8x128 32 [1] iota_S112x8x128_d1_w32) (broadcast S112x8x128 2#32))
      (dynamicRotate 1 2#32 none v rotates_S112x8x128_d1) (broadcast S112x8x128 (Scalar.ofBits .f32 0x00000000#32)))

/-- A row adds the row `2` above it, if there is one. -/
theorem scanStep_112_2_apply (v : FVec Ideal S112x8x128 .f32) (q : Fin 112) (l : Fin 128) (g : ℕ → EReal)
    (hg : ∀ t : Fin 8, v (ix3 q t l) = g t.val) (s : Fin 8) : scanStep_112_2 v (ix3 q s l) = upRow 2 g s.val := by
  have e : scanStep_112_2 v (ix3 q s l) = v (ix3 q s l) + Scalar.select (IntOp.cmpi CmpIPredicate.sge (BitVec.ofNat 32 s.val) 2#32)
      (v (ix3 q ⟨(s.val + 8 - 2) % 8, Nat.mod_lt _ (by norm_num)⟩ l)) (0 : EReal) := by
    pointwise [scanStep_112_2]
  rw [e, hg, hg]
  fin_cases s <;> first | exact add_zero _ | rfl

/-- One step of the scan of the rows of 8. -/
def scanStep_112_4 (v : FVec Ideal S112x8x128 .f32) : FVec Ideal S112x8x128 .f32 :=
    addf v (select (cmpi .sge (iota .tc S112x8x128 32 [1] iota_S112x8x128_d1_w32) (broadcast S112x8x128 4#32))
      (dynamicRotate 1 4#32 none v rotates_S112x8x128_d1) (broadcast S112x8x128 (Scalar.ofBits .f32 0x00000000#32)))

/-- A row adds the row `4` above it, if there is one. -/
theorem scanStep_112_4_apply (v : FVec Ideal S112x8x128 .f32) (q : Fin 112) (l : Fin 128) (g : ℕ → EReal)
    (hg : ∀ t : Fin 8, v (ix3 q t l) = g t.val) (s : Fin 8) : scanStep_112_4 v (ix3 q s l) = upRow 4 g s.val := by
  have e : scanStep_112_4 v (ix3 q s l) = v (ix3 q s l) + Scalar.select (IntOp.cmpi CmpIPredicate.sge (BitVec.ofNat 32 s.val) 4#32)
      (v (ix3 q ⟨(s.val + 8 - 4) % 8, Nat.mod_lt _ (by norm_num)⟩ l)) (0 : EReal) := by
    pointwise [scanStep_112_4]
  rw [e, hg, hg]
  fin_cases s <;> first | exact add_zero _ | rfl

/-- The scan of the rows of 8 adds up the rows so far. -/
def scanRows_112 (v : FVec Ideal S112x8x128 .f32) : FVec Ideal S112x8x128 .f32 :=
  scanStep_112_4 (scanStep_112_2 (scanStep_112_1 v))

theorem scanRows_112_apply (v : FVec Ideal S112x8x128 .f32) (q : Fin 112) (l : Fin 128) (g : ℕ → EReal)
    (hg : ∀ t : Fin 8, v (ix3 q t l) = g t.val) (s : Fin 8) : scanRows_112 v (ix3 q s l) = ∑ t ∈ Finset.range (s.val + 1), g t :=
  (scanStep_112_4_apply _ q l _ (scanStep_112_2_apply _ q l _ (scanStep_112_1_apply v q l g hg)) s).trans (upRow_scan g s.val s.isLt)

/-- The decay's exponent of one step, `dt * -exp a_log`, in the padded lanes zero. -/
def dtaAt (x0 : Vec Ideal S1x120 .f32) (x3 : Vec Ideal S1x896x120 .f32) (p : ℕ) (l : Fin 128) : EReal :=
  if h : p < 896 ∧ l.val < 120 then x3 (ix3 0 ⟨p, h.1⟩ ⟨l.val, h.2⟩) * (0 - Ideal.exp (x0 (ix2 0 ⟨l.val, h.2⟩))) else 0

/-- The padded products. -/
def dtaPad (x0 : Vec Ideal S1x120 .f32) (x3 : Vec Ideal S1x896x120 .f32) : FVec Ideal S896x128 .f32 :=
  concatenate S896x128 1 [⟨S896x120, mulf (shapeCast S896x120 x3 shapeCasts_S1x896x120_S896x120)
    (broadcastTo S896x120 (subf (broadcast S1x120 (Scalar.ofBits .f32 0x00000000#32))
      (exp (shapeCast S1x120 x0 shapeCasts_S1x120_S1x120))) broadcasts_S1x120_S896x120)⟩,
    ⟨S896x8, broadcast S896x8 (Scalar.ofBits .f32 0x00000000#32)⟩] concatenates_S896x120_S896x8_S896x128_d1

theorem dtaPad_apply (x0 : Vec Ideal S1x120 .f32) (x3 : Vec Ideal S1x896x120 .f32) (p : Fin 896) (l : Fin 128) :
    dtaPad x0 x3 (ix2 p l) = dtaAt x0 x3 p.val l := by
  unfold dtaAt
  by_cases hl : l.val < 120
  · rw [dif_pos ⟨p.isLt, hl⟩]
    pointwise [dtaPad]
    exact dif_pos hl
  · rw [dif_neg fun h => hl h.2]
    pointwise [dtaPad]
    exact dif_neg hl

theorem pay2_eq (x0 : Vec Ideal S1x120 .f32) (x3 : Vec Ideal S1x896x120 .f32) :
    k0_pay2 x0 x3 = shapeCast S896x128 (shapeCast S896x128 (scanRows_112 (shapeCast S112x8x128 (dtaPad x0 x3) shapeCasts_S896x128_S112x8x128))
      shapeCasts_S112x8x128_S896x128) shapeCasts_S896x128_S896x128 := rfl

/-- The scan within blocks of eight rows. -/
def blockSum (x0 : Vec Ideal S1x120 .f32) (x3 : Vec Ideal S1x896x120 .f32) (r : ℕ) (l : Fin 128) : EReal :=
  ∑ t ∈ Finset.range (r % 8 + 1), dtaAt x0 x3 (r / 8 * 8 + t) l

theorem pay2_apply (x0 : Vec Ideal S1x120 .f32) (x3 : Vec Ideal S1x896x120 .f32) (r : Fin 896) (l : Fin 128) :
    k0_pay2 x0 x3 (ix2 r l) = blockSum x0 x3 r.val l := by
  rw [pay2_eq]
  have e : ∀ v : FVec Ideal S112x8x128 .f32, shapeCast S896x128 (shapeCast S896x128 v shapeCasts_S112x8x128_S896x128) shapeCasts_S896x128_S896x128 (ix2 r l)
      = v (ix3 ⟨r.val / 8, by omega⟩ ⟨r.val % 8, by omega⟩ l) := by
    intro v
    pointwise
  rw [e]
  refine scanRows_112_apply _ _ l (fun t => dtaAt x0 x3 (r.val / 8 * 8 + t) l) ?_ _
  intro t
  have e2 : ∀ v : FVec Ideal S896x128 .f32, shapeCast S112x8x128 v shapeCasts_S896x128_S112x8x128 (ix3 ⟨r.val / 8, by omega⟩ t l)
      = v (ix2 ⟨r.val / 8 * 8 + t.val, by omega⟩ l) := by
    intro v
    pointwise
  rw [e2]
  exact dtaPad_apply x0 x3 _ l

end Cert.KernelIdeal.Hand

end
-- ==== Proof.PrepMid.lean ====
module

public import proofs.«01_k».proof.Proof.IdealSplit
public import proofs.«01_k».proof.Proof.HeadPiece
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import proofs.«01_k».proof.Proof.PrepScan

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the blocks before the block of row `r` add to it. -/
def totSpec (x0 : Vec Ideal S1x120 .f32) (x3 : Vec Ideal S1x896x120 .f32) (n : ℕ) (l : Fin 128) : EReal :=
  ∑ q ∈ Finset.range n, blockSum x0 x3 (q * 8 + 7) l

/-- The decay of row `p`. -/
def decAt (x0 : Vec Ideal S1x120 .f32) (x3 : Vec Ideal S1x896x120 .f32) (p : ℕ) (l : Fin 128) : EReal :=
  Ideal.exp (∑ t ∈ Finset.range (p + 1), dtaAt x0 x3 t l)

theorem sum_blocks (f : ℕ → EReal) (n : ℕ) :
    ∑ q ∈ Finset.range n, ∑ t ∈ Finset.range 8, f (q * 8 + t) = ∑ p ∈ Finset.range (n * 8), f p := by
  induction n with
  | zero => simp
  | succ n ih => rw [Finset.sum_range_succ, ih, Nat.succ_mul, Finset.sum_range_add]

theorem totSpec_eq (x0 : Vec Ideal S1x120 .f32) (x3 : Vec Ideal S1x896x120 .f32) (n : ℕ) (l : Fin 128) :
    totSpec x0 x3 n l = ∑ p ∈ Finset.range (n * 8), dtaAt x0 x3 p l := by
  rw [← sum_blocks (fun p => dtaAt x0 x3 p l) n]
  unfold totSpec blockSum
  refine Finset.sum_congr rfl fun q _ => ?_
  have h1 : (q * 8 + 7) % 8 + 1 = 8 := by omega
  have h2 : (q * 8 + 7) / 8 = q := by omega
  rw [h1, h2]

/-- A row's sum is its block's plus the earlier blocks'. -/
theorem blockSum_add (x0 : Vec Ideal S1x120 .f32) (x3 : Vec Ideal S1x896x120 .f32) (r : ℕ) (l : Fin 128) :
    blockSum x0 x3 r l + totSpec x0 x3 (r / 8) l = ∑ t ∈ Finset.range (r + 1), dtaAt x0 x3 t l := by
  have h : r + 1 = r / 8 * 8 + (r % 8 + 1) := by omega
  rw [totSpec_eq, h, Finset.sum_range_add, add_comm]
  rfl

/-- The exponential of eight rows and the sum of the rows before them. -/
def blockExp (a : Vec Ideal S1x128 .f32) (b : Vec Ideal S8x128 .f32) : FVec Ideal S8x128 .f32 :=
  shapeCast S8x128 (exp (addf b (broadcastTo S8x128 a broadcasts_S1x128_S8x128))) shapeCasts_S8x128_S8x128

theorem blockExp_apply (a : Vec Ideal S1x128 .f32) (b : Vec Ideal S8x128 .f32) (s : Fin 8) (l : Fin 128) :
    blockExp a b (ix2 s l) = Ideal.exp (b (ix2 s l) + a (ix2 0 l)) := by
  pointwise [blockExp]

/-- After `k` blocks the decays of the first `8 * k` rows are there, and the sums within blocks in the others. -/
def MidAt (v : View sig .tc .vmem S896x128 .f32) (x0 : Vec Ideal S1x120 .f32) (x3 : Vec Ideal S1x896x120 .f32) (k : ℕ)
    (L : List (View.Piece (Elt Ideal) S896x128 .f32)) : Prop :=
  ∀ (f : v.ty.Contents (Elt Ideal)) (r : Fin 896) (l : Fin 128),
    v.read (Elt Ideal) (v.writes (Elt Ideal) f L) (ix2 r l) = if r.val < 8 * k then decAt x0 x3 r.val l else blockSum x0 x3 r.val l

/-- The totals' rows as a list of writes leaves them. -/
def TotAt (w : View sig .tc .vmem S120x128 .f32) (x0 : Vec Ideal S1x120 .f32) (x3 : Vec Ideal S1x896x120 .f32)
    (L : List (View.Piece (Elt Ideal) S120x128 .f32)) : Prop :=
  ∀ (f : w.ty.Contents (Elt Ideal)) (r : Fin 120) (l : Fin 128),
    w.read (Elt Ideal) (w.writes (Elt Ideal) f L) (ix2 r l) = totSpec x0 x3 (r.val - 7) l

theorem mid_zero (v : View sig .tc .vmem S896x128 .f32) (x0 : Vec Ideal S1x120 .f32) (x3 : Vec Ideal S1x896x120 .f32)
    (b) (pay : FVec Ideal S896x128 .f32) (hp : pay = k0_pay2 x0 x3) :
    MidAt v x0 x3 0 [⟨Rect.unit (s := S896x128) ![0, 0] S896x128.size b, pay⟩] := by
  intro f r l
  rw [if_neg (Nat.not_lt_zero _)]
  have e := View.read_writes_cons_hit_of_coords v f (Rect.unit (s := S896x128) ![0, 0] S896x128.size b) pay [] (ix2 r l) (ix2 r l) (by
    intro a
    fin_cases a
    · change r.val = 0 + 1 * r.val; omega
    · change l.val = 0 + 1 * l.val; omega)
  exact e.trans ((congrFun hp (ix2 r l)).trans (pay2_apply x0 x3 r l))

theorem mid_step (v : View sig .tc .vmem S896x128 .f32) (w : View sig .tc .vmem S120x128 .f32) (x0 : Vec Ideal S1x120 .f32)
    (x3 : Vec Ideal S1x896x120 .f32) (k o t : ℕ) (ho : o = 8 * k) (ht : t = 7 + k) (hk : k < 112)
    (L : List (View.Piece (Elt Ideal) S896x128 .f32)) (LT : List (View.Piece (Elt Ideal) S120x128 .f32)) (b b' c)
    (pay : FVec Ideal S8x128 .f32)
    (hp : pay = blockExp (w.readCov LT (Rect.unit (s := S120x128) ![t, 0] S1x128.size c).toLoadRect)
      (v.readCov L (Rect.unit (s := S896x128) ![o, 0] S8x128.size b').toLoadRect))
    (hT : TotAt w x0 x3 LT) (h : MidAt v x0 x3 k L) :
    MidAt v x0 x3 (k + 1) (⟨Rect.unit (s := S896x128) ![o, 0] S8x128.size b, pay⟩ :: L) := by
  subst ho ht hp
  intro f r l
  by_cases hr : 8 * k ≤ r.val ∧ r.val < 8 * k + 8
  · rw [if_pos (by omega)]
    have e := View.read_writes_cons_hit_of_coords v f (Rect.unit (s := S896x128) ![8 * k, 0] S8x128.size b)
      (blockExp (w.readCov LT (Rect.unit (s := S120x128) ![7 + k, 0] S1x128.size c).toLoadRect)
      (v.readCov L (Rect.unit (s := S896x128) ![8 * k, 0] S8x128.size b').toLoadRect)) L
      (ix2 (⟨r.val - 8 * k, by omega⟩ : Fin 8) l) (ix2 r l) (by
        intro a
        fin_cases a
        · change r.val = 8 * k + 1 * (r.val - 8 * k); omega
        · change l.val = 0 + 1 * l.val; omega)
    refine e.trans ?_
    rw [blockExp_apply]
    unfold decAt
    congr 1
    rw [← blockSum_add]
    congr 1
    · have e1 := h v.junk r l
      rw [if_neg (by omega)] at e1
      refine Eq.trans ?_ e1
      change v.read (Elt Ideal) (v.writes (Elt Ideal) v.junk L) _ = _
      congr 1
      funext a
      apply Fin.ext
      fin_cases a
      · change 8 * k + 1 * (r.val - 8 * k) = r.val; omega
      · change 0 + 1 * l.val = l.val; omega
    · have e1 := hT w.junk ⟨7 + k, by omega⟩ l
      have e2 : (7 + k) - 7 = r.val / 8 := by omega
      change _ = totSpec x0 x3 (7 + k - 7) l at e1
      rw [e2] at e1
      refine Eq.trans ?_ e1
      change w.read (Elt Ideal) (w.writes (Elt Ideal) w.junk LT) _ = _
      congr 1
      funext a
      apply Fin.ext
      fin_cases a
      · change 7 + k + 1 * 0 = 7 + k; omega
      · change 0 + 1 * l.val = l.val; omega
  · rw [View.read_writes_cons_miss_of_axis v f _ L (ix2 r l) 0 (8 * k) 8 rfl rfl rfl (by change r.val < 8 * k ∨ 8 * k + 8 ≤ r.val; omega), h f r l]
    by_cases h1 : r.val < 8 * k
    · rw [if_pos h1, if_pos (by omega)]
    · rw [if_neg h1, if_neg (by omega)]

/-- Eight rows of totals: their own, and the total before them. -/
def totBlock (i : ℕ) (h : S14x8x128.Slices ![i, 0, 0] S1x8x128) (T : FVec Ideal S14x8x128 .f32) (carry : FVec Ideal S1x128 .f32) :
    FVec Ideal S8x128 .f32 :=
  addf (shapeCast S8x128 (extractStridedSlice S1x8x128 ![i, 0, 0] T h) shapeCasts_S1x8x128_S8x128)
    (broadcastTo S8x128 carry broadcasts_S1x128_S8x128)

/-- The last of eight rows. -/
def totCarry (b : FVec Ideal S8x128 .f32) : FVec Ideal S1x128 .f32 := extractStridedSlice S1x128 ![7, 0] b slices_S8x128_o7_0_S1x128

theorem totCarry_apply (b : FVec Ideal S8x128 .f32) (l : Fin 128) : totCarry b (ix2 0 l) = b (ix2 7 l) := by
  pointwise [totCarry]

theorem totBlock_0_apply (T : FVec Ideal S14x8x128 .f32) (carry : FVec Ideal S1x128 .f32) (s : Fin 8) (l : Fin 128) :
    totBlock 0 slices_S14x8x128_o0_0_0_S1x8x128 T carry (ix2 s l) = T (ix3 0 s l) + carry (ix2 0 l) := by
  pointwise [totBlock]

theorem totBlock_1_apply (T : FVec Ideal S14x8x128 .f32) (carry : FVec Ideal S1x128 .f32) (s : Fin 8) (l : Fin 128) :
    totBlock 1 slices_S14x8x128_o1_0_0_S1x8x128 T carry (ix2 s l) = T (ix3 1 s l) + carry (ix2 0 l) := by
  pointwise [totBlock]

theorem totBlock_2_apply (T : FVec Ideal S14x8x128 .f32) (carry : FVec Ideal S1x128 .f32) (s : Fin 8) (l : Fin 128) :
    totBlock 2 slices_S14x8x128_o2_0_0_S1x8x128 T carry (ix2 s l) = T (ix3 2 s l) + carry (ix2 0 l) := by
  pointwise [totBlock]

theorem totBlock_3_apply (T : FVec Ideal S14x8x128 .f32) (carry : FVec Ideal S1x128 .f32) (s : Fin 8) (l : Fin 128) :
    totBlock 3 slices_S14x8x128_o3_0_0_S1x8x128 T carry (ix2 s l) = T (ix3 3 s l) + carry (ix2 0 l) := by
  pointwise [totBlock]

theorem totBlock_4_apply (T : FVec Ideal S14x8x128 .f32) (carry : FVec Ideal S1x128 .f32) (s : Fin 8) (l : Fin 128) :
    totBlock 4 slices_S14x8x128_o4_0_0_S1x8x128 T carry (ix2 s l) = T (ix3 4 s l) + carry (ix2 0 l) := by
  pointwise [totBlock]

theorem totBlock_5_apply (T : FVec Ideal S14x8x128 .f32) (carry : FVec Ideal S1x128 .f32) (s : Fin 8) (l : Fin 128) :
    totBlock 5 slices_S14x8x128_o5_0_0_S1x8x128 T carry (ix2 s l) = T (ix3 5 s l) + carry (ix2 0 l) := by
  pointwise [totBlock]

theorem totBlock_6_apply (T : FVec Ideal S14x8x128 .f32) (carry : FVec Ideal S1x128 .f32) (s : Fin 8) (l : Fin 128) :
    totBlock 6 slices_S14x8x128_o6_0_0_S1x8x128 T carry (ix2 s l) = T (ix3 6 s l) + carry (ix2 0 l) := by
  pointwise [totBlock]

theorem totBlock_7_apply (T : FVec Ideal S14x8x128 .f32) (carry : FVec Ideal S1x128 .f32) (s : Fin 8) (l : Fin 128) :
    totBlock 7 slices_S14x8x128_o7_0_0_S1x8x128 T carry (ix2 s l) = T (ix3 7 s l) + carry (ix2 0 l) := by
  pointwise [totBlock]

theorem totBlock_8_apply (T : FVec Ideal S14x8x128 .f32) (carry : FVec Ideal S1x128 .f32) (s : Fin 8) (l : Fin 128) :
    totBlock 8 slices_S14x8x128_o8_0_0_S1x8x128 T carry (ix2 s l) = T (ix3 8 s l) + carry (ix2 0 l) := by
  pointwise [totBlock]

theorem totBlock_9_apply (T : FVec Ideal S14x8x128 .f32) (carry : FVec Ideal S1x128 .f32) (s : Fin 8) (l : Fin 128) :
    totBlock 9 slices_S14x8x128_o9_0_0_S1x8x128 T carry (ix2 s l) = T (ix3 9 s l) + carry (ix2 0 l) := by
  pointwise [totBlock]

theorem totBlock_10_apply (T : FVec Ideal S14x8x128 .f32) (carry : FVec Ideal S1x128 .f32) (s : Fin 8) (l : Fin 128) :
    totBlock 10 slices_S14x8x128_o10_0_0_S1x8x128 T carry (ix2 s l) = T (ix3 10 s l) + carry (ix2 0 l) := by
  pointwise [totBlock]

theorem totBlock_11_apply (T : FVec Ideal S14x8x128 .f32) (carry : FVec Ideal S1x128 .f32) (s : Fin 8) (l : Fin 128) :
    totBlock 11 slices_S14x8x128_o11_0_0_S1x8x128 T carry (ix2 s l) = T (ix3 11 s l) + carry (ix2 0 l) := by
  pointwise [totBlock]

theorem totBlock_12_apply (T : FVec Ideal S14x8x128 .f32) (carry : FVec Ideal S1x128 .f32) (s : Fin 8) (l : Fin 128) :
    totBlock 12 slices_S14x8x128_o12_0_0_S1x8x128 T carry (ix2 s l) = T (ix3 12 s l) + carry (ix2 0 l) := by
  pointwise [totBlock]

theorem totBlock_13_apply (T : FVec Ideal S14x8x128 .f32) (carry : FVec Ideal S1x128 .f32) (s : Fin 8) (l : Fin 128) :
    totBlock 13 slices_S14x8x128_o13_0_0_S1x8x128 T carry (ix2 s l) = T (ix3 13 s l) + carry (ix2 0 l) := by
  pointwise [totBlock]

/-- The scan of the blocks' sums, eight blocks at a time. -/
def totScan (t : Vec Ideal S112x128 .f32) : FVec Ideal S14x8x128 .f32 :=
  scanRows_14 (shapeCast S14x8x128 t shapeCasts_S112x128_S14x8x128)

theorem totScan_apply (t : Vec Ideal S112x128 .f32) (g : ℕ → EReal) (l : Fin 128) (hg : ∀ q : Fin 112, t (ix2 q l) = g q.val)
    (i : Fin 14) (s : Fin 8) : totScan t (ix3 i s l) = ∑ u ∈ Finset.range (s.val + 1), g (i.val * 8 + u) := by
  refine scanRows_14_apply _ i l (fun u => g (i.val * 8 + u)) ?_ s
  intro u
  have e : shapeCast S14x8x128 t shapeCasts_S112x128_S14x8x128 (ix3 i u l) = t (ix2 ⟨i.val * 8 + u.val, by omega⟩ l) := by
    pointwise
  rw [e]
  exact hg _

/-- The totals' rows of blocks 0 to 7. -/
def totRows_0 (T : FVec Ideal S14x8x128 .f32) : FVec Ideal S8x128 .f32 := totBlock 0 slices_S14x8x128_o0_0_0_S1x8x128 T (broadcast S1x128 (Scalar.ofBits .f32 0x00000000#32))

theorem totRows_0_apply (t : Vec Ideal S112x128 .f32) (g : ℕ → EReal) (l : Fin 128) (hg : ∀ q : Fin 112, t (ix2 q l) = g q.val) (s : Fin 8) :
    totRows_0 (totScan t) (ix2 s l) = ∑ q ∈ Finset.range (0 + (s.val + 1)), g q := by
  unfold totRows_0
  rw [totBlock_0_apply, totScan_apply t g l hg, Finset.sum_range_add g 0 (s.val + 1), add_comm]
  congr 1
  rw [Finset.sum_range_zero]
  pointwise

/-- The totals' rows of blocks 8 to 15. -/
def totRows_1 (T : FVec Ideal S14x8x128 .f32) : FVec Ideal S8x128 .f32 := totBlock 1 slices_S14x8x128_o1_0_0_S1x8x128 T (totCarry (totRows_0 T))

theorem totRows_1_apply (t : Vec Ideal S112x128 .f32) (g : ℕ → EReal) (l : Fin 128) (hg : ∀ q : Fin 112, t (ix2 q l) = g q.val) (s : Fin 8) :
    totRows_1 (totScan t) (ix2 s l) = ∑ q ∈ Finset.range (8 + (s.val + 1)), g q := by
  unfold totRows_1
  rw [totBlock_1_apply, totScan_apply t g l hg, Finset.sum_range_add g 8 (s.val + 1), add_comm]
  congr 1
  exact (totCarry_apply _ l).trans (totRows_0_apply t g l hg 7)

/-- The totals' rows of blocks 16 to 23. -/
def totRows_2 (T : FVec Ideal S14x8x128 .f32) : FVec Ideal S8x128 .f32 := totBlock 2 slices_S14x8x128_o2_0_0_S1x8x128 T (totCarry (totRows_1 T))

theorem totRows_2_apply (t : Vec Ideal S112x128 .f32) (g : ℕ → EReal) (l : Fin 128) (hg : ∀ q : Fin 112, t (ix2 q l) = g q.val) (s : Fin 8) :
    totRows_2 (totScan t) (ix2 s l) = ∑ q ∈ Finset.range (16 + (s.val + 1)), g q := by
  unfold totRows_2
  rw [totBlock_2_apply, totScan_apply t g l hg, Finset.sum_range_add g 16 (s.val + 1), add_comm]
  congr 1
  exact (totCarry_apply _ l).trans (totRows_1_apply t g l hg 7)

/-- The totals' rows of blocks 24 to 31. -/
def totRows_3 (T : FVec Ideal S14x8x128 .f32) : FVec Ideal S8x128 .f32 := totBlock 3 slices_S14x8x128_o3_0_0_S1x8x128 T (totCarry (totRows_2 T))

theorem totRows_3_apply (t : Vec Ideal S112x128 .f32) (g : ℕ → EReal) (l : Fin 128) (hg : ∀ q : Fin 112, t (ix2 q l) = g q.val) (s : Fin 8) :
    totRows_3 (totScan t) (ix2 s l) = ∑ q ∈ Finset.range (24 + (s.val + 1)), g q := by
  unfold totRows_3
  rw [totBlock_3_apply, totScan_apply t g l hg, Finset.sum_range_add g 24 (s.val + 1), add_comm]
  congr 1
  exact (totCarry_apply _ l).trans (totRows_2_apply t g l hg 7)

/-- The totals' rows of blocks 32 to 39. -/
def totRows_4 (T : FVec Ideal S14x8x128 .f32) : FVec Ideal S8x128 .f32 := totBlock 4 slices_S14x8x128_o4_0_0_S1x8x128 T (totCarry (totRows_3 T))

theorem totRows_4_apply (t : Vec Ideal S112x128 .f32) (g : ℕ → EReal) (l : Fin 128) (hg : ∀ q : Fin 112, t (ix2 q l) = g q.val) (s : Fin 8) :
    totRows_4 (totScan t) (ix2 s l) = ∑ q ∈ Finset.range (32 + (s.val + 1)), g q := by
  unfold totRows_4
  rw [totBlock_4_apply, totScan_apply t g l hg, Finset.sum_range_add g 32 (s.val + 1), add_comm]
  congr 1
  exact (totCarry_apply _ l).trans (totRows_3_apply t g l hg 7)

/-- The totals' rows of blocks 40 to 47. -/
def totRows_5 (T : FVec Ideal S14x8x128 .f32) : FVec Ideal S8x128 .f32 := totBlock 5 slices_S14x8x128_o5_0_0_S1x8x128 T (totCarry (totRows_4 T))

theorem totRows_5_apply (t : Vec Ideal S112x128 .f32) (g : ℕ → EReal) (l : Fin 128) (hg : ∀ q : Fin 112, t (ix2 q l) = g q.val) (s : Fin 8) :
    totRows_5 (totScan t) (ix2 s l) = ∑ q ∈ Finset.range (40 + (s.val + 1)), g q := by
  unfold totRows_5
  rw [totBlock_5_apply, totScan_apply t g l hg, Finset.sum_range_add g 40 (s.val + 1), add_comm]
  congr 1
  exact (totCarry_apply _ l).trans (totRows_4_apply t g l hg 7)

/-- The totals' rows of blocks 48 to 55. -/
def totRows_6 (T : FVec Ideal S14x8x128 .f32) : FVec Ideal S8x128 .f32 := totBlock 6 slices_S14x8x128_o6_0_0_S1x8x128 T (totCarry (totRows_5 T))

theorem totRows_6_apply (t : Vec Ideal S112x128 .f32) (g : ℕ → EReal) (l : Fin 128) (hg : ∀ q : Fin 112, t (ix2 q l) = g q.val) (s : Fin 8) :
    totRows_6 (totScan t) (ix2 s l) = ∑ q ∈ Finset.range (48 + (s.val + 1)), g q := by
  unfold totRows_6
  rw [totBlock_6_apply, totScan_apply t g l hg, Finset.sum_range_add g 48 (s.val + 1), add_comm]
  congr 1
  exact (totCarry_apply _ l).trans (totRows_5_apply t g l hg 7)

/-- The totals' rows of blocks 56 to 63. -/
def totRows_7 (T : FVec Ideal S14x8x128 .f32) : FVec Ideal S8x128 .f32 := totBlock 7 slices_S14x8x128_o7_0_0_S1x8x128 T (totCarry (totRows_6 T))

theorem totRows_7_apply (t : Vec Ideal S112x128 .f32) (g : ℕ → EReal) (l : Fin 128) (hg : ∀ q : Fin 112, t (ix2 q l) = g q.val) (s : Fin 8) :
    totRows_7 (totScan t) (ix2 s l) = ∑ q ∈ Finset.range (56 + (s.val + 1)), g q := by
  unfold totRows_7
  rw [totBlock_7_apply, totScan_apply t g l hg, Finset.sum_range_add g 56 (s.val + 1), add_comm]
  congr 1
  exact (totCarry_apply _ l).trans (totRows_6_apply t g l hg 7)

/-- The totals' rows of blocks 64 to 71. -/
def totRows_8 (T : FVec Ideal S14x8x128 .f32) : FVec Ideal S8x128 .f32 := totBlock 8 slices_S14x8x128_o8_0_0_S1x8x128 T (totCarry (totRows_7 T))

theorem totRows_8_apply (t : Vec Ideal S112x128 .f32) (g : ℕ → EReal) (l : Fin 128) (hg : ∀ q : Fin 112, t (ix2 q l) = g q.val) (s : Fin 8) :
    totRows_8 (totScan t) (ix2 s l) = ∑ q ∈ Finset.range (64 + (s.val + 1)), g q := by
  unfold totRows_8
  rw [totBlock_8_apply, totScan_apply t g l hg, Finset.sum_range_add g 64 (s.val + 1), add_comm]
  congr 1
  exact (totCarry_apply _ l).trans (totRows_7_apply t g l hg 7)

/-- The totals' rows of blocks 72 to 79. -/
def totRows_9 (T : FVec Ideal S14x8x128 .f32) : FVec Ideal S8x128 .f32 := totBlock 9 slices_S14x8x128_o9_0_0_S1x8x128 T (totCarry (totRows_8 T))

theorem totRows_9_apply (t : Vec Ideal S112x128 .f32) (g : ℕ → EReal) (l : Fin 128) (hg : ∀ q : Fin 112, t (ix2 q l) = g q.val) (s : Fin 8) :
    totRows_9 (totScan t) (ix2 s l) = ∑ q ∈ Finset.range (72 + (s.val + 1)), g q := by
  unfold totRows_9
  rw [totBlock_9_apply, totScan_apply t g l hg, Finset.sum_range_add g 72 (s.val + 1), add_comm]
  congr 1
  exact (totCarry_apply _ l).trans (totRows_8_apply t g l hg 7)

/-- The totals' rows of blocks 80 to 87. -/
def totRows_10 (T : FVec Ideal S14x8x128 .f32) : FVec Ideal S8x128 .f32 := totBlock 10 slices_S14x8x128_o10_0_0_S1x8x128 T (totCarry (totRows_9 T))

theorem totRows_10_apply (t : Vec Ideal S112x128 .f32) (g : ℕ → EReal) (l : Fin 128) (hg : ∀ q : Fin 112, t (ix2 q l) = g q.val) (s : Fin 8) :
    totRows_10 (totScan t) (ix2 s l) = ∑ q ∈ Finset.range (80 + (s.val + 1)), g q := by
  unfold totRows_10
  rw [totBlock_10_apply, totScan_apply t g l hg, Finset.sum_range_add g 80 (s.val + 1), add_comm]
  congr 1
  exact (totCarry_apply _ l).trans (totRows_9_apply t g l hg 7)

/-- The totals' rows of blocks 88 to 95. -/
def totRows_11 (T : FVec Ideal S14x8x128 .f32) : FVec Ideal S8x128 .f32 := totBlock 11 slices_S14x8x128_o11_0_0_S1x8x128 T (totCarry (totRows_10 T))

theorem totRows_11_apply (t : Vec Ideal S112x128 .f32) (g : ℕ → EReal) (l : Fin 128) (hg : ∀ q : Fin 112, t (ix2 q l) = g q.val) (s : Fin 8) :
    totRows_11 (totScan t) (ix2 s l) = ∑ q ∈ Finset.range (88 + (s.val + 1)), g q := by
  unfold totRows_11
  rw [totBlock_11_apply, totScan_apply t g l hg, Finset.sum_range_add g 88 (s.val + 1), add_comm]
  congr 1
  exact (totCarry_apply _ l).trans (totRows_10_apply t g l hg 7)

/-- The totals' rows of blocks 96 to 103. -/
def totRows_12 (T : FVec Ideal S14x8x128 .f32) : FVec Ideal S8x128 .f32 := totBlock 12 slices_S14x8x128_o12_0_0_S1x8x128 T (totCarry (totRows_11 T))

theorem totRows_12_apply (t : Vec Ideal S112x128 .f32) (g : ℕ → EReal) (l : Fin 128) (hg : ∀ q : Fin 112, t (ix2 q l) = g q.val) (s : Fin 8) :
    totRows_12 (totScan t) (ix2 s l) = ∑ q ∈ Finset.range (96 + (s.val + 1)), g q := by
  unfold totRows_12
  rw [totBlock_12_apply, totScan_apply t g l hg, Finset.sum_range_add g 96 (s.val + 1), add_comm]
  congr 1
  exact (totCarry_apply _ l).trans (totRows_11_apply t g l hg 7)

/-- The totals' rows of blocks 104 to 111. -/
def totRows_13 (T : FVec Ideal S14x8x128 .f32) : FVec Ideal S8x128 .f32 := totBlock 13 slices_S14x8x128_o13_0_0_S1x8x128 T (totCarry (totRows_12 T))

theorem totRows_13_apply (t : Vec Ideal S112x128 .f32) (g : ℕ → EReal) (l : Fin 128) (hg : ∀ q : Fin 112, t (ix2 q l) = g q.val) (s : Fin 8) :
    totRows_13 (totScan t) (ix2 s l) = ∑ q ∈ Finset.range (104 + (s.val + 1)), g q := by
  unfold totRows_13
  rw [totBlock_13_apply, totScan_apply t g l hg, Finset.sum_range_add g 104 (s.val + 1), add_comm]
  congr 1
  exact (totCarry_apply _ l).trans (totRows_12_apply t g l hg 7)

end Cert.KernelIdeal.Hand

end
-- ==== Proof.PrepPiece.lean ====
module

public import proofs.«01_k».proof.Proof.IdealSplit
public import proofs.«01_k».proof.Proof.HeadPiece
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import proofs.«01_k».proof.Proof.PrepMid

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The column copies: a group's rows, transposed to the front. -/
def cgOf (x2 : Vec Ideal S1x896x8x128 .bf16) : Vec Ideal S8x896x128 .bf16 := fun i => x2 (ix4 0 (i 1) (i 0) (i 2))

/-- The decays of all rows. -/
def decOf (x0 : Vec Ideal S1x120 .f32) (x3 : Vec Ideal S1x896x120 .f32) : Vec Ideal S896x128 .f32 := fun i => decAt x0 x3 (i 0).val (i 1)

/-- The rows of totals. -/
def totOf (x0 : Vec Ideal S1x120 .f32) (x3 : Vec Ideal S1x896x120 .f32) : Vec Ideal S120x128 .f32 := fun i => totSpec x0 x3 ((i 0).val - 7) (i 1)

/-- The last row's decays, a head per row. -/
def fdbOf (x0 : Vec Ideal S1x120 .f32) (x3 : Vec Ideal S1x896x120 .f32) : Vec Ideal S128x128 .f32 := fun i => decAt x0 x3 895 (i 0)

/-- A group's rows, joined from the even and the odd rows of its pair of groups. -/
def cgPack_0 (a b : Vec Ideal S1x448x2x128 .bf16) : FVec Ideal S1x896x128 .bf16 :=
  shapeCast S1x896x128 (interleaveRows S896x128
    (shapeCast S448x128 (rowsOfParity 0 S1x448x1x128 a bitcasts_S1x448x2x128_w16_S1x448x1x128_w32) shapeCasts_S1x448x1x128_S448x128)
    (shapeCast S448x128 (rowsOfParity 0 S1x448x1x128 b bitcasts_S1x448x2x128_w16_S1x448x1x128_w32) shapeCasts_S1x448x1x128_S448x128)
    bitcasts_S896x128_w16_S448x128_w32) shapeCasts_S896x128_S1x896x128

theorem cgPack_0_apply (a b : Vec Ideal S1x448x2x128 .bf16) (s : Fin 896) (n : Fin 128) :
    cgPack_0 a b (ix3 0 s n) = if s.val % 2 = 0 then a (ix4 0 ⟨s.val / 2, by omega⟩ 0 n) else b (ix4 0 ⟨s.val / 2, by omega⟩ 0 n) := by
  pointwise [cgPack_0]

/-- A group's rows, joined from the even and the odd rows of its pair of groups. -/
def cgPack_1 (a b : Vec Ideal S1x448x2x128 .bf16) : FVec Ideal S1x896x128 .bf16 :=
  shapeCast S1x896x128 (interleaveRows S896x128
    (shapeCast S448x128 (rowsOfParity 1 S1x448x1x128 a bitcasts_S1x448x2x128_w16_S1x448x1x128_w32) shapeCasts_S1x448x1x128_S448x128)
    (shapeCast S448x128 (rowsOfParity 1 S1x448x1x128 b bitcasts_S1x448x2x128_w16_S1x448x1x128_w32) shapeCasts_S1x448x1x128_S448x128)
    bitcasts_S896x128_w16_S448x128_w32) shapeCasts_S896x128_S1x896x128

theorem cgPack_1_apply (a b : Vec Ideal S1x448x2x128 .bf16) (s : Fin 896) (n : Fin 128) :
    cgPack_1 a b (ix3 0 s n) = if s.val % 2 = 0 then a (ix4 0 ⟨s.val / 2, by omega⟩ 1 n) else b (ix4 0 ⟨s.val / 2, by omega⟩ 1 n) := by
  pointwise [cgPack_1]

theorem cg_piece_0 (arg4 : Memref sig .tc .vmem S1x896x8x128 .bf16) (harg4 : arg4.IsWhole) (x2 : Vec Ideal S1x896x8x128 .bf16) (k : ℕ) (hk : k < 4)
    (o : ℕ) (ho : o = 2 * k) (g : ℕ) (hg : g = 2 * k + 0) (b0 b1 b) (x : S1x896x128.Idx) :
    cgPack_0 (View.readAt (Elt Ideal) arg4.view (⟨![0, 0, o, 0], S1x448x2x128.size, ![1, 2, 1, 1], b0⟩ : LoadRect S1x896x8x128) (harg4.unread x2))
      (View.readAt (Elt Ideal) arg4.view (⟨![0, 1, o, 0], S1x448x2x128.size, ![1, 2, 1, 1], b1⟩ : LoadRect S1x896x8x128) (harg4.unread x2)) x
      = cgOf x2 ((Rect.unit (s := S8x896x128) ![g, 0, 0] S1x896x128.size b).emb x) := by
  subst ho hg
  obtain ⟨z, s, n, rfl⟩ : ∃ (z : Fin 1) (s : Fin 896) (n : Fin 128), x = ix3 z s n := ⟨x 0, x 1, x 2, by funext a; fin_cases a <;> rfl⟩
  obtain rfl : z = 0 := Subsingleton.elim _ _
  rw [cgPack_0_apply, Memref.IsWhole.readAt_unread, Memref.IsWhole.readAt_unread]
  unfold cgOf
  split_ifs with h
  · congr 1
    funext a
    apply Fin.ext
    fin_cases a
    · rfl
    · change 0 + 2 * (s.val / 2) = 0 + 1 * s.val; omega
    · change 2 * k + 1 * 0 = 2 * k + 0 + 1 * 0; omega
    · change 0 + 1 * n.val = 0 + 1 * n.val; rfl
  · congr 1
    funext a
    apply Fin.ext
    fin_cases a
    · rfl
    · change 1 + 2 * (s.val / 2) = 0 + 1 * s.val; omega
    · change 2 * k + 1 * 0 = 2 * k + 0 + 1 * 0; omega
    · change 0 + 1 * n.val = 0 + 1 * n.val; rfl

theorem cg_piece_1 (arg4 : Memref sig .tc .vmem S1x896x8x128 .bf16) (harg4 : arg4.IsWhole) (x2 : Vec Ideal S1x896x8x128 .bf16) (k : ℕ) (hk : k < 4)
    (o : ℕ) (ho : o = 2 * k) (g : ℕ) (hg : g = 2 * k + 1) (b0 b1 b) (x : S1x896x128.Idx) :
    cgPack_1 (View.readAt (Elt Ideal) arg4.view (⟨![0, 0, o, 0], S1x448x2x128.size, ![1, 2, 1, 1], b0⟩ : LoadRect S1x896x8x128) (harg4.unread x2))
      (View.readAt (Elt Ideal) arg4.view (⟨![0, 1, o, 0], S1x448x2x128.size, ![1, 2, 1, 1], b1⟩ : LoadRect S1x896x8x128) (harg4.unread x2)) x
      = cgOf x2 ((Rect.unit (s := S8x896x128) ![g, 0, 0] S1x896x128.size b).emb x) := by
  subst ho hg
  obtain ⟨z, s, n, rfl⟩ : ∃ (z : Fin 1) (s : Fin 896) (n : Fin 128), x = ix3 z s n := ⟨x 0, x 1, x 2, by funext a; fin_cases a <;> rfl⟩
  obtain rfl : z = 0 := Subsingleton.elim _ _
  rw [cgPack_1_apply, Memref.IsWhole.readAt_unread, Memref.IsWhole.readAt_unread]
  unfold cgOf
  split_ifs with h
  · congr 1
    funext a
    apply Fin.ext
    fin_cases a
    · rfl
    · change 0 + 2 * (s.val / 2) = 0 + 1 * s.val; omega
    · change 2 * k + 1 * 1 = 2 * k + 1 + 1 * 0; omega
    · change 0 + 1 * n.val = 0 + 1 * n.val; rfl
  · congr 1
    funext a
    apply Fin.ext
    fin_cases a
    · rfl
    · change 1 + 2 * (s.val / 2) = 0 + 1 * s.val; omega
    · change 2 * k + 1 * 1 = 2 * k + 1 + 1 * 0; omega
    · change 0 + 1 * n.val = 0 + 1 * n.val; rfl

theorem fdb_apply (v : Vec Ideal S1x128 .f32) (p q : Fin 128) : k0_pay149 v (ix2 p q) = v (ix2 0 p) := by
  pointwise [k0_pay149]

theorem fdb_piece (v : View sig .tc .vmem S896x128 .f32) (x0 : Vec Ideal S1x120 .f32) (x3 : Vec Ideal S1x896x120 .f32)
    (L : List (View.Piece (Elt Ideal) S896x128 .f32)) (h : MidAt v x0 x3 112 L) (b b') (x : S128x128.Idx) :
    k0_pay149 (v.readCov L (Rect.unit (s := S896x128) ![895, 0] S1x128.size b).toLoadRect) x
      = fdbOf x0 x3 ((Rect.unit (s := S128x128) ![0, 0] S128x128.size b').emb x) := by
  obtain ⟨p, q, rfl⟩ : ∃ (p q : Fin 128), x = ix2 p q := ⟨x 0, x 1, by funext a; fin_cases a <;> rfl⟩
  rw [fdb_apply]
  have e := h v.junk 895 p
  rw [if_pos (by decide)] at e
  have e2 : fdbOf x0 x3 ((Rect.unit (s := S128x128) ![0, 0] S128x128.size b').emb (ix2 p q)) = decAt x0 x3 895 p := by
    unfold fdbOf
    congr 1
    apply Fin.ext
    change 0 + 1 * p.val = p.val
    omega
  rw [e2]
  refine Eq.trans ?_ e
  change v.read (Elt Ideal) (v.writes (Elt Ideal) v.junk L) _ = _
  congr 1
  funext a
  apply Fin.ext
  fin_cases a
  · rfl
  · change 0 + 1 * p.val = p.val; omega

/-- The blocks' last rows, as the strided load finds them. -/
theorem last_rows (v : View sig .tc .vmem S896x128 .f32) (x0 : Vec Ideal S1x120 .f32) (x3 : Vec Ideal S1x896x120 .f32)
    (L : List (View.Piece (Elt Ideal) S896x128 .f32)) (h : MidAt v x0 x3 0 L) (b) (l : Fin 128) (q : Fin 112) :
    v.readCov L (⟨![7, 0], S112x128.size, ![8, 1], b⟩ : LoadRect S896x128) (ix2 q l) = blockSum x0 x3 (q.val * 8 + 7) l := by
  have e := h v.junk ⟨q.val * 8 + 7, by omega⟩ l
  rw [if_neg (Nat.not_lt_zero _)] at e
  refine Eq.trans ?_ e
  change v.read (Elt Ideal) (v.writes (Elt Ideal) v.junk L) _ = _
  congr 1
  funext a
  apply Fin.ext
  fin_cases a
  · change 7 + 8 * q.val = q.val * 8 + 7; omega
  · change 0 + 1 * l.val = l.val; omega

theorem tot_piece_0 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_0 (totScan t)) shapeCasts_S8x128_S8x128 x
      = (totOf x0 x3) ((Rect.unit (s := S120x128) ![8, 0] S8x128.size b).emb x) := by
  obtain ⟨s, l, rfl⟩ : ∃ (s : Fin 8) (l : Fin 128), x = ix2 s l := ⟨x 0, x 1, by funext a; fin_cases a <;> rfl⟩
  have e : shapeCast S8x128 (totRows_0 (totScan t)) shapeCasts_S8x128_S8x128 (ix2 s l) = totRows_0 (totScan t) (ix2 s l) := by pointwise
  rw [e, totRows_0_apply t (fun q => blockSum x0 x3 (q * 8 + 7) l) l (hg l)]
  change _ = totSpec x0 x3 (8 + 1 * s.val - 7) ⟨0 + 1 * l.val, _⟩
  have h1 : 8 + 1 * s.val - 7 = 0 + (s.val + 1) := by omega
  rw [h1]
  exact congrArg (totSpec x0 x3 (0 + (s.val + 1))) (Fin.ext (by change l.val = 0 + 1 * l.val; omega))

theorem tot_piece_1 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_1 (totScan t)) shapeCasts_S8x128_S8x128 x
      = (totOf x0 x3) ((Rect.unit (s := S120x128) ![16, 0] S8x128.size b).emb x) := by
  obtain ⟨s, l, rfl⟩ : ∃ (s : Fin 8) (l : Fin 128), x = ix2 s l := ⟨x 0, x 1, by funext a; fin_cases a <;> rfl⟩
  have e : shapeCast S8x128 (totRows_1 (totScan t)) shapeCasts_S8x128_S8x128 (ix2 s l) = totRows_1 (totScan t) (ix2 s l) := by pointwise
  rw [e, totRows_1_apply t (fun q => blockSum x0 x3 (q * 8 + 7) l) l (hg l)]
  change _ = totSpec x0 x3 (16 + 1 * s.val - 7) ⟨0 + 1 * l.val, _⟩
  have h1 : 16 + 1 * s.val - 7 = 8 + (s.val + 1) := by omega
  rw [h1]
  exact congrArg (totSpec x0 x3 (8 + (s.val + 1))) (Fin.ext (by change l.val = 0 + 1 * l.val; omega))

theorem tot_piece_2 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_2 (totScan t)) shapeCasts_S8x128_S8x128 x
      = (totOf x0 x3) ((Rect.unit (s := S120x128) ![24, 0] S8x128.size b).emb x) := by
  obtain ⟨s, l, rfl⟩ : ∃ (s : Fin 8) (l : Fin 128), x = ix2 s l := ⟨x 0, x 1, by funext a; fin_cases a <;> rfl⟩
  have e : shapeCast S8x128 (totRows_2 (totScan t)) shapeCasts_S8x128_S8x128 (ix2 s l) = totRows_2 (totScan t) (ix2 s l) := by pointwise
  rw [e, totRows_2_apply t (fun q => blockSum x0 x3 (q * 8 + 7) l) l (hg l)]
  change _ = totSpec x0 x3 (24 + 1 * s.val - 7) ⟨0 + 1 * l.val, _⟩
  have h1 : 24 + 1 * s.val - 7 = 16 + (s.val + 1) := by omega
  rw [h1]
  exact congrArg (totSpec x0 x3 (16 + (s.val + 1))) (Fin.ext (by change l.val = 0 + 1 * l.val; omega))

theorem tot_piece_3 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_3 (totScan t)) shapeCasts_S8x128_S8x128 x
      = (totOf x0 x3) ((Rect.unit (s := S120x128) ![32, 0] S8x128.size b).emb x) := by
  obtain ⟨s, l, rfl⟩ : ∃ (s : Fin 8) (l : Fin 128), x = ix2 s l := ⟨x 0, x 1, by funext a; fin_cases a <;> rfl⟩
  have e : shapeCast S8x128 (totRows_3 (totScan t)) shapeCasts_S8x128_S8x128 (ix2 s l) = totRows_3 (totScan t) (ix2 s l) := by pointwise
  rw [e, totRows_3_apply t (fun q => blockSum x0 x3 (q * 8 + 7) l) l (hg l)]
  change _ = totSpec x0 x3 (32 + 1 * s.val - 7) ⟨0 + 1 * l.val, _⟩
  have h1 : 32 + 1 * s.val - 7 = 24 + (s.val + 1) := by omega
  rw [h1]
  exact congrArg (totSpec x0 x3 (24 + (s.val + 1))) (Fin.ext (by change l.val = 0 + 1 * l.val; omega))

theorem tot_piece_4 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_4 (totScan t)) shapeCasts_S8x128_S8x128 x
      = (totOf x0 x3) ((Rect.unit (s := S120x128) ![40, 0] S8x128.size b).emb x) := by
  obtain ⟨s, l, rfl⟩ : ∃ (s : Fin 8) (l : Fin 128), x = ix2 s l := ⟨x 0, x 1, by funext a; fin_cases a <;> rfl⟩
  have e : shapeCast S8x128 (totRows_4 (totScan t)) shapeCasts_S8x128_S8x128 (ix2 s l) = totRows_4 (totScan t) (ix2 s l) := by pointwise
  rw [e, totRows_4_apply t (fun q => blockSum x0 x3 (q * 8 + 7) l) l (hg l)]
  change _ = totSpec x0 x3 (40 + 1 * s.val - 7) ⟨0 + 1 * l.val, _⟩
  have h1 : 40 + 1 * s.val - 7 = 32 + (s.val + 1) := by omega
  rw [h1]
  exact congrArg (totSpec x0 x3 (32 + (s.val + 1))) (Fin.ext (by change l.val = 0 + 1 * l.val; omega))

theorem tot_piece_5 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_5 (totScan t)) shapeCasts_S8x128_S8x128 x
      = (totOf x0 x3) ((Rect.unit (s := S120x128) ![48, 0] S8x128.size b).emb x) := by
  obtain ⟨s, l, rfl⟩ : ∃ (s : Fin 8) (l : Fin 128), x = ix2 s l := ⟨x 0, x 1, by funext a; fin_cases a <;> rfl⟩
  have e : shapeCast S8x128 (totRows_5 (totScan t)) shapeCasts_S8x128_S8x128 (ix2 s l) = totRows_5 (totScan t) (ix2 s l) := by pointwise
  rw [e, totRows_5_apply t (fun q => blockSum x0 x3 (q * 8 + 7) l) l (hg l)]
  change _ = totSpec x0 x3 (48 + 1 * s.val - 7) ⟨0 + 1 * l.val, _⟩
  have h1 : 48 + 1 * s.val - 7 = 40 + (s.val + 1) := by omega
  rw [h1]
  exact congrArg (totSpec x0 x3 (40 + (s.val + 1))) (Fin.ext (by change l.val = 0 + 1 * l.val; omega))

theorem tot_piece_6 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_6 (totScan t)) shapeCasts_S8x128_S8x128 x
      = (totOf x0 x3) ((Rect.unit (s := S120x128) ![56, 0] S8x128.size b).emb x) := by
  obtain ⟨s, l, rfl⟩ : ∃ (s : Fin 8) (l : Fin 128), x = ix2 s l := ⟨x 0, x 1, by funext a; fin_cases a <;> rfl⟩
  have e : shapeCast S8x128 (totRows_6 (totScan t)) shapeCasts_S8x128_S8x128 (ix2 s l) = totRows_6 (totScan t) (ix2 s l) := by pointwise
  rw [e, totRows_6_apply t (fun q => blockSum x0 x3 (q * 8 + 7) l) l (hg l)]
  change _ = totSpec x0 x3 (56 + 1 * s.val - 7) ⟨0 + 1 * l.val, _⟩
  have h1 : 56 + 1 * s.val - 7 = 48 + (s.val + 1) := by omega
  rw [h1]
  exact congrArg (totSpec x0 x3 (48 + (s.val + 1))) (Fin.ext (by change l.val = 0 + 1 * l.val; omega))

theorem tot_piece_7 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_7 (totScan t)) shapeCasts_S8x128_S8x128 x
      = (totOf x0 x3) ((Rect.unit (s := S120x128) ![64, 0] S8x128.size b).emb x) := by
  obtain ⟨s, l, rfl⟩ : ∃ (s : Fin 8) (l : Fin 128), x = ix2 s l := ⟨x 0, x 1, by funext a; fin_cases a <;> rfl⟩
  have e : shapeCast S8x128 (totRows_7 (totScan t)) shapeCasts_S8x128_S8x128 (ix2 s l) = totRows_7 (totScan t) (ix2 s l) := by pointwise
  rw [e, totRows_7_apply t (fun q => blockSum x0 x3 (q * 8 + 7) l) l (hg l)]
  change _ = totSpec x0 x3 (64 + 1 * s.val - 7) ⟨0 + 1 * l.val, _⟩
  have h1 : 64 + 1 * s.val - 7 = 56 + (s.val + 1) := by omega
  rw [h1]
  exact congrArg (totSpec x0 x3 (56 + (s.val + 1))) (Fin.ext (by change l.val = 0 + 1 * l.val; omega))

theorem tot_piece_8 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_8 (totScan t)) shapeCasts_S8x128_S8x128 x
      = (totOf x0 x3) ((Rect.unit (s := S120x128) ![72, 0] S8x128.size b).emb x) := by
  obtain ⟨s, l, rfl⟩ : ∃ (s : Fin 8) (l : Fin 128), x = ix2 s l := ⟨x 0, x 1, by funext a; fin_cases a <;> rfl⟩
  have e : shapeCast S8x128 (totRows_8 (totScan t)) shapeCasts_S8x128_S8x128 (ix2 s l) = totRows_8 (totScan t) (ix2 s l) := by pointwise
  rw [e, totRows_8_apply t (fun q => blockSum x0 x3 (q * 8 + 7) l) l (hg l)]
  change _ = totSpec x0 x3 (72 + 1 * s.val - 7) ⟨0 + 1 * l.val, _⟩
  have h1 : 72 + 1 * s.val - 7 = 64 + (s.val + 1) := by omega
  rw [h1]
  exact congrArg (totSpec x0 x3 (64 + (s.val + 1))) (Fin.ext (by change l.val = 0 + 1 * l.val; omega))

theorem tot_piece_9 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_9 (totScan t)) shapeCasts_S8x128_S8x128 x
      = (totOf x0 x3) ((Rect.unit (s := S120x128) ![80, 0] S8x128.size b).emb x) := by
  obtain ⟨s, l, rfl⟩ : ∃ (s : Fin 8) (l : Fin 128), x = ix2 s l := ⟨x 0, x 1, by funext a; fin_cases a <;> rfl⟩
  have e : shapeCast S8x128 (totRows_9 (totScan t)) shapeCasts_S8x128_S8x128 (ix2 s l) = totRows_9 (totScan t) (ix2 s l) := by pointwise
  rw [e, totRows_9_apply t (fun q => blockSum x0 x3 (q * 8 + 7) l) l (hg l)]
  change _ = totSpec x0 x3 (80 + 1 * s.val - 7) ⟨0 + 1 * l.val, _⟩
  have h1 : 80 + 1 * s.val - 7 = 72 + (s.val + 1) := by omega
  rw [h1]
  exact congrArg (totSpec x0 x3 (72 + (s.val + 1))) (Fin.ext (by change l.val = 0 + 1 * l.val; omega))

theorem tot_piece_10 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_10 (totScan t)) shapeCasts_S8x128_S8x128 x
      = (totOf x0 x3) ((Rect.unit (s := S120x128) ![88, 0] S8x128.size b).emb x) := by
  obtain ⟨s, l, rfl⟩ : ∃ (s : Fin 8) (l : Fin 128), x = ix2 s l := ⟨x 0, x 1, by funext a; fin_cases a <;> rfl⟩
  have e : shapeCast S8x128 (totRows_10 (totScan t)) shapeCasts_S8x128_S8x128 (ix2 s l) = totRows_10 (totScan t) (ix2 s l) := by pointwise
  rw [e, totRows_10_apply t (fun q => blockSum x0 x3 (q * 8 + 7) l) l (hg l)]
  change _ = totSpec x0 x3 (88 + 1 * s.val - 7) ⟨0 + 1 * l.val, _⟩
  have h1 : 88 + 1 * s.val - 7 = 80 + (s.val + 1) := by omega
  rw [h1]
  exact congrArg (totSpec x0 x3 (80 + (s.val + 1))) (Fin.ext (by change l.val = 0 + 1 * l.val; omega))

theorem tot_piece_11 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_11 (totScan t)) shapeCasts_S8x128_S8x128 x
      = (totOf x0 x3) ((Rect.unit (s := S120x128) ![96, 0] S8x128.size b).emb x) := by
  obtain ⟨s, l, rfl⟩ : ∃ (s : Fin 8) (l : Fin 128), x = ix2 s l := ⟨x 0, x 1, by funext a; fin_cases a <;> rfl⟩
  have e : shapeCast S8x128 (totRows_11 (totScan t)) shapeCasts_S8x128_S8x128 (ix2 s l) = totRows_11 (totScan t) (ix2 s l) := by pointwise
  rw [e, totRows_11_apply t (fun q => blockSum x0 x3 (q * 8 + 7) l) l (hg l)]
  change _ = totSpec x0 x3 (96 + 1 * s.val - 7) ⟨0 + 1 * l.val, _⟩
  have h1 : 96 + 1 * s.val - 7 = 88 + (s.val + 1) := by omega
  rw [h1]
  exact congrArg (totSpec x0 x3 (88 + (s.val + 1))) (Fin.ext (by change l.val = 0 + 1 * l.val; omega))

theorem tot_piece_12 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_12 (totScan t)) shapeCasts_S8x128_S8x128 x
      = (totOf x0 x3) ((Rect.unit (s := S120x128) ![104, 0] S8x128.size b).emb x) := by
  obtain ⟨s, l, rfl⟩ : ∃ (s : Fin 8) (l : Fin 128), x = ix2 s l := ⟨x 0, x 1, by funext a; fin_cases a <;> rfl⟩
  have e : shapeCast S8x128 (totRows_12 (totScan t)) shapeCasts_S8x128_S8x128 (ix2 s l) = totRows_12 (totScan t) (ix2 s l) := by pointwise
  rw [e, totRows_12_apply t (fun q => blockSum x0 x3 (q * 8 + 7) l) l (hg l)]
  change _ = totSpec x0 x3 (104 + 1 * s.val - 7) ⟨0 + 1 * l.val, _⟩
  have h1 : 104 + 1 * s.val - 7 = 96 + (s.val + 1) := by omega
  rw [h1]
  exact congrArg (totSpec x0 x3 (96 + (s.val + 1))) (Fin.ext (by change l.val = 0 + 1 * l.val; omega))

theorem tot_piece_13 (t : Vec Ideal S112x128 .f32) (x0 : Vec Ideal S1x120 .f32) (x3 : Vec Ideal S1x896x120 .f32)
    (hg : ∀ (l : Fin 128) (q : Fin 112), t (ix2 q l) = blockSum x0 x3 (q.val * 8 + 7) l) (b) (x : S8x128.Idx) :
    shapeCast S8x128 (totRows_13 (totScan t)) shapeCasts_S8x128_S8x128 x
      = (totOf x0 x3) ((Rect.unit (s := S120x128) ![112, 0] S8x128.size b).emb x) := by
  obtain ⟨s, l, rfl⟩ : ∃ (s : Fin 8) (l : Fin 128), x = ix2 s l := ⟨x 0, x 1, by funext a; fin_cases a <;> rfl⟩
  have e : shapeCast S8x128 (totRows_13 (totScan t)) shapeCasts_S8x128_S8x128 (ix2 s l) = totRows_13 (totScan t) (ix2 s l) := by pointwise
  rw [e, totRows_13_apply t (fun q => blockSum x0 x3 (q * 8 + 7) l) l (hg l)]
  change _ = totSpec x0 x3 (112 + 1 * s.val - 7) ⟨0 + 1 * l.val, _⟩
  have h1 : 112 + 1 * s.val - 7 = 104 + (s.val + 1) := by omega
  rw [h1]
  exact congrArg (totSpec x0 x3 (104 + (s.val + 1))) (Fin.ext (by change l.val = 0 + 1 * l.val; omega))

theorem tot_piece_z (x0 : Vec Ideal S1x120 .f32) (x3 : Vec Ideal S1x896x120 .f32) (b) (x : S8x128.Idx) :
    k0_pay5 (F := Ideal) x
      = (totOf x0 x3) ((Rect.unit (s := S120x128) ![0, 0] S8x128.size b).emb x) := by
  obtain ⟨s, l, rfl⟩ : ∃ (s : Fin 8) (l : Fin 128), x = ix2 s l := ⟨x 0, x 1, by funext a; fin_cases a <;> rfl⟩
  have e : k0_pay5 (F := Ideal) (ix2 s l) = (0 : EReal) := by pointwise [k0_pay5]
  rw [e]
  change _ = totSpec x0 x3 (0 + 1 * s.val - 7) ⟨0 + 1 * l.val, _⟩
  have h1 : 0 + 1 * s.val - 7 = 0 := by omega
  rw [h1]
  rfl

end Cert.KernelIdeal.Hand

end
-- ==== Proof.IdealBlocks.lean ====
module

public import proofs.«01_k».proof.Proof.PrepPiece
public import proofs.«01_k».proof.Proof.IdealPoints
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The batch of a grid point. -/
abbrev batch (t : Fin cfg0.N) : Fin 2 := ⟨t.val / 15, by have := lt_of_lt_of_eq t.isLt (show cfg0.N = 30 from N_0); omega⟩

/-- The block of eight heads of a grid point. -/
abbrev hblk (t : Fin cfg0.N) : Fin 15 := ⟨t.val % 15, Nat.mod_lt _ (by decide)⟩

/-- The second coordinate of a grid point is its block of heads. -/
theorem coords_one : ∀ t : Fin cfg0.N, (grid0.coords t 1) = hblk t :=
  fun t => Fin.ext ((by decide +kernel : ∀ t : Fin grid0.N, (grid0.coords t 1).val = t.val % 15) t)

/-- Which block of its array each window shows at a point. -/
theorem widx : ∀ t : Fin grid0.N, win0_0.index t = ![0, 0] ∧ win0_1.index t = ![t.val / 15, 0, t.val % 15]
    ∧ win0_2.index t = ![t.val / 15, 0, 0, 0] ∧ win0_3.index t = ![t.val / 15, 0, 0]
    ∧ win0_4.index t = ![t.val / 15, t.val % 15, 0, 0] ∧ win0_5.index t = ![t.val / 15, t.val % 15, 0]
    ∧ win0_6.index t = ![t.val / 15, t.val % 15, 0, 0] ∧ win0_7.index t = ![t.val / 15, 0, t.val % 15]
    ∧ win0_8.index t = ![t.val / 15, t.val % 15, 0, 0] ∧ win0_9.index t = ![t.val / 15, t.val % 15, 0] := by
  decide +kernel

/-- The rates' block at a point is the rates' array. -/
theorem iblk0_apply (c : Dev nD) (t : Fin cfg0.N) (l : Fin 120) :
    iblk m c 0 t (ix2 0 l) = m ((c.tc : Thread nD τ).loc main_arg3) (ix1 l) := by
  blk_ext! [iblk, V, widx t]

/-- The rows' block at a point. -/
theorem iblk1_apply (c : Dev nD) (t : Fin cfg0.N) (p : Fin 896) (l : Fin 768) :
    iblk m c 1 t (ix3 0 p l) = m ((c.tc : Thread nD τ).loc main_arg0) (ix3 (batch t) p ⟨768 * (t.val % 15) + l.val, by omega⟩) := by
  blk_ext! [iblk, V, widx t]

/-- The block of `c` at a point: its batch's rows. -/
theorem iblk2_apply (c : Dev nD) (t : Fin cfg0.N) (p : Fin 896) (g : Fin 8) (l : Fin 128) :
    iblk m c 2 t (ix4 0 p g l) = m ((c.tc : Thread nD τ).loc main_arg1) (ix4 (batch t) p g l) := by
  blk_ext! [iblk, V, widx t]

/-- The block of `dt` at a point: its batch's rows. -/
theorem iblk3_apply (c : Dev nD) (t : Fin cfg0.N) (p : Fin 896) (l : Fin 120) :
    iblk m c 3 t (ix3 0 p l) = m ((c.tc : Thread nD τ).loc main_arg2) (ix3 (batch t) p l) := by
  blk_ext! [iblk, V, widx t]

/-- The codes' block at a point: its batch's, at its eight heads. -/
theorem iblk4_apply (c : Dev nD) (t : Fin cfg0.N) (h : Fin 8) (a : Fin 96) (d : Fin 128) :
    iblk m c 4 t (ix4 0 h a d) = m ((c.tc : Thread nD τ).loc main_arg4) (ix4 (batch t) ⟨8 * (t.val % 15) + h.val, by omega⟩ a d) := by
  blk_ext! [iblk, V, widx t]

/-- The scales' block at a point. -/
theorem iblk5_apply (c : Dev nD) (t : Fin cfg0.N) (h : Fin 8) (a : Fin 96) :
    iblk m c 5 t (ix3 0 h a) = m ((c.tc : Thread nD τ).loc main_arg5) (ix3 (batch t) ⟨8 * (t.val % 15) + h.val, by omega⟩ a) := by
  blk_ext! [iblk, V, widx t]

/-- The local state's block at a point. -/
theorem iblk6_apply (c : Dev nD) (t : Fin cfg0.N) (h : Fin 8) (a : Fin 96) (d : Fin 128) :
    iblk m c 6 t (ix4 0 h a d) = m ((c.tc : Thread nD τ).loc main_arg6) (ix4 (batch t) ⟨8 * (t.val % 15) + h.val, by omega⟩ a d) := by
  blk_ext! [iblk, V, widx t]

/-- The rates' block is the same at every point. -/
theorem iblk0_congr (c : Dev nD) (t u : Fin cfg0.N) : iblk m c 0 t = iblk m c 0 u := by
  funext y; blk_ext! [iblk, V, widx t, widx u]

/-- The block of `c` is the same at every point of a batch. -/
theorem iblk2_congr (c : Dev nD) (t u : Fin cfg0.N) (h : t.val / 15 = u.val / 15) : iblk m c 2 t = iblk m c 2 u := by
  funext y; blk_ext! [iblk, V, widx t, widx u]

/-- The block of `dt` is the same at every point of a batch. -/
theorem iblk3_congr (c : Dev nD) (t u : Fin cfg0.N) (h : t.val / 15 = u.val / 15) : iblk m c 3 t = iblk m c 3 u := by
  funext y; blk_ext! [iblk, V, widx t, widx u]

end Cert.KernelIdeal.Hand

end
-- ==== Proof.PrepRun.lean ====
module

public import proofs.«01_k».proof.Proof.IdealSplit
public import proofs.«01_k».proof.Proof.HeadPiece
public import proofs.«01_k».proof.Proof.PrepPiece
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 20000000 in
/-- The preparation leaves the decays, the transposed columns and the last row's decays in the scratch, and the inputs as they were. -/
theorem prep_value (c : Dev nD)  (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec Ideal S1x120 .f32) (x1 : Vec Ideal S1x896x768 .bf16) (x2 : Vec Ideal S1x896x8x128 .bf16) (x3 : Vec Ideal S1x896x120 .f32) (x4 : Vec Ideal S1x8x96x128 .fp8e4m3) (x5 : Vec Ideal S1x8x96 .f32) (x6 : Vec Ideal S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (cgOf x2) ∗ owns (c : Thread nD τ) arg13 fullShare (decOf x0 x3) ∗ (∃ d, owns (c : Thread nD τ) arg14 fullShare d) ∗ owns (c : Thread nD τ) arg15 fullShare (fdbOf x0 x3)) -∗ K ⟨⟩))
    ⊢ wp frame (wpE (defs₀ (F := Ideal)) Variants.none c none) E (prep (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  unfold prep
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _; isplitr; swap; · iexact HS0
    ipureintro
    funext y
    refine View.read_writes_apply_of_pieces arg12.view _ (cgOf x2) _ ?_ y ?_
    rotate_left
    · exact View.cover_of_tiled _ ![1, 896, 128] rfl y
    refine List.forall_mem_cons.mpr ⟨?_, ?_⟩
    · intro x; exact cg_piece_1 arg4 harg4 x2 3 (by decide) 6 rfl 7 rfl inb_S1x896x8x128_S1x448x2x128_0_0_6_0_s_1_2_1_1 inb_S1x896x8x128_S1x448x2x128_0_1_6_0_s_1_2_1_1 inb_S8x896x128_S1x896x128_7_0_0 x
    refine List.forall_mem_cons.mpr ⟨?_, ?_⟩
    · intro x; exact cg_piece_0 arg4 harg4 x2 3 (by decide) 6 rfl 6 rfl inb_S1x896x8x128_S1x448x2x128_0_0_6_0_s_1_2_1_1 inb_S1x896x8x128_S1x448x2x128_0_1_6_0_s_1_2_1_1 inb_S8x896x128_S1x896x128_6_0_0 x
    refine List.forall_mem_cons.mpr ⟨?_, ?_⟩
    · intro x; exact cg_piece_1 arg4 harg4 x2 2 (by decide) 4 rfl 5 rfl inb_S1x896x8x128_S1x448x2x128_0_0_4_0_s_1_2_1_1 inb_S1x896x8x128_S1x448x2x128_0_1_4_0_s_1_2_1_1 inb_S8x896x128_S1x896x128_5_0_0 x
    refine List.forall_mem_cons.mpr ⟨?_, ?_⟩
    · intro x; exact cg_piece_0 arg4 harg4 x2 2 (by decide) 4 rfl 4 rfl inb_S1x896x8x128_S1x448x2x128_0_0_4_0_s_1_2_1_1 inb_S1x896x8x128_S1x448x2x128_0_1_4_0_s_1_2_1_1 inb_S8x896x128_S1x896x128_4_0_0 x
    refine List.forall_mem_cons.mpr ⟨?_, ?_⟩
    · intro x; exact cg_piece_1 arg4 harg4 x2 1 (by decide) 2 rfl 3 rfl inb_S1x896x8x128_S1x448x2x128_0_0_2_0_s_1_2_1_1 inb_S1x896x8x128_S1x448x2x128_0_1_2_0_s_1_2_1_1 inb_S8x896x128_S1x896x128_3_0_0 x
    refine List.forall_mem_cons.mpr ⟨?_, ?_⟩
    · intro x; exact cg_piece_0 arg4 harg4 x2 1 (by decide) 2 rfl 2 rfl inb_S1x896x8x128_S1x448x2x128_0_0_2_0_s_1_2_1_1 inb_S1x896x8x128_S1x448x2x128_0_1_2_0_s_1_2_1_1 inb_S8x896x128_S1x896x128_2_0_0 x
    refine List.forall_mem_cons.mpr ⟨?_, ?_⟩
    · intro x; exact cg_piece_1 arg4 harg4 x2 0 (by decide) 0 rfl 1 rfl inb_S1x896x8x128_S1x448x2x128_0_0_0_0_s_1_2_1_1 inb_S1x896x8x128_S1x448x2x128_0_1_0_0_s_1_2_1_1 inb_S8x896x128_S1x896x128_1_0_0 x
    refine List.forall_mem_cons.mpr ⟨?_, ?_⟩
    · intro x; exact cg_piece_0 arg4 harg4 x2 0 (by decide) 0 rfl 0 rfl inb_S1x896x8x128_S1x448x2x128_0_0_0_0_s_1_2_1_1 inb_S1x896x8x128_S1x448x2x128_0_1_0_0_s_1_2_1_1 inb_S8x896x128_S1x896x128_0_0_0 x
    exact List.forall_mem_nil _
  have e0 : View.readAt (Elt Ideal) arg2.view (Rect.unit (s := S1x120) ![0, 0] S1x120.size inb_S1x120_S1x120_0_0).toLoadRect (harg2.unread x0) = x0 := by
    funext y; refine ld_at _ _ _ _ _ _ _ _ ?_; intro a; fin_cases a <;> exact Nat.zero_add _
  have e3 : View.readAt (Elt Ideal) arg5.view (Rect.unit (s := S1x896x120) ![0, 0, 0] S1x896x120.size inb_S1x896x120_S1x896x120_0_0_0).toLoadRect (harg5.unread x3) = x3 := by
    funext y; refine ld_at _ _ _ _ _ _ _ _ ?_; intro a; fin_cases a <;> exact Nat.zero_add _
  have h1 : MidAt arg13.view x0 x3 0 (prep_value.sl.HS1_1 c arg2 harg2 arg5 harg5 x0 x3) := mid_zero _ _ _ inb_S896x128_S896x128_0_0 _ (congrArg₂ k0_pay2 e0 e3)
  have hT : TotAt arg14.view x0 x3 (prep_value.sl.HS2_15 c arg2 harg2 arg5 harg5 arg13 x0 x3) := by
    intro f r l
    refine View.read_writes_apply_of_pieces arg14.view _ (totOf x0 x3) _ ?_ (ix2 r l) ?_
    rotate_left
    · exact View.cover_of_tiled _ ![8, 128] rfl _
    refine List.forall_mem_cons.mpr ⟨?_, ?_⟩
    · intro x; exact tot_piece_13 _ x0 x3 (last_rows arg13.view x0 x3 _ h1 inb_S896x128_S112x128_7_0_s_8_1) inb_S120x128_S8x128_112_0 x
    refine List.forall_mem_cons.mpr ⟨?_, ?_⟩
    · intro x; exact tot_piece_12 _ x0 x3 (last_rows arg13.view x0 x3 _ h1 inb_S896x128_S112x128_7_0_s_8_1) inb_S120x128_S8x128_104_0 x
    refine List.forall_mem_cons.mpr ⟨?_, ?_⟩
    · intro x; exact tot_piece_11 _ x0 x3 (last_rows arg13.view x0 x3 _ h1 inb_S896x128_S112x128_7_0_s_8_1) inb_S120x128_S8x128_96_0 x
    refine List.forall_mem_cons.mpr ⟨?_, ?_⟩
    · intro x; exact tot_piece_10 _ x0 x3 (last_rows arg13.view x0 x3 _ h1 inb_S896x128_S112x128_7_0_s_8_1) inb_S120x128_S8x128_88_0 x
    refine List.forall_mem_cons.mpr ⟨?_, ?_⟩
    · intro x; exact tot_piece_9 _ x0 x3 (last_rows arg13.view x0 x3 _ h1 inb_S896x128_S112x128_7_0_s_8_1) inb_S120x128_S8x128_80_0 x
    refine List.forall_mem_cons.mpr ⟨?_, ?_⟩
    · intro x; exact tot_piece_8 _ x0 x3 (last_rows arg13.view x0 x3 _ h1 inb_S896x128_S112x128_7_0_s_8_1) inb_S120x128_S8x128_72_0 x
    refine List.forall_mem_cons.mpr ⟨?_, ?_⟩
    · intro x; exact tot_piece_7 _ x0 x3 (last_rows arg13.view x0 x3 _ h1 inb_S896x128_S112x128_7_0_s_8_1) inb_S120x128_S8x128_64_0 x
    refine List.forall_mem_cons.mpr ⟨?_, ?_⟩
    · intro x; exact tot_piece_6 _ x0 x3 (last_rows arg13.view x0 x3 _ h1 inb_S896x128_S112x128_7_0_s_8_1) inb_S120x128_S8x128_56_0 x
    refine List.forall_mem_cons.mpr ⟨?_, ?_⟩
    · intro x; exact tot_piece_5 _ x0 x3 (last_rows arg13.view x0 x3 _ h1 inb_S896x128_S112x128_7_0_s_8_1) inb_S120x128_S8x128_48_0 x
    refine List.forall_mem_cons.mpr ⟨?_, ?_⟩
    · intro x; exact tot_piece_4 _ x0 x3 (last_rows arg13.view x0 x3 _ h1 inb_S896x128_S112x128_7_0_s_8_1) inb_S120x128_S8x128_40_0 x
    refine List.forall_mem_cons.mpr ⟨?_, ?_⟩
    · intro x; exact tot_piece_3 _ x0 x3 (last_rows arg13.view x0 x3 _ h1 inb_S896x128_S112x128_7_0_s_8_1) inb_S120x128_S8x128_32_0 x
    refine List.forall_mem_cons.mpr ⟨?_, ?_⟩
    · intro x; exact tot_piece_2 _ x0 x3 (last_rows arg13.view x0 x3 _ h1 inb_S896x128_S112x128_7_0_s_8_1) inb_S120x128_S8x128_24_0 x
    refine List.forall_mem_cons.mpr ⟨?_, ?_⟩
    · intro x; exact tot_piece_1 _ x0 x3 (last_rows arg13.view x0 x3 _ h1 inb_S896x128_S112x128_7_0_s_8_1) inb_S120x128_S8x128_16_0 x
    refine List.forall_mem_cons.mpr ⟨?_, ?_⟩
    · intro x; exact tot_piece_0 _ x0 x3 (last_rows arg13.view x0 x3 _ h1 inb_S896x128_S112x128_7_0_s_8_1) inb_S120x128_S8x128_8_0 x
    refine List.forall_mem_cons.mpr ⟨?_, ?_⟩
    · intro x; exact tot_piece_z x0 x3 inb_S120x128_S8x128_0_0 x
    exact List.forall_mem_nil _
  have h2 : MidAt arg13.view x0 x3 1 (prep_value.sl.HS1_2 c arg2 harg2 arg5 harg5 arg13 arg14 x0 x3) :=
    mid_step _ arg14.view _ _ 0 0 7 rfl rfl (by decide) (prep_value.sl.HS1_1 c arg2 harg2 arg5 harg5 x0 x3) (prep_value.sl.HS2_15 c arg2 harg2 arg5 harg5 arg13 x0 x3) inb_S896x128_S8x128_0_0 inb_S896x128_S8x128_0_0 inb_S120x128_S1x128_7_0 _ rfl hT h1
  have h3 : MidAt arg13.view x0 x3 2 (prep_value.sl.HS1_3 c arg2 harg2 arg5 harg5 arg13 arg14 x0 x3) :=
    mid_step _ arg14.view _ _ 1 8 8 rfl rfl (by decide) (prep_value.sl.HS1_2 c arg2 harg2 arg5 harg5 arg13 arg14 x0 x3) (prep_value.sl.HS2_15 c arg2 harg2 arg5 harg5 arg13 x0 x3) inb_S896x128_S8x128_8_0 inb_S896x128_S8x128_8_0 inb_S120x128_S1x128_8_0 _ rfl hT h2
  have h4 : MidAt arg13.view x0 x3 3 (prep_value.sl.HS1_4 c arg2 harg2 arg5 harg5 arg13 arg14 x0 x3) :=
    mid_step _ arg14.view _ _ 2 16 9 rfl rfl (by decide) (prep_value.sl.HS1_3 c arg2 harg2 arg5 harg5 arg13 arg14 x0 x3) (prep_value.sl.HS2_15 c arg2 harg2 arg5 harg5 arg13 x0 x3) inb_S896x128_S8x128_16_0 inb_S896x128_S8x128_16_0 inb_S120x128_S1x128_9_0 _ rfl hT h3
  have h5 : MidAt arg13.view x0 x3 4 (prep_value.sl.HS1_5 c arg2 harg2 arg5 harg5 arg13 arg14 x0 x3) :=
    mid_step _ arg14.view _ _ 3 24 10 rfl rfl (by decide) (prep_value.sl.HS1_4 c arg2 harg2 arg5 harg5 arg13 arg14 x0 x3) (prep_value.sl.HS2_15 c arg2 harg2 arg5 harg5 arg13 x0 x3) inb_S896x128_S8x128_24_0 inb_S896x128_S8x128_24_0 inb_S120x128_S1x128_10_0 _ rfl hT h4
  have h6 : MidAt arg13.view x0 x3 5 (prep_value.sl.HS1_6 c arg2 harg2 arg5 harg5 arg13 arg14 x0 x3) :=
    mid_step _ arg14.view _ _ 4 32 11 rfl rfl (by decide) (prep_value.sl.HS1_5 c arg2 harg2 arg5 harg5 arg13 arg14 x0 x3) (prep_value.sl.HS2_15 c arg2 harg2 arg5 harg5 arg13 x0 x3) inb_S896x128_S8x128_32_0 inb_S896x128_S8x128_32_0 inb_S120x128_S1x128_11_0 _ rfl hT h5
  have h7 : MidAt arg13.view x0 x3 6 (prep_value.sl.HS1_7 c arg2 harg2 arg5 harg5 arg13 arg14 x0 x3) :=
    mid_step _ arg14.view _ _ 5 40 12 rfl rfl (by decide) (prep_value.sl.HS1_6 c arg2 harg2 arg5 harg5 arg13 arg14 x0 x3) (prep_value.sl.HS2_15 c arg2 harg2 arg5 harg5 arg13 x0 x3) inb_S896x128_S8x128_40_0 inb_S896x128_S8x128_40_0 inb_S120x128_S1x128_12_0 _ rfl hT h6
  have h8 : MidAt arg13.view x0 x3 7 (prep_value.sl.HS1_8 c arg2 harg2 arg5 harg5 arg13 arg14 x0 x3) :=
    mid_step _ arg14.view _ _ 6 48 13 rfl rfl (by decide) (prep_value.sl.HS1_7 c arg2 harg2 arg5 harg5 arg13 arg14 x0 x3) (prep_value.sl.HS2_15 c arg2 harg2 arg5 harg5 arg13 x0 x3) inb_S896x128_S8x128_48_0 inb_S896x128_S8x128_48_0 inb_S120x128_S1x128_13_0 _ rfl hT h7
  have h9 : MidAt arg13.view x0 x3 8 (prep_value.sl.HS1_9 c arg2 harg2 arg5 harg5 arg13 arg14 x0 x3) :=
    mid_step _ arg14.view _ _ 7 56 14 rfl rfl (by decide) (prep_value.sl.HS1_8 c arg2 harg2 arg5 harg5 arg13 arg14 x0 x3) (prep_value.sl.HS2_15 c arg2 harg2 arg5 harg5 arg13 x0 x3) inb_S896x128_S8x128_56_0 inb_S896x128_S8x128_56_0 inb_S120x128_S1x128_14_0 _ rfl hT h8
  have h10 : MidAt arg13.view x0 x3 9 (prep_value.sl.HS1_10 c arg2 harg2 arg5 harg5 arg13 arg14 x0 x3) :=
    mid_step _ arg14.view _ _ 8 64 15 rfl rfl (by decide) (prep_value.sl.HS1_9 c arg2 harg2 arg5 harg5 arg13 arg14 x0 x3) (prep_value.sl.HS2_15 c arg2 harg2 arg5 harg5 arg13 x0 x3) inb_S896x128_S8x128_64_0 inb_S896x128_S8x128_64_0 inb_S120x128_S1x128_15_0 _ rfl hT h9
  have h11 : MidAt arg13.view x0 x3 10 (prep_value.sl.HS1_11 c arg2 harg2 arg5 harg5 arg13 arg14 x0 x3) :=
    mid_step _ arg14.view _ _ 9 72 16 rfl rfl (by decide) (prep_value.sl.HS1_10 c arg2 harg2 arg5 harg5 arg13 arg14 x0 x3) (prep_value.sl.HS2_15 c arg2 harg2 arg5 harg5 arg13 x0 x3) inb_S896x128_S8x128_72_0 inb_S896x128_S8x128_72_0 inb_S120x128_S1x128_16_0 _ rfl hT h10
  have h12 : MidAt arg13.view x0 x3 11 (prep_value.sl.HS1_12 c arg2 harg2 arg5 harg5 arg13 arg14 x0 x3) :=
    mid_step _ arg14.view _ _ 10 80 17 rfl rfl (by decide) (prep_value.sl.HS1_11 c arg2 harg2 arg5 harg5 arg13 arg14 x0 x3) (prep_value.sl.HS2_15 c arg2 harg2 arg5 harg5 arg13 x0 x3) inb_S896x128_S8x128_80_0 inb_S896x128_S8x128_80_0 inb_S120x128_S1x128_17_0 _ rfl hT h11
  have h13 : MidAt arg13.view x0 x3 12 (prep_value.sl.HS1_13 c arg2 harg2 arg5 harg5 arg13 arg14 x0 x3) :=
    mid_step _ arg14.view _ _ 11 88 18 rfl rfl (by decide) (prep_value.sl.HS1_12 c arg2 harg2 arg5 harg5 arg13 arg14 x0 x3) (prep_value.sl.HS2_15 c arg2 harg2 arg5 harg5 arg13 x0 x3) inb_S896x128_S8x128_88_0 inb_S896x128_S8x128_88_0 inb_S120x128_S1x128_18_0 _ rfl hT h12
  have h14 : MidAt arg13.view x0 x3 13 (prep_value.sl.HS1_14 c arg2 harg2 arg5 harg5 arg13 arg14 x0 x3) :=
    mid_step _ arg14.view _ _ 12 96 19 rfl rfl (by decide) (prep_value.sl.HS1_13 c arg2 harg2 arg5 harg5 arg13 arg14 x0 x3) (prep_value.sl.HS2_15 c arg2 harg2 arg5 harg5 arg13 x0 x3) inb_S896x128_S8x128_96_0 inb_S896x128_S8x128_96_0 inb_S120x128_S1x128_19_0 _ rfl hT h13
  have h15 : MidAt arg13.view x0 x3 14 (prep_value.sl.HS1_15 c arg2 harg2 arg5 harg5 arg13 arg14 x0 x3) :=
    mid_step _ arg14.view _ _ 13 104 20 rfl rfl (by decide) (prep_value.sl.HS1_14 c arg2 harg2 arg5 harg5 arg13 arg14 x0 x3) (prep_value.sl.HS2_15 c arg2 harg2 arg5 harg5 arg13 x0 x3) inb_S896x128_S8x128_104_0 inb_S896x128_S8x128_104_0 inb_S120x128_S1x128_20_0 _ rfl hT h14
  have h16 : MidAt arg13.view x0 x3 15 (prep_value.sl.HS1_16 c arg2 harg2 arg5 harg5 arg13 arg14 x0 x3) :=
    mid_step _ arg14.view _ _ 14 112 21 rfl rfl (by decide) (prep_value.sl.HS1_15 c arg2 harg2 arg5 harg5 arg13 arg14 x0 x3) (prep_value.sl.HS2_15 c arg2 harg2 arg5 harg5 arg13 x0 x3) inb_S896x128_S8x128_112_0 inb_S896x128_S8x128_112_0 inb_S120x128_S1x128_21_0 _ rfl hT h15
  have h17 : MidAt arg13.view x0 x3 16 (prep_value.sl.HS1_17 c arg2 harg2 arg5 harg5 arg13 arg14 x0 x3) :=
    mid_step _ arg14.view _ _ 15 120 22 rfl rfl (by decide) (prep_value.sl.HS1_16 c arg2 harg2 arg5 harg5 arg13 arg14 x0 x3) (prep_value.sl.HS2_15 c arg2 harg2 arg5 harg5 arg13 x0 x3) inb_S896x128_S8x128_120_0 inb_S896x128_S8x128_120_0 inb_S120x128_S1x128_22_0 _ rfl hT h16
  have h18 : MidAt arg13.view x0 x3 17 (prep_value.sl.HS1_18 c arg2 harg2 arg5 harg5 arg13 arg14 x0 x3) :=
    mid_step _ arg14.view _ _ 16 128 23 rfl rfl (by decide) (prep_value.sl.HS1_17 c arg2 harg2 arg5 harg5 arg13 arg14 x0 x3) (prep_value.sl.HS2_15 c arg2 harg2 arg5 harg5 arg13 x0 x3) inb_S896x128_S8x128_128_0 inb_S896x128_S8x128_128_0 inb_S120x128_S1x128_23_0 _ rfl hT h17
  have h19 : MidAt arg13.view x0 x3 18 (prep_value.sl.HS1_19 c arg2 harg2 arg5 harg5 arg13 arg14 x0 x3) :=
    mid_step _ arg14.view _ _ 17 136 24 rfl rfl (by decide) (prep_value.sl.HS1_18 c arg2 harg2 arg5 harg5 arg13 arg14 x0 x3) (prep_value.sl.HS2_15 c arg2 harg2 arg5 harg5 arg13 x0 x3) inb_S896x128_S8x128_136_0 inb_S896x128_S8x128_136_0 inb_S120x128_S1x128_24_0 _ rfl hT h18
  have h20 : MidAt arg13.view x0 x3 19 (prep_value.sl.HS1_20 c arg2 harg2 arg5 harg5 arg13 arg14 x0 x3) :=
    mid_step _ arg14.view _ _ 18 144 25 rfl rfl (by decide) (prep_value.sl.HS1_19 c arg2 harg2 arg5 harg5 arg13 arg14 x0 x3) (prep_value.sl.HS2_15 c arg2 harg2 arg5 harg5 arg13 x0 x3) inb_S896x128_S8x128_144_0 inb_S896x128_S8x128_144_0 inb_S120x128_S1x128_25_0 _ rfl hT h19
  have h21 : MidAt arg13.view x0 x3 20 (prep_value.sl.HS1_21 c arg2 harg2 arg5 harg5 arg13 arg14 x0 x3) :=
    mid_step _ arg14.view _ _ 19 152 26 rfl rfl (by decide) (prep_value.sl.HS1_20 c arg2 harg2 arg5 harg5 arg13 arg14 x0 x3) (prep_value.sl.HS2_15 c arg2 harg2 arg5 harg5 arg13 x0 x3) inb_S896x128_S8x128_152_0 inb_S896x128_S8x128_152_0 inb_S120x128_S1x128_26_0 _ rfl hT h20
  have h22 : MidAt arg13.view x0 x3 21 (prep_value.sl.HS1_22 c arg2 harg2 arg5 harg5 arg13 arg14 x0 x3) :=
    mid_step _ arg14.view _ _ 20 160 27 rfl rfl (by decide) (prep_value.sl.HS1_21 c arg2 harg2 arg5 harg5 arg13 arg14 x0 x3) (prep_value.sl.HS2_15 c arg2 harg2 arg5 harg5 arg13 x0 x3) inb_S896x128_S8x128_160_0 inb_S896x128_S8x128_160_0 inb_S120x128_S1x128_27_0 _ rfl hT h21
  have h23 : MidAt arg13.view x0 x3 22 (prep_value.sl.HS1_23 c arg2 harg2 arg5 harg5 arg13 arg14 x0 x3) :=
    mid_step _ arg14.view _ _ 21 168 28 rfl rfl (by decide) (prep_value.sl.HS1_22 c arg2 harg2 arg5 harg5 arg13 arg14 x0 x3) (prep_value.sl.HS2_15 c arg2 harg2 arg5 harg5 arg13 x0 x3) inb_S896x128_S8x128_168_0 inb_S896x128_S8x128_168_0 inb_S120x128_S1x128_28_0 _ rfl hT h22
  have h24 : MidAt arg13.view x0 x3 23 (prep_value.sl.HS1_24 c arg2 harg2 arg5 harg5 arg13 arg14 x0 x3) :=
    mid_step _ arg14.view _ _ 22 176 29 rfl rfl (by decide) (prep_value.sl.HS1_23 c arg2 harg2 arg5 harg5 arg13 arg14 x0 x3) (prep_value.sl.HS2_15 c arg2 harg2 arg5 harg5 arg13 x0 x3) inb_S896x128_S8x128_176_0 inb_S896x128_S8x128_176_0 inb_S120x128_S1x128_29_0 _ rfl hT h23
  have h25 : MidAt arg13.view x0 x3 24 (prep_value.sl.HS1_25 c arg2 harg2 arg5 harg5 arg13 arg14 x0 x3) :=
    mid_step _ arg14.view _ _ 23 184 30 rfl rfl (by decide) (prep_value.sl.HS1_24 c arg2 harg2 arg5 harg5 arg13 arg14 x0 x3) (prep_value.sl.HS2_15 c arg2 harg2 arg5 harg5 arg13 x0 x3) inb_S896x128_S8x128_184_0 inb_S896x128_S8x128_184_0 inb_S120x128_S1x128_30_0 _ rfl hT h24
  have h26 : MidAt arg13.view x0 x3 25 (prep_value.sl.HS1_26 c arg2 harg2 arg5 harg5 arg13 arg14 x0 x3) :=
    mid_step _ arg14.view _ _ 24 192 31 rfl rfl (by decide) (prep_value.sl.HS1_25 c arg2 harg2 arg5 harg5 arg13 arg14 x0 x3) (prep_value.sl.HS2_15 c arg2 harg2 arg5 harg5 arg13 x0 x3) inb_S896x128_S8x128_192_0 inb_S896x128_S8x128_192_0 inb_S120x128_S1x128_31_0 _ rfl hT h25
  have h27 : MidAt arg13.view x0 x3 26 (prep_value.sl.HS1_27 c arg2 harg2 arg5 harg5 arg13 arg14 x0 x3) :=
    mid_step _ arg14.view _ _ 25 200 32 rfl rfl (by decide) (prep_value.sl.HS1_26 c arg2 harg2 arg5 harg5 arg13 arg14 x0 x3) (prep_value.sl.HS2_15 c arg2 harg2 arg5 harg5 arg13 x0 x3) inb_S896x128_S8x128_200_0 inb_S896x128_S8x128_200_0 inb_S120x128_S1x128_32_0 _ rfl hT h26
  have h28 : MidAt arg13.view x0 x3 27 (prep_value.sl.HS1_28 c arg2 harg2 arg5 harg5 arg13 arg14 x0 x3) :=
    mid_step _ arg14.view _ _ 26 208 33 rfl rfl (by decide) (prep_value.sl.HS1_27 c arg2 harg2 arg5 harg5 arg13 arg14 x0 x3) (prep_value.sl.HS2_15 c arg2 harg2 arg5 harg5 arg13 x0 x3) inb_S896x128_S8x128_208_0 inb_S896x128_S8x128_208_0 inb_S120x128_S1x128_33_0 _ rfl hT h27
  have h29 : MidAt arg13.view x0 x3 28 (prep_value.sl.HS1_29 c arg2 harg2 arg5 harg5 arg13 arg14 x0 x3) :=
    mid_step _ arg14.view _ _ 27 216 34 rfl rfl (by decide) (prep_value.sl.HS1_28 c arg2 harg2 arg5 harg5 arg13 arg14 x0 x3) (prep_value.sl.HS2_15 c arg2 harg2 arg5 harg5 arg13 x0 x3) inb_S896x128_S8x128_216_0 inb_S896x128_S8x128_216_0 inb_S120x128_S1x128_34_0 _ rfl hT h28
  have h30 : MidAt arg13.view x0 x3 29 (prep_value.sl.HS1_30 c arg2 harg2 arg5 harg5 arg13 arg14 x0 x3) :=
    mid_step _ arg14.view _ _ 28 224 35 rfl rfl (by decide) (prep_value.sl.HS1_29 c arg2 harg2 arg5 harg5 arg13 arg14 x0 x3) (prep_value.sl.HS2_15 c arg2 harg2 arg5 harg5 arg13 x0 x3) inb_S896x128_S8x128_224_0 inb_S896x128_S8x128_224_0 inb_S120x128_S1x128_35_0 _ rfl hT h29
  have h31 : MidAt arg13.view x0 x3 30 (prep_value.sl.HS1_31 c arg2 harg2 arg5 harg5 arg13 arg14 x0 x3) :=
    mid_step _ arg14.view _ _ 29 232 36 rfl rfl (by decide) (prep_value.sl.HS1_30 c arg2 harg2 arg5 harg5 arg13 arg14 x0 x3) (prep_value.sl.HS2_15 c arg2 harg2 arg5 harg5 arg13 x0 x3) inb_S896x128_S8x128_232_0 inb_S896x128_S8x128_232_0 inb_S120x128_S1x128_36_0 _ rfl hT h30
  have h32 : MidAt arg13.view x0 x3 31 (prep_value.sl.HS1_32 c arg2 harg2 arg5 harg5 arg13 arg14 x0 x3) :=
    mid_step _ arg14.view _ _ 30 240 37 rfl rfl (by decide) (prep_value.sl.HS1_31 c arg2 harg2 arg5 harg5 arg13 arg14 x0 x3) (prep_value.sl.HS2_15 c arg2 harg2 arg5 harg5 arg13 x0 x3) inb_S896x128_S8x128_240_0 inb_S896x128_S8x128_240_0 inb_S120x128_S1x128_37_0 _ rfl hT h31
  have h33 : MidAt arg13.view x0 x3 32 (prep_value.sl.HS1_33 c arg2 harg2 arg5 harg5 arg13 arg14 x0 x3) :=
    mid_step _ arg14.view _ _ 31 248 38 rfl rfl (by decide) (prep_value.sl.HS1_32 c arg2 harg2 arg5 harg5 arg13 arg14 x0 x3) (prep_value.sl.HS2_15 c arg2 harg2 arg5 harg5 arg13 x0 x3) inb_S896x128_S8x128_248_0 inb_S896x128_S8x128_248_0 inb_S120x128_S1x128_38_0 _ rfl hT h32
  have h34 : MidAt arg13.view x0 x3 33 (prep_value.sl.HS1_34 c arg2 harg2 arg5 harg5 arg13 arg14 x0 x3) :=
    mid_step _ arg14.view _ _ 32 256 39 rfl rfl (by decide) (prep_value.sl.HS1_33 c arg2 harg2 arg5 harg5 arg13 arg14 x0 x3) (prep_value.sl.HS2_15 c arg2 harg2 arg5 harg5 arg13 x0 x3) inb_S896x128_S8x128_256_0 inb_S896x128_S8x128_256_0 inb_S120x128_S1x128_39_0 _ rfl hT h33
  have h35 : MidAt arg13.view x0 x3 34 (prep_value.sl.HS1_35 c arg2 harg2 arg5 harg5 arg13 arg14 x0 x3) :=
    mid_step _ arg14.view _ _ 33 264 40 rfl rfl (by decide) (prep_value.sl.HS1_34 c arg2 harg2 arg5 harg5 arg13 arg14 x0 x3) (prep_value.sl.HS2_15 c arg2 harg2 arg5 harg5 arg13 x0 x3) inb_S896x128_S8x128_264_0 inb_S896x128_S8x128_264_0 inb_S120x128_S1x128_40_0 _ rfl hT h34
  have h36 : MidAt arg13.view x0 x3 35 (prep_value.sl.HS1_36 c arg2 harg2 arg5 harg5 arg13 arg14 x0 x3) :=
    mid_step _ arg14.view _ _ 34 272 41 rfl rfl (by decide) (prep_value.sl.HS1_35 c arg2 harg2 arg5 harg5 arg13 arg14 x0 x3) (prep_value.sl.HS2_15 c arg2 harg2 arg5 harg5 arg13 x0 x3) inb_S896x128_S8x128_272_0 inb_S896x128_S8x128_272_0 inb_S120x128_S1x128_41_0 _ rfl hT h35
  have h37 : MidAt arg13.view x0 x3 36 (prep_value.sl.HS1_37 c arg2 harg2 arg5 harg5 arg13 arg14 x0 x3) :=
    mid_step _ arg14.view _ _ 35 280 42 rfl rfl (by decide) (prep_value.sl.HS1_36 c arg2 harg2 arg5 harg5 arg13 arg14 x0 x3) (prep_value.sl.HS2_15 c arg2 harg2 arg5 harg5 arg13 x0 x3) inb_S896x128_S8x128_280_0 inb_S896x128_S8x128_280_0 inb_S120x128_S1x128_42_0 _ rfl hT h36
  have h38 : MidAt arg13.view x0 x3 37 (prep_value.sl.HS1_38 c arg2 harg2 arg5 harg5 arg13 arg14 x0 x3) :=
    mid_step _ arg14.view _ _ 36 288 43 rfl rfl (by decide) (prep_value.sl.HS1_37 c arg2 harg2 arg5 harg5 arg13 arg14 x0 x3) (prep_value.sl.HS2_15 c arg2 harg2 arg5 harg5 arg13 x0 x3) inb_S896x128_S8x128_288_0 inb_S896x128_S8x128_288_0 inb_S120x128_S1x128_43_0 _ rfl hT h37
  have h39 : MidAt arg13.view x0 x3 38 (prep_value.sl.HS1_39 c arg2 harg2 arg5 harg5 arg13 arg14 x0 x3) :=
    mid_step _ arg14.view _ _ 37 296 44 rfl rfl (by decide) (prep_value.sl.HS1_38 c arg2 harg2 arg5 harg5 arg13 arg14 x0 x3) (prep_value.sl.HS2_15 c arg2 harg2 arg5 harg5 arg13 x0 x3) inb_S896x128_S8x128_296_0 inb_S896x128_S8x128_296_0 inb_S120x128_S1x128_44_0 _ rfl hT h38
  have h40 : MidAt arg13.view x0 x3 39 (prep_value.sl.HS1_40 c arg2 harg2 arg5 harg5 arg13 arg14 x0 x3) :=
    mid_step _ arg14.view _ _ 38 304 45 rfl rfl (by decide) (prep_value.sl.HS1_39 c arg2 harg2 arg5 harg5 arg13 arg14 x0 x3) (prep_value.sl.HS2_15 c arg2 harg2 arg5 harg5 arg13 x0 x3) inb_S896x128_S8x128_304_0 inb_S896x128_S8x128_304_0 inb_S120x128_S1x128_45_0 _ rfl hT h39
  have h41 : MidAt arg13.view x0 x3 40 (prep_value.sl.HS1_41 c arg2 harg2 arg5 harg5 arg13 arg14 x0 x3) :=
    mid_step _ arg14.view _ _ 39 312 46 rfl rfl (by decide) (prep_value.sl.HS1_40 c arg2 harg2 arg5 harg5 arg13 arg14 x0 x3) (prep_value.sl.HS2_15 c arg2 harg2 arg5 harg5 arg13 x0 x3) inb_S896x128_S8x128_312_0 inb_S896x128_S8x128_312_0 inb_S120x128_S1x128_46_0 _ rfl hT h40
  have h42 : MidAt arg13.view x0 x3 41 (prep_value.sl.HS1_42 c arg2 harg2 arg5 harg5 arg13 arg14 x0 x3) :=
    mid_step _ arg14.view _ _ 40 320 47 rfl rfl (by decide) (prep_value.sl.HS1_41 c arg2 harg2 arg5 harg5 arg13 arg14 x0 x3) (prep_value.sl.HS2_15 c arg2 harg2 arg5 harg5 arg13 x0 x3) inb_S896x128_S8x128_320_0 inb_S896x128_S8x128_320_0 inb_S120x128_S1x128_47_0 _ rfl hT h41
  have h43 : MidAt arg13.view x0 x3 42 (prep_value.sl.HS1_43 c arg2 harg2 arg5 harg5 arg13 arg14 x0 x3) :=
    mid_step _ arg14.view _ _ 41 328 48 rfl rfl (by decide) (prep_value.sl.HS1_42 c arg2 harg2 arg5 harg5 arg13 arg14 x0 x3) (prep_value.sl.HS2_15 c arg2 harg2 arg5 harg5 arg13 x0 x3) inb_S896x128_S8x128_328_0 inb_S896x128_S8x128_328_0 inb_S120x128_S1x128_48_0 _ rfl hT h42
  have h44 : MidAt arg13.view x0 x3 43 (prep_value.sl.HS1_44 c arg2 harg2 arg5 harg5 arg13 arg14 x0 x3) :=
    mid_step _ arg14.view _ _ 42 336 49 rfl rfl (by decide) (prep_value.sl.HS1_43 c arg2 harg2 arg5 harg5 arg13 arg14 x0 x3) (prep_value.sl.HS2_15 c arg2 harg2 arg5 harg5 arg13 x0 x3) inb_S896x128_S8x128_336_0 inb_S896x128_S8x128_336_0 inb_S120x128_S1x128_49_0 _ rfl hT h43
  have h45 : MidAt arg13.view x0 x3 44 (prep_value.sl.HS1_45 c arg2 harg2 arg5 harg5 arg13 arg14 x0 x3) :=
    mid_step _ arg14.view _ _ 43 344 50 rfl rfl (by decide) (prep_value.sl.HS1_44 c arg2 harg2 arg5 harg5 arg13 arg14 x0 x3) (prep_value.sl.HS2_15 c arg2 harg2 arg5 harg5 arg13 x0 x3) inb_S896x128_S8x128_344_0 inb_S896x128_S8x128_344_0 inb_S120x128_S1x128_50_0 _ rfl hT h44
  have h46 : MidAt arg13.view x0 x3 45 (prep_value.sl.HS1_46 c arg2 harg2 arg5 harg5 arg13 arg14 x0 x3) :=
    mid_step _ arg14.view _ _ 44 352 51 rfl rfl (by decide) (prep_value.sl.HS1_45 c arg2 harg2 arg5 harg5 arg13 arg14 x0 x3) (prep_value.sl.HS2_15 c arg2 harg2 arg5 harg5 arg13 x0 x3) inb_S896x128_S8x128_352_0 inb_S896x128_S8x128_352_0 inb_S120x128_S1x128_51_0 _ rfl hT h45
  have h47 : MidAt arg13.view x0 x3 46 (prep_value.sl.HS1_47 c arg2 harg2 arg5 harg5 arg13 arg14 x0 x3) :=
    mid_step _ arg14.view _ _ 45 360 52 rfl rfl (by decide) (prep_value.sl.HS1_46 c arg2 harg2 arg5 harg5 arg13 arg14 x0 x3) (prep_value.sl.HS2_15 c arg2 harg2 arg5 harg5 arg13 x0 x3) inb_S896x128_S8x128_360_0 inb_S896x128_S8x128_360_0 inb_S120x128_S1x128_52_0 _ rfl hT h46
  have h48 : MidAt arg13.view x0 x3 47 (prep_value.sl.HS1_48 c arg2 harg2 arg5 harg5 arg13 arg14 x0 x3) :=
    mid_step _ arg14.view _ _ 46 368 53 rfl rfl (by decide) (prep_value.sl.HS1_47 c arg2 harg2 arg5 harg5 arg13 arg14 x0 x3) (prep_value.sl.HS2_15 c arg2 harg2 arg5 harg5 arg13 x0 x3) inb_S896x128_S8x128_368_0 inb_S896x128_S8x128_368_0 inb_S120x128_S1x128_53_0 _ rfl hT h47
  have h49 : MidAt arg13.view x0 x3 48 (prep_value.sl.HS1_49 c arg2 harg2 arg5 harg5 arg13 arg14 x0 x3) :=
    mid_step _ arg14.view _ _ 47 376 54 rfl rfl (by decide) (prep_value.sl.HS1_48 c arg2 harg2 arg5 harg5 arg13 arg14 x0 x3) (prep_value.sl.HS2_15 c arg2 harg2 arg5 harg5 arg13 x0 x3) inb_S896x128_S8x128_376_0 inb_S896x128_S8x128_376_0 inb_S120x128_S1x128_54_0 _ rfl hT h48
  have h50 : MidAt arg13.view x0 x3 49 (prep_value.sl.HS1_50 c arg2 harg2 arg5 harg5 arg13 arg14 x0 x3) :=
    mid_step _ arg14.view _ _ 48 384 55 rfl rfl (by decide) (prep_value.sl.HS1_49 c arg2 harg2 arg5 harg5 arg13 arg14 x0 x3) (prep_value.sl.HS2_15 c arg2 harg2 arg5 harg5 arg13 x0 x3) inb_S896x128_S8x128_384_0 inb_S896x128_S8x128_384_0 inb_S120x128_S1x128_55_0 _ rfl hT h49
  have h51 : MidAt arg13.view x0 x3 50 (prep_value.sl.HS1_51 c arg2 harg2 arg5 harg5 arg13 arg14 x0 x3) :=
    mid_step _ arg14.view _ _ 49 392 56 rfl rfl (by decide) (prep_value.sl.HS1_50 c arg2 harg2 arg5 harg5 arg13 arg14 x0 x3) (prep_value.sl.HS2_15 c arg2 harg2 arg5 harg5 arg13 x0 x3) inb_S896x128_S8x128_392_0 inb_S896x128_S8x128_392_0 inb_S120x128_S1x128_56_0 _ rfl hT h50
  have h52 : MidAt arg13.view x0 x3 51 (prep_value.sl.HS1_52 c arg2 harg2 arg5 harg5 arg13 arg14 x0 x3) :=
    mid_step _ arg14.view _ _ 50 400 57 rfl rfl (by decide) (prep_value.sl.HS1_51 c arg2 harg2 arg5 harg5 arg13 arg14 x0 x3) (prep_value.sl.HS2_15 c arg2 harg2 arg5 harg5 arg13 x0 x3) inb_S896x128_S8x128_400_0 inb_S896x128_S8x128_400_0 inb_S120x128_S1x128_57_0 _ rfl hT h51
  have h53 : MidAt arg13.view x0 x3 52 (prep_value.sl.HS1_53 c arg2 harg2 arg5 harg5 arg13 arg14 x0 x3) :=
    mid_step _ arg14.view _ _ 51 408 58 rfl rfl (by decide) (prep_value.sl.HS1_52 c arg2 harg2 arg5 harg5 arg13 arg14 x0 x3) (prep_value.sl.HS2_15 c arg2 harg2 arg5 harg5 arg13 x0 x3) inb_S896x128_S8x128_408_0 inb_S896x128_S8x128_408_0 inb_S120x128_S1x128_58_0 _ rfl hT h52
  have h54 : MidAt arg13.view x0 x3 53 (prep_value.sl.HS1_54 c arg2 harg2 arg5 harg5 arg13 arg14 x0 x3) :=
    mid_step _ arg14.view _ _ 52 416 59 rfl rfl (by decide) (prep_value.sl.HS1_53 c arg2 harg2 arg5 harg5 arg13 arg14 x0 x3) (prep_value.sl.HS2_15 c arg2 harg2 arg5 harg5 arg13 x0 x3) inb_S896x128_S8x128_416_0 inb_S896x128_S8x128_416_0 inb_S120x128_S1x128_59_0 _ rfl hT h53
  have h55 : MidAt arg13.view x0 x3 54 (prep_value.sl.HS1_55 c arg2 harg2 arg5 harg5 arg13 arg14 x0 x3) :=
    mid_step _ arg14.view _ _ 53 424 60 rfl rfl (by decide) (prep_value.sl.HS1_54 c arg2 harg2 arg5 harg5 arg13 arg14 x0 x3) (prep_value.sl.HS2_15 c arg2 harg2 arg5 harg5 arg13 x0 x3) inb_S896x128_S8x128_424_0 inb_S896x128_S8x128_424_0 inb_S120x128_S1x128_60_0 _ rfl hT h54
  have h56 : MidAt arg13.view x0 x3 55 (prep_value.sl.HS1_56 c arg2 harg2 arg5 harg5 arg13 arg14 x0 x3) :=
    mid_step _ arg14.view _ _ 54 432 61 rfl rfl (by decide) (prep_value.sl.HS1_55 c arg2 harg2 arg5 harg5 arg13 arg14 x0 x3) (prep_value.sl.HS2_15 c arg2 harg2 arg5 harg5 arg13 x0 x3) inb_S896x128_S8x128_432_0 inb_S896x128_S8x128_432_0 inb_S120x128_S1x128_61_0 _ rfl hT h55
  have h57 : MidAt arg13.view x0 x3 56 (prep_value.sl.HS1_57 c arg2 harg2 arg5 harg5 arg13 arg14 x0 x3) :=
    mid_step _ arg14.view _ _ 55 440 62 rfl rfl (by decide) (prep_value.sl.HS1_56 c arg2 harg2 arg5 harg5 arg13 arg14 x0 x3) (prep_value.sl.HS2_15 c arg2 harg2 arg5 harg5 arg13 x0 x3) inb_S896x128_S8x128_440_0 inb_S896x128_S8x128_440_0 inb_S120x128_S1x128_62_0 _ rfl hT h56
  have h58 : MidAt arg13.view x0 x3 57 (prep_value.sl.HS1_58 c arg2 harg2 arg5 harg5 arg13 arg14 x0 x3) :=
    mid_step _ arg14.view _ _ 56 448 63 rfl rfl (by decide) (prep_value.sl.HS1_57 c arg2 harg2 arg5 harg5 arg13 arg14 x0 x3) (prep_value.sl.HS2_15 c arg2 harg2 arg5 harg5 arg13 x0 x3) inb_S896x128_S8x128_448_0 inb_S896x128_S8x128_448_0 inb_S120x128_S1x128_63_0 _ rfl hT h57
  have h59 : MidAt arg13.view x0 x3 58 (prep_value.sl.HS1_59 c arg2 harg2 arg5 harg5 arg13 arg14 x0 x3) :=
    mid_step _ arg14.view _ _ 57 456 64 rfl rfl (by decide) (prep_value.sl.HS1_58 c arg2 harg2 arg5 harg5 arg13 arg14 x0 x3) (prep_value.sl.HS2_15 c arg2 harg2 arg5 harg5 arg13 x0 x3) inb_S896x128_S8x128_456_0 inb_S896x128_S8x128_456_0 inb_S120x128_S1x128_64_0 _ rfl hT h58
  have h60 : MidAt arg13.view x0 x3 59 (prep_value.sl.HS1_60 c arg2 harg2 arg5 harg5 arg13 arg14 x0 x3) :=
    mid_step _ arg14.view _ _ 58 464 65 rfl rfl (by decide) (prep_value.sl.HS1_59 c arg2 harg2 arg5 harg5 arg13 arg14 x0 x3) (prep_value.sl.HS2_15 c arg2 harg2 arg5 harg5 arg13 x0 x3) inb_S896x128_S8x128_464_0 inb_S896x128_S8x128_464_0 inb_S120x128_S1x128_65_0 _ rfl hT h59
  have h61 : MidAt arg13.view x0 x3 60 (prep_value.sl.HS1_61 c arg2 harg2 arg5 harg5 arg13 arg14 x0 x3) :=
    mid_step _ arg14.view _ _ 59 472 66 rfl rfl (by decide) (prep_value.sl.HS1_60 c arg2 harg2 arg5 harg5 arg13 arg14 x0 x3) (prep_value.sl.HS2_15 c arg2 harg2 arg5 harg5 arg13 x0 x3) inb_S896x128_S8x128_472_0 inb_S896x128_S8x128_472_0 inb_S120x128_S1x128_66_0 _ rfl hT h60
  have h62 : MidAt arg13.view x0 x3 61 (prep_value.sl.HS1_62 c arg2 harg2 arg5 harg5 arg13 arg14 x0 x3) :=
    mid_step _ arg14.view _ _ 60 480 67 rfl rfl (by decide) (prep_value.sl.HS1_61 c arg2 harg2 arg5 harg5 arg13 arg14 x0 x3) (prep_value.sl.HS2_15 c arg2 harg2 arg5 harg5 arg13 x0 x3) inb_S896x128_S8x128_480_0 inb_S896x128_S8x128_480_0 inb_S120x128_S1x128_67_0 _ rfl hT h61
  have h63 : MidAt arg13.view x0 x3 62 (prep_value.sl.HS1_63 c arg2 harg2 arg5 harg5 arg13 arg14 x0 x3) :=
    mid_step _ arg14.view _ _ 61 488 68 rfl rfl (by decide) (prep_value.sl.HS1_62 c arg2 harg2 arg5 harg5 arg13 arg14 x0 x3) (prep_value.sl.HS2_15 c arg2 harg2 arg5 harg5 arg13 x0 x3) inb_S896x128_S8x128_488_0 inb_S896x128_S8x128_488_0 inb_S120x128_S1x128_68_0 _ rfl hT h62
  have h64 : MidAt arg13.view x0 x3 63 (prep_value.sl.HS1_64 c arg2 harg2 arg5 harg5 arg13 arg14 x0 x3) :=
    mid_step _ arg14.view _ _ 62 496 69 rfl rfl (by decide) (prep_value.sl.HS1_63 c arg2 harg2 arg5 harg5 arg13 arg14 x0 x3) (prep_value.sl.HS2_15 c arg2 harg2 arg5 harg5 arg13 x0 x3) inb_S896x128_S8x128_496_0 inb_S896x128_S8x128_496_0 inb_S120x128_S1x128_69_0 _ rfl hT h63
  have h65 : MidAt arg13.view x0 x3 64 (prep_value.sl.HS1_65 c arg2 harg2 arg5 harg5 arg13 arg14 x0 x3) :=
    mid_step _ arg14.view _ _ 63 504 70 rfl rfl (by decide) (prep_value.sl.HS1_64 c arg2 harg2 arg5 harg5 arg13 arg14 x0 x3) (prep_value.sl.HS2_15 c arg2 harg2 arg5 harg5 arg13 x0 x3) inb_S896x128_S8x128_504_0 inb_S896x128_S8x128_504_0 inb_S120x128_S1x128_70_0 _ rfl hT h64
  have h66 : MidAt arg13.view x0 x3 65 (prep_value.sl.HS1_66 c arg2 harg2 arg5 harg5 arg13 arg14 x0 x3) :=
    mid_step _ arg14.view _ _ 64 512 71 rfl rfl (by decide) (prep_value.sl.HS1_65 c arg2 harg2 arg5 harg5 arg13 arg14 x0 x3) (prep_value.sl.HS2_15 c arg2 harg2 arg5 harg5 arg13 x0 x3) inb_S896x128_S8x128_512_0 inb_S896x128_S8x128_512_0 inb_S120x128_S1x128_71_0 _ rfl hT h65
  have h67 : MidAt arg13.view x0 x3 66 (prep_value.sl.HS1_67 c arg2 harg2 arg5 harg5 arg13 arg14 x0 x3) :=
    mid_step _ arg14.view _ _ 65 520 72 rfl rfl (by decide) (prep_value.sl.HS1_66 c arg2 harg2 arg5 harg5 arg13 arg14 x0 x3) (prep_value.sl.HS2_15 c arg2 harg2 arg5 harg5 arg13 x0 x3) inb_S896x128_S8x128_520_0 inb_S896x128_S8x128_520_0 inb_S120x128_S1x128_72_0 _ rfl hT h66
  have h68 : MidAt arg13.view x0 x3 67 (prep_value.sl.HS1_68 c arg2 harg2 arg5 harg5 arg13 arg14 x0 x3) :=
    mid_step _ arg14.view _ _ 66 528 73 rfl rfl (by decide) (prep_value.sl.HS1_67 c arg2 harg2 arg5 harg5 arg13 arg14 x0 x3) (prep_value.sl.HS2_15 c arg2 harg2 arg5 harg5 arg13 x0 x3) inb_S896x128_S8x128_528_0 inb_S896x128_S8x128_528_0 inb_S120x128_S1x128_73_0 _ rfl hT h67
  have h69 : MidAt arg13.view x0 x3 68 (prep_value.sl.HS1_69 c arg2 harg2 arg5 harg5 arg13 arg14 x0 x3) :=
    mid_step _ arg14.view _ _ 67 536 74 rfl rfl (by decide) (prep_value.sl.HS1_68 c arg2 harg2 arg5 harg5 arg13 arg14 x0 x3) (prep_value.sl.HS2_15 c arg2 harg2 arg5 harg5 arg13 x0 x3) inb_S896x128_S8x128_536_0 inb_S896x128_S8x128_536_0 inb_S120x128_S1x128_74_0 _ rfl hT h68
  have h70 : MidAt arg13.view x0 x3 69 (prep_value.sl.HS1_70 c arg2 harg2 arg5 harg5 arg13 arg14 x0 x3) :=
    mid_step _ arg14.view _ _ 68 544 75 rfl rfl (by decide) (prep_value.sl.HS1_69 c arg2 harg2 arg5 harg5 arg13 arg14 x0 x3) (prep_value.sl.HS2_15 c arg2 harg2 arg5 harg5 arg13 x0 x3) inb_S896x128_S8x128_544_0 inb_S896x128_S8x128_544_0 inb_S120x128_S1x128_75_0 _ rfl hT h69
  have h71 : MidAt arg13.view x0 x3 70 (prep_value.sl.HS1_71 c arg2 harg2 arg5 harg5 arg13 arg14 x0 x3) :=
    mid_step _ arg14.view _ _ 69 552 76 rfl rfl (by decide) (prep_value.sl.HS1_70 c arg2 harg2 arg5 harg5 arg13 arg14 x0 x3) (prep_value.sl.HS2_15 c arg2 harg2 arg5 harg5 arg13 x0 x3) inb_S896x128_S8x128_552_0 inb_S896x128_S8x128_552_0 inb_S120x128_S1x128_76_0 _ rfl hT h70
  have h72 : MidAt arg13.view x0 x3 71 (prep_value.sl.HS1_72 c arg2 harg2 arg5 harg5 arg13 arg14 x0 x3) :=
    mid_step _ arg14.view _ _ 70 560 77 rfl rfl (by decide) (prep_value.sl.HS1_71 c arg2 harg2 arg5 harg5 arg13 arg14 x0 x3) (prep_value.sl.HS2_15 c arg2 harg2 arg5 harg5 arg13 x0 x3) inb_S896x128_S8x128_560_0 inb_S896x128_S8x128_560_0 inb_S120x128_S1x128_77_0 _ rfl hT h71
  have h73 : MidAt arg13.view x0 x3 72 (prep_value.sl.HS1_73 c arg2 harg2 arg5 harg5 arg13 arg14 x0 x3) :=
    mid_step _ arg14.view _ _ 71 568 78 rfl rfl (by decide) (prep_value.sl.HS1_72 c arg2 harg2 arg5 harg5 arg13 arg14 x0 x3) (prep_value.sl.HS2_15 c arg2 harg2 arg5 harg5 arg13 x0 x3) inb_S896x128_S8x128_568_0 inb_S896x128_S8x128_568_0 inb_S120x128_S1x128_78_0 _ rfl hT h72
  have h74 : MidAt arg13.view x0 x3 73 (prep_value.sl.HS1_74 c arg2 harg2 arg5 harg5 arg13 arg14 x0 x3) :=
    mid_step _ arg14.view _ _ 72 576 79 rfl rfl (by decide) (prep_value.sl.HS1_73 c arg2 harg2 arg5 harg5 arg13 arg14 x0 x3) (prep_value.sl.HS2_15 c arg2 harg2 arg5 harg5 arg13 x0 x3) inb_S896x128_S8x128_576_0 inb_S896x128_S8x128_576_0 inb_S120x128_S1x128_79_0 _ rfl hT h73
  have h75 : MidAt arg13.view x0 x3 74 (prep_value.sl.HS1_75 c arg2 harg2 arg5 harg5 arg13 arg14 x0 x3) :=
    mid_step _ arg14.view _ _ 73 584 80 rfl rfl (by decide) (prep_value.sl.HS1_74 c arg2 harg2 arg5 harg5 arg13 arg14 x0 x3) (prep_value.sl.HS2_15 c arg2 harg2 arg5 harg5 arg13 x0 x3) inb_S896x128_S8x128_584_0 inb_S896x128_S8x128_584_0 inb_S120x128_S1x128_80_0 _ rfl hT h74
  have h76 : MidAt arg13.view x0 x3 75 (prep_value.sl.HS1_76 c arg2 harg2 arg5 harg5 arg13 arg14 x0 x3) :=
    mid_step _ arg14.view _ _ 74 592 81 rfl rfl (by decide) (prep_value.sl.HS1_75 c arg2 harg2 arg5 harg5 arg13 arg14 x0 x3) (prep_value.sl.HS2_15 c arg2 harg2 arg5 harg5 arg13 x0 x3) inb_S896x128_S8x128_592_0 inb_S896x128_S8x128_592_0 inb_S120x128_S1x128_81_0 _ rfl hT h75
  have h77 : MidAt arg13.view x0 x3 76 (prep_value.sl.HS1_77 c arg2 harg2 arg5 harg5 arg13 arg14 x0 x3) :=
    mid_step _ arg14.view _ _ 75 600 82 rfl rfl (by decide) (prep_value.sl.HS1_76 c arg2 harg2 arg5 harg5 arg13 arg14 x0 x3) (prep_value.sl.HS2_15 c arg2 harg2 arg5 harg5 arg13 x0 x3) inb_S896x128_S8x128_600_0 inb_S896x128_S8x128_600_0 inb_S120x128_S1x128_82_0 _ rfl hT h76
  have h78 : MidAt arg13.view x0 x3 77 (prep_value.sl.HS1_78 c arg2 harg2 arg5 harg5 arg13 arg14 x0 x3) :=
    mid_step _ arg14.view _ _ 76 608 83 rfl rfl (by decide) (prep_value.sl.HS1_77 c arg2 harg2 arg5 harg5 arg13 arg14 x0 x3) (prep_value.sl.HS2_15 c arg2 harg2 arg5 harg5 arg13 x0 x3) inb_S896x128_S8x128_608_0 inb_S896x128_S8x128_608_0 inb_S120x128_S1x128_83_0 _ rfl hT h77
  have h79 : MidAt arg13.view x0 x3 78 (prep_value.sl.HS1_79 c arg2 harg2 arg5 harg5 arg13 arg14 x0 x3) :=
    mid_step _ arg14.view _ _ 77 616 84 rfl rfl (by decide) (prep_value.sl.HS1_78 c arg2 harg2 arg5 harg5 arg13 arg14 x0 x3) (prep_value.sl.HS2_15 c arg2 harg2 arg5 harg5 arg13 x0 x3) inb_S896x128_S8x128_616_0 inb_S896x128_S8x128_616_0 inb_S120x128_S1x128_84_0 _ rfl hT h78
  have h80 : MidAt arg13.view x0 x3 79 (prep_value.sl.HS1_80 c arg2 harg2 arg5 harg5 arg13 arg14 x0 x3) :=
    mid_step _ arg14.view _ _ 78 624 85 rfl rfl (by decide) (prep_value.sl.HS1_79 c arg2 harg2 arg5 harg5 arg13 arg14 x0 x3) (prep_value.sl.HS2_15 c arg2 harg2 arg5 harg5 arg13 x0 x3) inb_S896x128_S8x128_624_0 inb_S896x128_S8x128_624_0 inb_S120x128_S1x128_85_0 _ rfl hT h79
  have h81 : MidAt arg13.view x0 x3 80 (prep_value.sl.HS1_81 c arg2 harg2 arg5 harg5 arg13 arg14 x0 x3) :=
    mid_step _ arg14.view _ _ 79 632 86 rfl rfl (by decide) (prep_value.sl.HS1_80 c arg2 harg2 arg5 harg5 arg13 arg14 x0 x3) (prep_value.sl.HS2_15 c arg2 harg2 arg5 harg5 arg13 x0 x3) inb_S896x128_S8x128_632_0 inb_S896x128_S8x128_632_0 inb_S120x128_S1x128_86_0 _ rfl hT h80
  have h82 : MidAt arg13.view x0 x3 81 (prep_value.sl.HS1_82 c arg2 harg2 arg5 harg5 arg13 arg14 x0 x3) :=
    mid_step _ arg14.view _ _ 80 640 87 rfl rfl (by decide) (prep_value.sl.HS1_81 c arg2 harg2 arg5 harg5 arg13 arg14 x0 x3) (prep_value.sl.HS2_15 c arg2 harg2 arg5 harg5 arg13 x0 x3) inb_S896x128_S8x128_640_0 inb_S896x128_S8x128_640_0 inb_S120x128_S1x128_87_0 _ rfl hT h81
  have h83 : MidAt arg13.view x0 x3 82 (prep_value.sl.HS1_83 c arg2 harg2 arg5 harg5 arg13 arg14 x0 x3) :=
    mid_step _ arg14.view _ _ 81 648 88 rfl rfl (by decide) (prep_value.sl.HS1_82 c arg2 harg2 arg5 harg5 arg13 arg14 x0 x3) (prep_value.sl.HS2_15 c arg2 harg2 arg5 harg5 arg13 x0 x3) inb_S896x128_S8x128_648_0 inb_S896x128_S8x128_648_0 inb_S120x128_S1x128_88_0 _ rfl hT h82
  have h84 : MidAt arg13.view x0 x3 83 (prep_value.sl.HS1_84 c arg2 harg2 arg5 harg5 arg13 arg14 x0 x3) :=
    mid_step _ arg14.view _ _ 82 656 89 rfl rfl (by decide) (prep_value.sl.HS1_83 c arg2 harg2 arg5 harg5 arg13 arg14 x0 x3) (prep_value.sl.HS2_15 c arg2 harg2 arg5 harg5 arg13 x0 x3) inb_S896x128_S8x128_656_0 inb_S896x128_S8x128_656_0 inb_S120x128_S1x128_89_0 _ rfl hT h83
  have h85 : MidAt arg13.view x0 x3 84 (prep_value.sl.HS1_85 c arg2 harg2 arg5 harg5 arg13 arg14 x0 x3) :=
    mid_step _ arg14.view _ _ 83 664 90 rfl rfl (by decide) (prep_value.sl.HS1_84 c arg2 harg2 arg5 harg5 arg13 arg14 x0 x3) (prep_value.sl.HS2_15 c arg2 harg2 arg5 harg5 arg13 x0 x3) inb_S896x128_S8x128_664_0 inb_S896x128_S8x128_664_0 inb_S120x128_S1x128_90_0 _ rfl hT h84
  have h86 : MidAt arg13.view x0 x3 85 (prep_value.sl.HS1_86 c arg2 harg2 arg5 harg5 arg13 arg14 x0 x3) :=
    mid_step _ arg14.view _ _ 84 672 91 rfl rfl (by decide) (prep_value.sl.HS1_85 c arg2 harg2 arg5 harg5 arg13 arg14 x0 x3) (prep_value.sl.HS2_15 c arg2 harg2 arg5 harg5 arg13 x0 x3) inb_S896x128_S8x128_672_0 inb_S896x128_S8x128_672_0 inb_S120x128_S1x128_91_0 _ rfl hT h85
  have h87 : MidAt arg13.view x0 x3 86 (prep_value.sl.HS1_87 c arg2 harg2 arg5 harg5 arg13 arg14 x0 x3) :=
    mid_step _ arg14.view _ _ 85 680 92 rfl rfl (by decide) (prep_value.sl.HS1_86 c arg2 harg2 arg5 harg5 arg13 arg14 x0 x3) (prep_value.sl.HS2_15 c arg2 harg2 arg5 harg5 arg13 x0 x3) inb_S896x128_S8x128_680_0 inb_S896x128_S8x128_680_0 inb_S120x128_S1x128_92_0 _ rfl hT h86
  have h88 : MidAt arg13.view x0 x3 87 (prep_value.sl.HS1_88 c arg2 harg2 arg5 harg5 arg13 arg14 x0 x3) :=
    mid_step _ arg14.view _ _ 86 688 93 rfl rfl (by decide) (prep_value.sl.HS1_87 c arg2 harg2 arg5 harg5 arg13 arg14 x0 x3) (prep_value.sl.HS2_15 c arg2 harg2 arg5 harg5 arg13 x0 x3) inb_S896x128_S8x128_688_0 inb_S896x128_S8x128_688_0 inb_S120x128_S1x128_93_0 _ rfl hT h87
  have h89 : MidAt arg13.view x0 x3 88 (prep_value.sl.HS1_89 c arg2 harg2 arg5 harg5 arg13 arg14 x0 x3) :=
    mid_step _ arg14.view _ _ 87 696 94 rfl rfl (by decide) (prep_value.sl.HS1_88 c arg2 harg2 arg5 harg5 arg13 arg14 x0 x3) (prep_value.sl.HS2_15 c arg2 harg2 arg5 harg5 arg13 x0 x3) inb_S896x128_S8x128_696_0 inb_S896x128_S8x128_696_0 inb_S120x128_S1x128_94_0 _ rfl hT h88
  have h90 : MidAt arg13.view x0 x3 89 (prep_value.sl.HS1_90 c arg2 harg2 arg5 harg5 arg13 arg14 x0 x3) :=
    mid_step _ arg14.view _ _ 88 704 95 rfl rfl (by decide) (prep_value.sl.HS1_89 c arg2 harg2 arg5 harg5 arg13 arg14 x0 x3) (prep_value.sl.HS2_15 c arg2 harg2 arg5 harg5 arg13 x0 x3) inb_S896x128_S8x128_704_0 inb_S896x128_S8x128_704_0 inb_S120x128_S1x128_95_0 _ rfl hT h89
  have h91 : MidAt arg13.view x0 x3 90 (prep_value.sl.HS1_91 c arg2 harg2 arg5 harg5 arg13 arg14 x0 x3) :=
    mid_step _ arg14.view _ _ 89 712 96 rfl rfl (by decide) (prep_value.sl.HS1_90 c arg2 harg2 arg5 harg5 arg13 arg14 x0 x3) (prep_value.sl.HS2_15 c arg2 harg2 arg5 harg5 arg13 x0 x3) inb_S896x128_S8x128_712_0 inb_S896x128_S8x128_712_0 inb_S120x128_S1x128_96_0 _ rfl hT h90
  have h92 : MidAt arg13.view x0 x3 91 (prep_value.sl.HS1_92 c arg2 harg2 arg5 harg5 arg13 arg14 x0 x3) :=
    mid_step _ arg14.view _ _ 90 720 97 rfl rfl (by decide) (prep_value.sl.HS1_91 c arg2 harg2 arg5 harg5 arg13 arg14 x0 x3) (prep_value.sl.HS2_15 c arg2 harg2 arg5 harg5 arg13 x0 x3) inb_S896x128_S8x128_720_0 inb_S896x128_S8x128_720_0 inb_S120x128_S1x128_97_0 _ rfl hT h91
  have h93 : MidAt arg13.view x0 x3 92 (prep_value.sl.HS1_93 c arg2 harg2 arg5 harg5 arg13 arg14 x0 x3) :=
    mid_step _ arg14.view _ _ 91 728 98 rfl rfl (by decide) (prep_value.sl.HS1_92 c arg2 harg2 arg5 harg5 arg13 arg14 x0 x3) (prep_value.sl.HS2_15 c arg2 harg2 arg5 harg5 arg13 x0 x3) inb_S896x128_S8x128_728_0 inb_S896x128_S8x128_728_0 inb_S120x128_S1x128_98_0 _ rfl hT h92
  have h94 : MidAt arg13.view x0 x3 93 (prep_value.sl.HS1_94 c arg2 harg2 arg5 harg5 arg13 arg14 x0 x3) :=
    mid_step _ arg14.view _ _ 92 736 99 rfl rfl (by decide) (prep_value.sl.HS1_93 c arg2 harg2 arg5 harg5 arg13 arg14 x0 x3) (prep_value.sl.HS2_15 c arg2 harg2 arg5 harg5 arg13 x0 x3) inb_S896x128_S8x128_736_0 inb_S896x128_S8x128_736_0 inb_S120x128_S1x128_99_0 _ rfl hT h93
  have h95 : MidAt arg13.view x0 x3 94 (prep_value.sl.HS1_95 c arg2 harg2 arg5 harg5 arg13 arg14 x0 x3) :=
    mid_step _ arg14.view _ _ 93 744 100 rfl rfl (by decide) (prep_value.sl.HS1_94 c arg2 harg2 arg5 harg5 arg13 arg14 x0 x3) (prep_value.sl.HS2_15 c arg2 harg2 arg5 harg5 arg13 x0 x3) inb_S896x128_S8x128_744_0 inb_S896x128_S8x128_744_0 inb_S120x128_S1x128_100_0 _ rfl hT h94
  have h96 : MidAt arg13.view x0 x3 95 (prep_value.sl.HS1_96 c arg2 harg2 arg5 harg5 arg13 arg14 x0 x3) :=
    mid_step _ arg14.view _ _ 94 752 101 rfl rfl (by decide) (prep_value.sl.HS1_95 c arg2 harg2 arg5 harg5 arg13 arg14 x0 x3) (prep_value.sl.HS2_15 c arg2 harg2 arg5 harg5 arg13 x0 x3) inb_S896x128_S8x128_752_0 inb_S896x128_S8x128_752_0 inb_S120x128_S1x128_101_0 _ rfl hT h95
  have h97 : MidAt arg13.view x0 x3 96 (prep_value.sl.HS1_97 c arg2 harg2 arg5 harg5 arg13 arg14 x0 x3) :=
    mid_step _ arg14.view _ _ 95 760 102 rfl rfl (by decide) (prep_value.sl.HS1_96 c arg2 harg2 arg5 harg5 arg13 arg14 x0 x3) (prep_value.sl.HS2_15 c arg2 harg2 arg5 harg5 arg13 x0 x3) inb_S896x128_S8x128_760_0 inb_S896x128_S8x128_760_0 inb_S120x128_S1x128_102_0 _ rfl hT h96
  have h98 : MidAt arg13.view x0 x3 97 (prep_value.sl.HS1_98 c arg2 harg2 arg5 harg5 arg13 arg14 x0 x3) :=
    mid_step _ arg14.view _ _ 96 768 103 rfl rfl (by decide) (prep_value.sl.HS1_97 c arg2 harg2 arg5 harg5 arg13 arg14 x0 x3) (prep_value.sl.HS2_15 c arg2 harg2 arg5 harg5 arg13 x0 x3) inb_S896x128_S8x128_768_0 inb_S896x128_S8x128_768_0 inb_S120x128_S1x128_103_0 _ rfl hT h97
  have h99 : MidAt arg13.view x0 x3 98 (prep_value.sl.HS1_99 c arg2 harg2 arg5 harg5 arg13 arg14 x0 x3) :=
    mid_step _ arg14.view _ _ 97 776 104 rfl rfl (by decide) (prep_value.sl.HS1_98 c arg2 harg2 arg5 harg5 arg13 arg14 x0 x3) (prep_value.sl.HS2_15 c arg2 harg2 arg5 harg5 arg13 x0 x3) inb_S896x128_S8x128_776_0 inb_S896x128_S8x128_776_0 inb_S120x128_S1x128_104_0 _ rfl hT h98
  have h100 : MidAt arg13.view x0 x3 99 (prep_value.sl.HS1_100 c arg2 harg2 arg5 harg5 arg13 arg14 x0 x3) :=
    mid_step _ arg14.view _ _ 98 784 105 rfl rfl (by decide) (prep_value.sl.HS1_99 c arg2 harg2 arg5 harg5 arg13 arg14 x0 x3) (prep_value.sl.HS2_15 c arg2 harg2 arg5 harg5 arg13 x0 x3) inb_S896x128_S8x128_784_0 inb_S896x128_S8x128_784_0 inb_S120x128_S1x128_105_0 _ rfl hT h99
  have h101 : MidAt arg13.view x0 x3 100 (prep_value.sl.HS1_101 c arg2 harg2 arg5 harg5 arg13 arg14 x0 x3) :=
    mid_step _ arg14.view _ _ 99 792 106 rfl rfl (by decide) (prep_value.sl.HS1_100 c arg2 harg2 arg5 harg5 arg13 arg14 x0 x3) (prep_value.sl.HS2_15 c arg2 harg2 arg5 harg5 arg13 x0 x3) inb_S896x128_S8x128_792_0 inb_S896x128_S8x128_792_0 inb_S120x128_S1x128_106_0 _ rfl hT h100
  have h102 : MidAt arg13.view x0 x3 101 (prep_value.sl.HS1_102 c arg2 harg2 arg5 harg5 arg13 arg14 x0 x3) :=
    mid_step _ arg14.view _ _ 100 800 107 rfl rfl (by decide) (prep_value.sl.HS1_101 c arg2 harg2 arg5 harg5 arg13 arg14 x0 x3) (prep_value.sl.HS2_15 c arg2 harg2 arg5 harg5 arg13 x0 x3) inb_S896x128_S8x128_800_0 inb_S896x128_S8x128_800_0 inb_S120x128_S1x128_107_0 _ rfl hT h101
  have h103 : MidAt arg13.view x0 x3 102 (prep_value.sl.HS1_103 c arg2 harg2 arg5 harg5 arg13 arg14 x0 x3) :=
    mid_step _ arg14.view _ _ 101 808 108 rfl rfl (by decide) (prep_value.sl.HS1_102 c arg2 harg2 arg5 harg5 arg13 arg14 x0 x3) (prep_value.sl.HS2_15 c arg2 harg2 arg5 harg5 arg13 x0 x3) inb_S896x128_S8x128_808_0 inb_S896x128_S8x128_808_0 inb_S120x128_S1x128_108_0 _ rfl hT h102
  have h104 : MidAt arg13.view x0 x3 103 (prep_value.sl.HS1_104 c arg2 harg2 arg5 harg5 arg13 arg14 x0 x3) :=
    mid_step _ arg14.view _ _ 102 816 109 rfl rfl (by decide) (prep_value.sl.HS1_103 c arg2 harg2 arg5 harg5 arg13 arg14 x0 x3) (prep_value.sl.HS2_15 c arg2 harg2 arg5 harg5 arg13 x0 x3) inb_S896x128_S8x128_816_0 inb_S896x128_S8x128_816_0 inb_S120x128_S1x128_109_0 _ rfl hT h103
  have h105 : MidAt arg13.view x0 x3 104 (prep_value.sl.HS1_105 c arg2 harg2 arg5 harg5 arg13 arg14 x0 x3) :=
    mid_step _ arg14.view _ _ 103 824 110 rfl rfl (by decide) (prep_value.sl.HS1_104 c arg2 harg2 arg5 harg5 arg13 arg14 x0 x3) (prep_value.sl.HS2_15 c arg2 harg2 arg5 harg5 arg13 x0 x3) inb_S896x128_S8x128_824_0 inb_S896x128_S8x128_824_0 inb_S120x128_S1x128_110_0 _ rfl hT h104
  have h106 : MidAt arg13.view x0 x3 105 (prep_value.sl.HS1_106 c arg2 harg2 arg5 harg5 arg13 arg14 x0 x3) :=
    mid_step _ arg14.view _ _ 104 832 111 rfl rfl (by decide) (prep_value.sl.HS1_105 c arg2 harg2 arg5 harg5 arg13 arg14 x0 x3) (prep_value.sl.HS2_15 c arg2 harg2 arg5 harg5 arg13 x0 x3) inb_S896x128_S8x128_832_0 inb_S896x128_S8x128_832_0 inb_S120x128_S1x128_111_0 _ rfl hT h105
  have h107 : MidAt arg13.view x0 x3 106 (prep_value.sl.HS1_107 c arg2 harg2 arg5 harg5 arg13 arg14 x0 x3) :=
    mid_step _ arg14.view _ _ 105 840 112 rfl rfl (by decide) (prep_value.sl.HS1_106 c arg2 harg2 arg5 harg5 arg13 arg14 x0 x3) (prep_value.sl.HS2_15 c arg2 harg2 arg5 harg5 arg13 x0 x3) inb_S896x128_S8x128_840_0 inb_S896x128_S8x128_840_0 inb_S120x128_S1x128_112_0 _ rfl hT h106
  have h108 : MidAt arg13.view x0 x3 107 (prep_value.sl.HS1_108 c arg2 harg2 arg5 harg5 arg13 arg14 x0 x3) :=
    mid_step _ arg14.view _ _ 106 848 113 rfl rfl (by decide) (prep_value.sl.HS1_107 c arg2 harg2 arg5 harg5 arg13 arg14 x0 x3) (prep_value.sl.HS2_15 c arg2 harg2 arg5 harg5 arg13 x0 x3) inb_S896x128_S8x128_848_0 inb_S896x128_S8x128_848_0 inb_S120x128_S1x128_113_0 _ rfl hT h107
  have h109 : MidAt arg13.view x0 x3 108 (prep_value.sl.HS1_109 c arg2 harg2 arg5 harg5 arg13 arg14 x0 x3) :=
    mid_step _ arg14.view _ _ 107 856 114 rfl rfl (by decide) (prep_value.sl.HS1_108 c arg2 harg2 arg5 harg5 arg13 arg14 x0 x3) (prep_value.sl.HS2_15 c arg2 harg2 arg5 harg5 arg13 x0 x3) inb_S896x128_S8x128_856_0 inb_S896x128_S8x128_856_0 inb_S120x128_S1x128_114_0 _ rfl hT h108
  have h110 : MidAt arg13.view x0 x3 109 (prep_value.sl.HS1_110 c arg2 harg2 arg5 harg5 arg13 arg14 x0 x3) :=
    mid_step _ arg14.view _ _ 108 864 115 rfl rfl (by decide) (prep_value.sl.HS1_109 c arg2 harg2 arg5 harg5 arg13 arg14 x0 x3) (prep_value.sl.HS2_15 c arg2 harg2 arg5 harg5 arg13 x0 x3) inb_S896x128_S8x128_864_0 inb_S896x128_S8x128_864_0 inb_S120x128_S1x128_115_0 _ rfl hT h109
  have h111 : MidAt arg13.view x0 x3 110 (prep_value.sl.HS1_111 c arg2 harg2 arg5 harg5 arg13 arg14 x0 x3) :=
    mid_step _ arg14.view _ _ 109 872 116 rfl rfl (by decide) (prep_value.sl.HS1_110 c arg2 harg2 arg5 harg5 arg13 arg14 x0 x3) (prep_value.sl.HS2_15 c arg2 harg2 arg5 harg5 arg13 x0 x3) inb_S896x128_S8x128_872_0 inb_S896x128_S8x128_872_0 inb_S120x128_S1x128_116_0 _ rfl hT h110
  have h112 : MidAt arg13.view x0 x3 111 (prep_value.sl.HS1_112 c arg2 harg2 arg5 harg5 arg13 arg14 x0 x3) :=
    mid_step _ arg14.view _ _ 110 880 117 rfl rfl (by decide) (prep_value.sl.HS1_111 c arg2 harg2 arg5 harg5 arg13 arg14 x0 x3) (prep_value.sl.HS2_15 c arg2 harg2 arg5 harg5 arg13 x0 x3) inb_S896x128_S8x128_880_0 inb_S896x128_S8x128_880_0 inb_S120x128_S1x128_117_0 _ rfl hT h111
  have h113 : MidAt arg13.view x0 x3 112 (prep_value.sl.HS1_113 c arg2 harg2 arg5 harg5 arg13 arg14 x0 x3) :=
    mid_step _ arg14.view _ _ 111 888 118 rfl rfl (by decide) (prep_value.sl.HS1_112 c arg2 harg2 arg5 harg5 arg13 arg14 x0 x3) (prep_value.sl.HS2_15 c arg2 harg2 arg5 harg5 arg13 x0 x3) inb_S896x128_S8x128_888_0 inb_S896x128_S8x128_888_0 inb_S120x128_S1x128_118_0 _ rfl hT h112
  isplitl [HS1]
  · iexists _; isplitr; swap; · iexact HS1
    ipureintro
    funext y
    obtain ⟨r, l, rfl⟩ : ∃ (r : Fin 896) (l : Fin 128), y = ix2 r l := ⟨y 0, y 1, by funext a; fin_cases a <;> rfl⟩
    exact (h113 fs1 r l).trans (if_pos r.isLt)
  isplitl [HS2]
  · iexists _, _; isplitr; swap; · iexact HS2
    ipureintro; rfl
  iexists _; isplitr; swap; · iexact HS3
  ipureintro
  funext y
  refine View.read_writes_apply_of_pieces arg15.view _ (fdbOf x0 x3) _ ?_ y ?_
  rotate_left
  · exact View.cover_of_tiled _ ![128, 128] rfl y
  refine List.forall_mem_cons.mpr ⟨?_, ?_⟩
  · intro x; exact fdb_piece _ x0 x3 _ h113 inb_S896x128_S1x128_895_0 inb_S128x128_S128x128_0_0 x
  exact List.forall_mem_nil _

end Cert.KernelIdeal.Hand

end
-- ==== Proof.TailRun.lean ====
module

public import proofs.«01_k».proof.Proof.IdealSplit
public import proofs.«01_k».proof.Proof.HeadPiece
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 20000000 in
/-- The body after the preparation: from the scratch's decayed group copies, decays and last decays it leaves the corrected
blocks in the three outputs, and the inputs and the scratch as they were. -/
theorem tail_value (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (x0 : Vec Ideal S1x120 .f32) (x1 : Vec Ideal S1x896x768 .bf16) (x2 : Vec Ideal S1x896x8x128 .bf16) (x3 : Vec Ideal S1x896x120 .f32) (x4 : Vec Ideal S1x8x96x128 .fp8e4m3) (x5 : Vec Ideal S1x8x96 .f32) (x6 : Vec Ideal S1x8x96x128 .f32) (cg : Vec Ideal S8x896x128 .bf16) (dec : Vec Ideal S896x128 .f32) (fdb : Vec Ideal S128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cg ∗ owns (c : Thread nD τ) arg13 fullShare dec ∗ (∃ d, owns (c : Thread nD τ) arg14 fullShare d) ∗ owns (c : Thread nD τ) arg15 fullShare fdb ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yoSpec (i 1) x1 x4 x5 cg dec) ∗ owns (c : Thread nD τ) arg10 fullShare (coSpec (i 1) x4 x5 x6 fdb) ∗ owns (c : Thread nD τ) arg11 fullShare (soSpec (i 1) x4 x5 x6 fdb) ∗ owns (c : Thread nD τ) arg12 fullShare cg ∗ owns (c : Thread nD τ) arg13 fullShare dec ∗ (∃ d, owns (c : Thread nD τ) arg14 fullShare d) ∗ owns (c : Thread nD τ) arg15 fullShare fdb) -∗ K ⟨⟩))
    ⊢ wp frame (wpE (defs₀ (F := Ideal)) Variants.none c none) E (tail (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  unfold tail tail36 tail96
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hs0, HS0⟩, ⟨%fs1, %hs1, HS1⟩, ⟨%ds2, %fs2, -, HS2⟩, ⟨%fs3, %hs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg12.eq_unread hs0; obtain rfl := harg13.eq_unread hs1; obtain rfl := harg15.eq_unread hs3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    funext y
    refine View.read_writes_apply_of_pieces arg9.view _ (yoSpec (i 1) x1 x4 x5 cg dec) _ ?_ y ?_
    rotate_left
    · exact View.cover_of_tiled _ ![1, 128, 128] rfl y
    refine List.forall_mem_cons.mpr ⟨?_, ?_⟩
    · intro x; exact piece_2_1 i 6 arg3 harg3 arg6 harg6 arg7 harg7 arg12 harg12 arg13 harg13 x1 x4 x5 cg dec (k0_off14 i 512#32) (k0_off15 i 512#32) (off14_2 i) (off15_2 i) ![768, 0] rfl ![0, 768, 640] rfl _ _ _ _ _ _ x
    refine List.forall_mem_cons.mpr ⟨?_, ?_⟩
    · intro x; exact piece_2_0 i 6 arg3 harg3 arg6 harg6 arg7 harg7 arg12 harg12 arg13 harg13 x1 x4 x5 cg dec (k0_off14 i 512#32) (k0_off15 i 512#32) (off14_2 i) (off15_2 i) ![768, 0] rfl ![0, 768, 512] rfl _ _ _ _ _ _ x
    refine List.forall_mem_cons.mpr ⟨?_, ?_⟩
    · intro x; exact piece_2_1 i 5 arg3 harg3 arg6 harg6 arg7 harg7 arg12 harg12 arg13 harg13 x1 x4 x5 cg dec (k0_off12 i 512#32) (k0_off13 i 512#32) (off12_2 i) (off13_2 i) ![640, 0] rfl ![0, 640, 640] rfl _ _ _ _ _ _ x
    refine List.forall_mem_cons.mpr ⟨?_, ?_⟩
    · intro x; exact piece_2_0 i 5 arg3 harg3 arg6 harg6 arg7 harg7 arg12 harg12 arg13 harg13 x1 x4 x5 cg dec (k0_off12 i 512#32) (k0_off13 i 512#32) (off12_2 i) (off13_2 i) ![640, 0] rfl ![0, 640, 512] rfl _ _ _ _ _ _ x
    refine List.forall_mem_cons.mpr ⟨?_, ?_⟩
    · intro x; exact piece_2_1 i 4 arg3 harg3 arg6 harg6 arg7 harg7 arg12 harg12 arg13 harg13 x1 x4 x5 cg dec (k0_off10 i 512#32) (k0_off11 i 512#32) (off10_2 i) (off11_2 i) ![512, 0] rfl ![0, 512, 640] rfl _ _ _ _ _ _ x
    refine List.forall_mem_cons.mpr ⟨?_, ?_⟩
    · intro x; exact piece_2_0 i 4 arg3 harg3 arg6 harg6 arg7 harg7 arg12 harg12 arg13 harg13 x1 x4 x5 cg dec (k0_off10 i 512#32) (k0_off11 i 512#32) (off10_2 i) (off11_2 i) ![512, 0] rfl ![0, 512, 512] rfl _ _ _ _ _ _ x
    refine List.forall_mem_cons.mpr ⟨?_, ?_⟩
    · intro x; exact piece_2_1 i 3 arg3 harg3 arg6 harg6 arg7 harg7 arg12 harg12 arg13 harg13 x1 x4 x5 cg dec (k0_off8 i 512#32) (k0_off9 i 512#32) (off8_2 i) (off9_2 i) ![384, 0] rfl ![0, 384, 640] rfl _ _ _ _ _ _ x
    refine List.forall_mem_cons.mpr ⟨?_, ?_⟩
    · intro x; exact piece_2_0 i 3 arg3 harg3 arg6 harg6 arg7 harg7 arg12 harg12 arg13 harg13 x1 x4 x5 cg dec (k0_off8 i 512#32) (k0_off9 i 512#32) (off8_2 i) (off9_2 i) ![384, 0] rfl ![0, 384, 512] rfl _ _ _ _ _ _ x
    refine List.forall_mem_cons.mpr ⟨?_, ?_⟩
    · intro x; exact piece_2_1 i 2 arg3 harg3 arg6 harg6 arg7 harg7 arg12 harg12 arg13 harg13 x1 x4 x5 cg dec (k0_off6 i 512#32) (k0_off7 i 512#32) (off6_2 i) (off7_2 i) ![256, 0] rfl ![0, 256, 640] rfl _ _ _ _ _ _ x
    refine List.forall_mem_cons.mpr ⟨?_, ?_⟩
    · intro x; exact piece_2_0 i 2 arg3 harg3 arg6 harg6 arg7 harg7 arg12 harg12 arg13 harg13 x1 x4 x5 cg dec (k0_off6 i 512#32) (k0_off7 i 512#32) (off6_2 i) (off7_2 i) ![256, 0] rfl ![0, 256, 512] rfl _ _ _ _ _ _ x
    refine List.forall_mem_cons.mpr ⟨?_, ?_⟩
    · intro x; exact piece_2_1 i 1 arg3 harg3 arg6 harg6 arg7 harg7 arg12 harg12 arg13 harg13 x1 x4 x5 cg dec (k0_off4 i 512#32) (k0_off5 i 512#32) (off4_2 i) (off5_2 i) ![128, 0] rfl ![0, 128, 640] rfl _ _ _ _ _ _ x
    refine List.forall_mem_cons.mpr ⟨?_, ?_⟩
    · intro x; exact piece_2_0 i 1 arg3 harg3 arg6 harg6 arg7 harg7 arg12 harg12 arg13 harg13 x1 x4 x5 cg dec (k0_off4 i 512#32) (k0_off5 i 512#32) (off4_2 i) (off5_2 i) ![128, 0] rfl ![0, 128, 512] rfl _ _ _ _ _ _ x
    refine List.forall_mem_cons.mpr ⟨?_, ?_⟩
    · intro x; exact piece_2_1 i 0 arg3 harg3 arg6 harg6 arg7 harg7 arg12 harg12 arg13 harg13 x1 x4 x5 cg dec (k0_off2 i 512#32) (k0_off3 i 512#32) (off2_2 i) (off3_2 i) ![0, 0] rfl ![0, 0, 640] rfl _ _ _ _ _ _ x
    refine List.forall_mem_cons.mpr ⟨?_, ?_⟩
    · intro x; exact piece_2_0 i 0 arg3 harg3 arg6 harg6 arg7 harg7 arg12 harg12 arg13 harg13 x1 x4 x5 cg dec (k0_off2 i 512#32) (k0_off3 i 512#32) (off2_2 i) (off3_2 i) ![0, 0] rfl ![0, 0, 512] rfl _ _ _ _ _ _ x
    refine List.forall_mem_cons.mpr ⟨?_, ?_⟩
    · intro x; exact piece_1_1 i 6 arg3 harg3 arg6 harg6 arg7 harg7 arg12 harg12 arg13 harg13 x1 x4 x5 cg dec (k0_off14 i 256#32) (k0_off15 i 256#32) (off14_1 i) (off15_1 i) ![768, 0] rfl ![0, 768, 384] rfl _ _ _ _ _ _ x
    refine List.forall_mem_cons.mpr ⟨?_, ?_⟩
    · intro x; exact piece_1_0 i 6 arg3 harg3 arg6 harg6 arg7 harg7 arg12 harg12 arg13 harg13 x1 x4 x5 cg dec (k0_off14 i 256#32) (k0_off15 i 256#32) (off14_1 i) (off15_1 i) ![768, 0] rfl ![0, 768, 256] rfl _ _ _ _ _ _ x
    refine List.forall_mem_cons.mpr ⟨?_, ?_⟩
    · intro x; exact piece_1_1 i 5 arg3 harg3 arg6 harg6 arg7 harg7 arg12 harg12 arg13 harg13 x1 x4 x5 cg dec (k0_off12 i 256#32) (k0_off13 i 256#32) (off12_1 i) (off13_1 i) ![640, 0] rfl ![0, 640, 384] rfl _ _ _ _ _ _ x
    refine List.forall_mem_cons.mpr ⟨?_, ?_⟩
    · intro x; exact piece_1_0 i 5 arg3 harg3 arg6 harg6 arg7 harg7 arg12 harg12 arg13 harg13 x1 x4 x5 cg dec (k0_off12 i 256#32) (k0_off13 i 256#32) (off12_1 i) (off13_1 i) ![640, 0] rfl ![0, 640, 256] rfl _ _ _ _ _ _ x
    refine List.forall_mem_cons.mpr ⟨?_, ?_⟩
    · intro x; exact piece_1_1 i 4 arg3 harg3 arg6 harg6 arg7 harg7 arg12 harg12 arg13 harg13 x1 x4 x5 cg dec (k0_off10 i 256#32) (k0_off11 i 256#32) (off10_1 i) (off11_1 i) ![512, 0] rfl ![0, 512, 384] rfl _ _ _ _ _ _ x
    refine List.forall_mem_cons.mpr ⟨?_, ?_⟩
    · intro x; exact piece_1_0 i 4 arg3 harg3 arg6 harg6 arg7 harg7 arg12 harg12 arg13 harg13 x1 x4 x5 cg dec (k0_off10 i 256#32) (k0_off11 i 256#32) (off10_1 i) (off11_1 i) ![512, 0] rfl ![0, 512, 256] rfl _ _ _ _ _ _ x
    refine List.forall_mem_cons.mpr ⟨?_, ?_⟩
    · intro x; exact piece_1_1 i 3 arg3 harg3 arg6 harg6 arg7 harg7 arg12 harg12 arg13 harg13 x1 x4 x5 cg dec (k0_off8 i 256#32) (k0_off9 i 256#32) (off8_1 i) (off9_1 i) ![384, 0] rfl ![0, 384, 384] rfl _ _ _ _ _ _ x
    refine List.forall_mem_cons.mpr ⟨?_, ?_⟩
    · intro x; exact piece_1_0 i 3 arg3 harg3 arg6 harg6 arg7 harg7 arg12 harg12 arg13 harg13 x1 x4 x5 cg dec (k0_off8 i 256#32) (k0_off9 i 256#32) (off8_1 i) (off9_1 i) ![384, 0] rfl ![0, 384, 256] rfl _ _ _ _ _ _ x
    refine List.forall_mem_cons.mpr ⟨?_, ?_⟩
    · intro x; exact piece_1_1 i 2 arg3 harg3 arg6 harg6 arg7 harg7 arg12 harg12 arg13 harg13 x1 x4 x5 cg dec (k0_off6 i 256#32) (k0_off7 i 256#32) (off6_1 i) (off7_1 i) ![256, 0] rfl ![0, 256, 384] rfl _ _ _ _ _ _ x
    refine List.forall_mem_cons.mpr ⟨?_, ?_⟩
    · intro x; exact piece_1_0 i 2 arg3 harg3 arg6 harg6 arg7 harg7 arg12 harg12 arg13 harg13 x1 x4 x5 cg dec (k0_off6 i 256#32) (k0_off7 i 256#32) (off6_1 i) (off7_1 i) ![256, 0] rfl ![0, 256, 256] rfl _ _ _ _ _ _ x
    refine List.forall_mem_cons.mpr ⟨?_, ?_⟩
    · intro x; exact piece_1_1 i 1 arg3 harg3 arg6 harg6 arg7 harg7 arg12 harg12 arg13 harg13 x1 x4 x5 cg dec (k0_off4 i 256#32) (k0_off5 i 256#32) (off4_1 i) (off5_1 i) ![128, 0] rfl ![0, 128, 384] rfl _ _ _ _ _ _ x
    refine List.forall_mem_cons.mpr ⟨?_, ?_⟩
    · intro x; exact piece_1_0 i 1 arg3 harg3 arg6 harg6 arg7 harg7 arg12 harg12 arg13 harg13 x1 x4 x5 cg dec (k0_off4 i 256#32) (k0_off5 i 256#32) (off4_1 i) (off5_1 i) ![128, 0] rfl ![0, 128, 256] rfl _ _ _ _ _ _ x
    refine List.forall_mem_cons.mpr ⟨?_, ?_⟩
    · intro x; exact piece_1_1 i 0 arg3 harg3 arg6 harg6 arg7 harg7 arg12 harg12 arg13 harg13 x1 x4 x5 cg dec (k0_off2 i 256#32) (k0_off3 i 256#32) (off2_1 i) (off3_1 i) ![0, 0] rfl ![0, 0, 384] rfl _ _ _ _ _ _ x
    refine List.forall_mem_cons.mpr ⟨?_, ?_⟩
    · intro x; exact piece_1_0 i 0 arg3 harg3 arg6 harg6 arg7 harg7 arg12 harg12 arg13 harg13 x1 x4 x5 cg dec (k0_off2 i 256#32) (k0_off3 i 256#32) (off2_1 i) (off3_1 i) ![0, 0] rfl ![0, 0, 256] rfl _ _ _ _ _ _ x
    refine List.forall_mem_cons.mpr ⟨?_, ?_⟩
    · intro x; exact piece_0_1 i 6 arg3 harg3 arg6 harg6 arg7 harg7 arg12 harg12 arg13 harg13 x1 x4 x5 cg dec (k0_off14 i 0#32) (k0_off15 i 0#32) (off14_0 i) (off15_0 i) ![768, 0] rfl ![0, 768, 128] rfl _ _ _ _ _ _ x
    refine List.forall_mem_cons.mpr ⟨?_, ?_⟩
    · intro x; exact piece_0_0 i 6 arg3 harg3 arg6 harg6 arg7 harg7 arg12 harg12 arg13 harg13 x1 x4 x5 cg dec (k0_off14 i 0#32) (k0_off15 i 0#32) (off14_0 i) (off15_0 i) ![768, 0] rfl ![0, 768, 0] rfl _ _ _ _ _ _ x
    refine List.forall_mem_cons.mpr ⟨?_, ?_⟩
    · intro x; exact piece_0_1 i 5 arg3 harg3 arg6 harg6 arg7 harg7 arg12 harg12 arg13 harg13 x1 x4 x5 cg dec (k0_off12 i 0#32) (k0_off13 i 0#32) (off12_0 i) (off13_0 i) ![640, 0] rfl ![0, 640, 128] rfl _ _ _ _ _ _ x
    refine List.forall_mem_cons.mpr ⟨?_, ?_⟩
    · intro x; exact piece_0_0 i 5 arg3 harg3 arg6 harg6 arg7 harg7 arg12 harg12 arg13 harg13 x1 x4 x5 cg dec (k0_off12 i 0#32) (k0_off13 i 0#32) (off12_0 i) (off13_0 i) ![640, 0] rfl ![0, 640, 0] rfl _ _ _ _ _ _ x
    refine List.forall_mem_cons.mpr ⟨?_, ?_⟩
    · intro x; exact piece_0_1 i 4 arg3 harg3 arg6 harg6 arg7 harg7 arg12 harg12 arg13 harg13 x1 x4 x5 cg dec (k0_off10 i 0#32) (k0_off11 i 0#32) (off10_0 i) (off11_0 i) ![512, 0] rfl ![0, 512, 128] rfl _ _ _ _ _ _ x
    refine List.forall_mem_cons.mpr ⟨?_, ?_⟩
    · intro x; exact piece_0_0 i 4 arg3 harg3 arg6 harg6 arg7 harg7 arg12 harg12 arg13 harg13 x1 x4 x5 cg dec (k0_off10 i 0#32) (k0_off11 i 0#32) (off10_0 i) (off11_0 i) ![512, 0] rfl ![0, 512, 0] rfl _ _ _ _ _ _ x
    refine List.forall_mem_cons.mpr ⟨?_, ?_⟩
    · intro x; exact piece_0_1 i 3 arg3 harg3 arg6 harg6 arg7 harg7 arg12 harg12 arg13 harg13 x1 x4 x5 cg dec (k0_off8 i 0#32) (k0_off9 i 0#32) (off8_0 i) (off9_0 i) ![384, 0] rfl ![0, 384, 128] rfl _ _ _ _ _ _ x
    refine List.forall_mem_cons.mpr ⟨?_, ?_⟩
    · intro x; exact piece_0_0 i 3 arg3 harg3 arg6 harg6 arg7 harg7 arg12 harg12 arg13 harg13 x1 x4 x5 cg dec (k0_off8 i 0#32) (k0_off9 i 0#32) (off8_0 i) (off9_0 i) ![384, 0] rfl ![0, 384, 0] rfl _ _ _ _ _ _ x
    refine List.forall_mem_cons.mpr ⟨?_, ?_⟩
    · intro x; exact piece_0_1 i 2 arg3 harg3 arg6 harg6 arg7 harg7 arg12 harg12 arg13 harg13 x1 x4 x5 cg dec (k0_off6 i 0#32) (k0_off7 i 0#32) (off6_0 i) (off7_0 i) ![256, 0] rfl ![0, 256, 128] rfl _ _ _ _ _ _ x
    refine List.forall_mem_cons.mpr ⟨?_, ?_⟩
    · intro x; exact piece_0_0 i 2 arg3 harg3 arg6 harg6 arg7 harg7 arg12 harg12 arg13 harg13 x1 x4 x5 cg dec (k0_off6 i 0#32) (k0_off7 i 0#32) (off6_0 i) (off7_0 i) ![256, 0] rfl ![0, 256, 0] rfl _ _ _ _ _ _ x
    refine List.forall_mem_cons.mpr ⟨?_, ?_⟩
    · intro x; exact piece_0_1 i 1 arg3 harg3 arg6 harg6 arg7 harg7 arg12 harg12 arg13 harg13 x1 x4 x5 cg dec (k0_off4 i 0#32) (k0_off5 i 0#32) (off4_0 i) (off5_0 i) ![128, 0] rfl ![0, 128, 128] rfl _ _ _ _ _ _ x
    refine List.forall_mem_cons.mpr ⟨?_, ?_⟩
    · intro x; exact piece_0_0 i 1 arg3 harg3 arg6 harg6 arg7 harg7 arg12 harg12 arg13 harg13 x1 x4 x5 cg dec (k0_off4 i 0#32) (k0_off5 i 0#32) (off4_0 i) (off5_0 i) ![128, 0] rfl ![0, 128, 0] rfl _ _ _ _ _ _ x
    refine List.forall_mem_cons.mpr ⟨?_, ?_⟩
    · intro x; exact piece_0_1 i 0 arg3 harg3 arg6 harg6 arg7 harg7 arg12 harg12 arg13 harg13 x1 x4 x5 cg dec (k0_off2 i 0#32) (k0_off3 i 0#32) (off2_0 i) (off3_0 i) ![0, 0] rfl ![0, 0, 128] rfl _ _ _ _ _ _ x
    refine List.forall_mem_cons.mpr ⟨?_, ?_⟩
    · intro x; exact piece_0_0 i 0 arg3 harg3 arg6 harg6 arg7 harg7 arg12 harg12 arg13 harg13 x1 x4 x5 cg dec (k0_off2 i 0#32) (k0_off3 i 0#32) (off2_0 i) (off3_0 i) ![0, 0] rfl ![0, 0, 0] rfl _ _ _ _ _ _ x
    exact List.forall_mem_nil _
  isplitl [H8]
  · iexists _; isplitr; swap; · iexact H8
    ipureintro
    funext y
    refine View.read_writes_apply_of_pieces arg10.view _ (coSpec (i 1) x4 x5 x6 fdb) _ ?_ y ?_
    rotate_left
    · exact View.cover_of_tiled _ ![1, 1, 96, 128] rfl y
    refine List.forall_mem_cons.mpr ⟨?_, ?_⟩
    · intro x; exact (congrFun (head_co_7 _ _ _ _) x).trans (co_piece_7 i arg6 harg6 arg7 harg7 arg8 harg8 arg15 harg15 x4 x5 x6 fdb _ _ _ _ inb_S1x8x96x128_S1x1x96x128_0_7_0_0 x)
    refine List.forall_mem_cons.mpr ⟨?_, ?_⟩
    · intro x; exact (congrFun (head_co_6 _ _ _ _) x).trans (co_piece_6 i arg6 harg6 arg7 harg7 arg8 harg8 arg15 harg15 x4 x5 x6 fdb _ _ _ _ inb_S1x8x96x128_S1x1x96x128_0_6_0_0 x)
    refine List.forall_mem_cons.mpr ⟨?_, ?_⟩
    · intro x; exact (congrFun (head_co_5 _ _ _ _) x).trans (co_piece_5 i arg6 harg6 arg7 harg7 arg8 harg8 arg15 harg15 x4 x5 x6 fdb _ _ _ _ inb_S1x8x96x128_S1x1x96x128_0_5_0_0 x)
    refine List.forall_mem_cons.mpr ⟨?_, ?_⟩
    · intro x; exact (congrFun (head_co_4 _ _ _ _) x).trans (co_piece_4 i arg6 harg6 arg7 harg7 arg8 harg8 arg15 harg15 x4 x5 x6 fdb _ _ _ _ inb_S1x8x96x128_S1x1x96x128_0_4_0_0 x)
    refine List.forall_mem_cons.mpr ⟨?_, ?_⟩
    · intro x; exact (congrFun (head_co_3 _ _ _ _) x).trans (co_piece_3 i arg6 harg6 arg7 harg7 arg8 harg8 arg15 harg15 x4 x5 x6 fdb _ _ _ _ inb_S1x8x96x128_S1x1x96x128_0_3_0_0 x)
    refine List.forall_mem_cons.mpr ⟨?_, ?_⟩
    · intro x; exact (congrFun (head_co_2 _ _ _ _) x).trans (co_piece_2 i arg6 harg6 arg7 harg7 arg8 harg8 arg15 harg15 x4 x5 x6 fdb _ _ _ _ inb_S1x8x96x128_S1x1x96x128_0_2_0_0 x)
    refine List.forall_mem_cons.mpr ⟨?_, ?_⟩
    · intro x; exact (congrFun (head_co_1 _ _ _ _) x).trans (co_piece_1 i arg6 harg6 arg7 harg7 arg8 harg8 arg15 harg15 x4 x5 x6 fdb _ _ _ _ inb_S1x8x96x128_S1x1x96x128_0_1_0_0 x)
    refine List.forall_mem_cons.mpr ⟨?_, ?_⟩
    · intro x; exact (congrFun (head_co_0 _ _ _ _) x).trans (co_piece_0 i arg6 harg6 arg7 harg7 arg8 harg8 arg15 harg15 x4 x5 x6 fdb _ _ _ _ inb_S1x8x96x128_S1x1x96x128_0_0_0_0 x)
    exact List.forall_mem_nil _
  isplitl [H9]
  · iexists _; isplitr; swap; · iexact H9
    ipureintro
    funext y
    refine View.read_writes_apply_of_pieces arg11.view _ (soSpec (i 1) x4 x5 x6 fdb) _ ?_ y ?_
    rotate_left
    · exact View.cover_of_tiled _ ![1, 1, 96] rfl y
    refine List.forall_mem_cons.mpr ⟨?_, ?_⟩
    · intro x; exact (congrFun (head_so_7 _ _ _ _) x).trans (so_piece_7 i arg6 harg6 arg7 harg7 arg8 harg8 arg15 harg15 x4 x5 x6 fdb _ _ _ _ inb_S1x8x96_S1x1x96_0_7_0 x)
    refine List.forall_mem_cons.mpr ⟨?_, ?_⟩
    · intro x; exact (congrFun (head_so_6 _ _ _ _) x).trans (so_piece_6 i arg6 harg6 arg7 harg7 arg8 harg8 arg15 harg15 x4 x5 x6 fdb _ _ _ _ inb_S1x8x96_S1x1x96_0_6_0 x)
    refine List.forall_mem_cons.mpr ⟨?_, ?_⟩
    · intro x; exact (congrFun (head_so_5 _ _ _ _) x).trans (so_piece_5 i arg6 harg6 arg7 harg7 arg8 harg8 arg15 harg15 x4 x5 x6 fdb _ _ _ _ inb_S1x8x96_S1x1x96_0_5_0 x)
    refine List.forall_mem_cons.mpr ⟨?_, ?_⟩
    · intro x; exact (congrFun (head_so_4 _ _ _ _) x).trans (so_piece_4 i arg6 harg6 arg7 harg7 arg8 harg8 arg15 harg15 x4 x5 x6 fdb _ _ _ _ inb_S1x8x96_S1x1x96_0_4_0 x)
    refine List.forall_mem_cons.mpr ⟨?_, ?_⟩
    · intro x; exact (congrFun (head_so_3 _ _ _ _) x).trans (so_piece_3 i arg6 harg6 arg7 harg7 arg8 harg8 arg15 harg15 x4 x5 x6 fdb _ _ _ _ inb_S1x8x96_S1x1x96_0_3_0 x)
    refine List.forall_mem_cons.mpr ⟨?_, ?_⟩
    · intro x; exact (congrFun (head_so_2 _ _ _ _) x).trans (so_piece_2 i arg6 harg6 arg7 harg7 arg8 harg8 arg15 harg15 x4 x5 x6 fdb _ _ _ _ inb_S1x8x96_S1x1x96_0_2_0 x)
    refine List.forall_mem_cons.mpr ⟨?_, ?_⟩
    · intro x; exact (congrFun (head_so_1 _ _ _ _) x).trans (so_piece_1 i arg6 harg6 arg7 harg7 arg8 harg8 arg15 harg15 x4 x5 x6 fdb _ _ _ _ inb_S1x8x96_S1x1x96_0_1_0 x)
    refine List.forall_mem_cons.mpr ⟨?_, ?_⟩
    · intro x; exact (congrFun (head_so_0 _ _ _ _) x).trans (so_piece_0 i arg6 harg6 arg7 harg7 arg8 harg8 arg15 harg15 x4 x5 x6 fdb _ _ _ _ inb_S1x8x96_S1x1x96_0_0_0 x)
    exact List.forall_mem_nil _
  isplitl [HS0]
  · iexists _; isplitr; · ipureintro; exact harg12.read_unread _
    iexact HS0
  isplitl [HS1]
  · iexists _; isplitr; · ipureintro; exact harg13.read_unread _
    iexact HS1
  isplitl [HS2]
  · iexists _, _; isplitr; swap; · iexact HS2
    ipureintro; rfl
  iexists _; isplitr; · ipureintro; exact harg15.read_unread _
  iexact HS3

end Cert.KernelIdeal.Hand

end
-- ==== Proof.ValueRun.lean ====
module

public import proofs.«01_k».proof.Proof.PrepRun
public import proofs.«01_k».proof.Proof.TailRun
public import proofs.«01_k».proof.Proof.IdealPoints
public import Idealize.ShloMosaic.Lib.Pipeline.ValueKit
public import Idealize.ShloMosaic.Lib.Claim

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body at a batch's first point: it leaves the three outputs at their closed forms over the batch's own rows
    of `c`, decays and last decays, which it puts into the scratch. -/
theorem value_first (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : cond0_0 i) (x0 : Vec Ideal S1x120 .f32) (x1 : Vec Ideal S1x896x768 .bf16) (x2 : Vec Ideal S1x896x8x128 .bf16) (x3 : Vec Ideal S1x896x120 .f32) (x4 : Vec Ideal S1x8x96x128 .fp8e4m3) (x5 : Vec Ideal S1x8x96 .f32) (x6 : Vec Ideal S1x8x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yoSpec (i 1) x1 x4 x5 (cgOf x2) (decOf x0 x3)) ∗ owns (c : Thread nD τ) arg10 fullShare (coSpec (i 1) x4 x5 x6 (fdbOf x0 x3)) ∗ owns (c : Thread nD τ) arg11 fullShare (soSpec (i 1) x4 x5 x6 (fdbOf x0 x3)) ∗ owns (c : Thread nD τ) arg12 fullShare (cgOf x2) ∗ owns (c : Thread nD τ) arg13 fullShare (decOf x0 x3) ∗ (∃ d, owns (c : Thread nD τ) arg14 fullShare d) ∗ owns (c : Thread nD τ) arg15 fullShare (fdbOf x0 x3)) -∗ K ⟨⟩))
    ⊢ wp frame (wpE (defs₀ (F := Ideal)) Variants.none c none) E (cc0_ssd_carry (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  rw [body_first (F := Ideal) i arg2 harg2 arg3 harg3 arg4 harg4 arg5 harg5 arg6 harg6 arg7 harg7 arg8 harg8 arg9 harg9 arg10 harg10 arg11 harg11 arg12 harg12 arg13 harg13 arg14 harg14 arg15 harg15 hc0]
  rw [wp_bind]
  iintro ⟨H0, H1, H2, H3, H4, H5, H6, H7, H8, H9, HS0, HS1, HS2, HS3, Hk⟩
  iapply (prep_value c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  iapply (tail_value c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (cgOf x2) (decOf x0 x3) (fdbOf x0 x3) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

/-- The body at any later point of a batch: it leaves the three outputs at their closed forms over what the scratch
    holds, and the scratch as it was. -/
theorem value_later (c : Dev nD) (i : grid0.Coords) (arg2 : Memref sig .tc .vmem S1x120 .f32) (harg2 : arg2.IsWhole) (arg3 : Memref sig .tc .vmem S1x896x768 .bf16) (harg3 : arg3.IsWhole) (arg4 : Memref sig .tc .vmem S1x896x8x128 .bf16) (harg4 : arg4.IsWhole) (arg5 : Memref sig .tc .vmem S1x896x120 .f32) (harg5 : arg5.IsWhole) (arg6 : Memref sig .tc .vmem S1x8x96x128 .fp8e4m3) (harg6 : arg6.IsWhole) (arg7 : Memref sig .tc .vmem S1x8x96 .f32) (harg7 : arg7.IsWhole) (arg8 : Memref sig .tc .vmem S1x8x96x128 .f32) (harg8 : arg8.IsWhole) (arg9 : Memref sig .tc .vmem S1x896x768 .bf16) (harg9 : arg9.IsWhole) (arg10 : Memref sig .tc .vmem S1x8x96x128 .fp8e4m3) (harg10 : arg10.IsWhole) (arg11 : Memref sig .tc .vmem S1x8x96 .f32) (harg11 : arg11.IsWhole) (arg12 : Memref sig .tc .vmem S8x896x128 .bf16) (harg12 : arg12.IsWhole) (arg13 : Memref sig .tc .vmem S896x128 .f32) (harg13 : arg13.IsWhole) (arg14 : Memref sig .tc .vmem S120x128 .f32) (harg14 : arg14.IsWhole) (arg15 : Memref sig .tc .vmem S128x128 .f32) (harg15 : arg15.IsWhole) (hc0 : ¬ cond0_0 i) (x0 : Vec Ideal S1x120 .f32) (x1 : Vec Ideal S1x896x768 .bf16) (x2 : Vec Ideal S1x896x8x128 .bf16) (x3 : Vec Ideal S1x896x120 .f32) (x4 : Vec Ideal S1x8x96x128 .fp8e4m3) (x5 : Vec Ideal S1x8x96 .f32) (x6 : Vec Ideal S1x8x96x128 .f32) (cg : Vec Ideal S8x896x128 .bf16) (dec : Vec Ideal S896x128 .f32) (fdb : Vec Ideal S128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cg ∗ owns (c : Thread nD τ) arg13 fullShare dec ∗ (∃ d, owns (c : Thread nD τ) arg14 fullShare d) ∗ owns (c : Thread nD τ) arg15 fullShare fdb ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yoSpec (i 1) x1 x4 x5 cg dec) ∗ owns (c : Thread nD τ) arg10 fullShare (coSpec (i 1) x4 x5 x6 fdb) ∗ owns (c : Thread nD τ) arg11 fullShare (soSpec (i 1) x4 x5 x6 fdb) ∗ owns (c : Thread nD τ) arg12 fullShare cg ∗ owns (c : Thread nD τ) arg13 fullShare dec ∗ (∃ d, owns (c : Thread nD τ) arg14 fullShare d) ∗ owns (c : Thread nD τ) arg15 fullShare fdb) -∗ K ⟨⟩))
    ⊢ wp frame (wpE (defs₀ (F := Ideal)) Variants.none c none) E (cc0_ssd_carry (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  rw [body_later (F := Ideal) i arg2 harg2 arg3 harg3 arg4 harg4 arg5 harg5 arg6 harg6 arg7 harg7 arg8 harg8 arg9 harg9 arg10 harg10 arg11 harg11 arg12 harg12 arg13 harg13 arg14 harg14 arg15 harg15 hc0]
  iintro ⟨H0, H1, H2, H3, H4, H5, H6, H7, H8, H9, HS0, HS1, HS2, HS3, Hk⟩
  iapply (tail_value c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 cg dec fdb E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iexact Hk

end Cert.KernelIdeal.Hand

end
-- ==== Proof.ValueFrame.lean ====
module

public import proofs.«01_k».proof.Proof.IdealBlocks
public import proofs.«01_k».proof.Proof.ValueRun

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data, the outputs at their closed forms -/

/-- What the kernel leaves in the rows' output block at a point. -/
abbrev out7 (c : Dev nD) (t : Fin cfg0.N) : Vec Ideal S1x896x768 .bf16 :=
  yoSpec (grid0.coords t 1) (iblk m c 1 t) (iblk m c 4 t) (iblk m c 5 t) (cgOf (iblk m c 2 t)) (decOf (iblk m c 0 t) (iblk m c 3 t))
/-- What the kernel leaves in the codes' output block at a point. -/
abbrev out8 (c : Dev nD) (t : Fin cfg0.N) : Vec Ideal S1x8x96x128 .fp8e4m3 :=
  coSpec (grid0.coords t 1) (iblk m c 4 t) (iblk m c 5 t) (iblk m c 6 t) (fdbOf (iblk m c 0 t) (iblk m c 3 t))
/-- What the kernel leaves in the scales' output block at a point. -/
abbrev out9 (c : Dev nD) (t : Fin cfg0.N) : Vec Ideal S1x8x96 .f32 :=
  soSpec (grid0.coords t 1) (iblk m c 4 t) (iblk m c 5 t) (iblk m c 6 t) (fdbOf (iblk m c 0 t) (iblk m c 3 t))

/-- The scratch filled for the batch of point `t`. -/
def Held (c : Dev nD) (t : Fin cfg0.N) : sProp 𝕄 :=
  iprop(iprop(owns (c : Thread nD τ) scM0_0 fullShare (cgOf (iblk m c 2 t)) ∗ owns (c : Thread nD τ) scM0_1 fullShare (decOf (iblk m c 0 t) (iblk m c 3 t)) ∗ (∃ d, owns (c : Thread nD τ) scM0_2 fullShare d) ∗ owns (c : Thread nD τ) scM0_3 fullShare (fdbOf (iblk m c 0 t) (iblk m c 3 t))) ∗ (∃ r, prngReg c r))

/-- What the body finds in the scratch before point `n`: anything before a batch's first point, the batch's own
    contents before any other. -/
def PhiN (c : Dev nD) (n : ℕ) : sProp 𝕄 :=
  if h : n % 15 ≠ 0 ∧ n < cfg0.N then Held m c ⟨n, h.2⟩ else Pipeline.ΦA spec0 c

/-- The proof data of the one pipeline on core `c`: the arrays as the region finds them; after the body at point `t`
    each input's buffer at its block and the outputs at their closed forms; the scratch as `PhiN` states it. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ t := PhiN m c t.val
  q _ := fullShare
  owed _ := 0

/-- The proof data's arrays are the region-entry contents. -/
theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = out7 m c t := by dsimp only [vdats]
theorem vafter_8 (c : Dev nD) (t : Fin cfg0.N) : (vdats m 0 c).after 8 t = out8 m c t := by dsimp only [vdats]
theorem vafter_9 (c : Dev nD) (t : Fin cfg0.N) : (vdats m 0 c).after 9 t = out9 m c t := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d

/-- The invariant before point `t`. -/
theorem vPhi_castSucc (c : Dev nD) (t : Fin cfg0.N) : (vdats m 0 c).Φ t.castSucc = PhiN m c t.val := by
  dsimp only [vdats]; exact Dat.Φ_castSucc (fun n _ => PhiN m c n) t

/-- The invariant after point `t`. -/
theorem vPhi_succ (c : Dev nD) (t : Fin cfg0.N) : (vdats m 0 c).Φ t.succ = PhiN m c (t.val + 1) := by
  dsimp only [vdats]; rw [Fin.val_succ]

/-- Before a batch's first point the scratch holds anything. -/
theorem PhiN_first (c : Dev nD) (n : ℕ) (h : n % 15 = 0) : PhiN m c n = Pipeline.ΦA spec0 c :=
  dif_neg fun h' => h'.1 h

/-- Before any other point of a batch it holds the batch's contents. -/
theorem PhiN_later (c : Dev nD) (t : Fin cfg0.N) (h : t.val % 15 ≠ 0) : PhiN m c t.val = Held m c t :=
  dif_pos ⟨h, t.isLt⟩

/-- The contents of a batch's scratch give what the next point expects. -/
theorem Held_next (c : Dev nD) (t : Fin cfg0.N) : Held m c t ⊢ PhiN m c (t.val + 1) := by
  unfold PhiN
  split_ifs with h
  · have hb : t.val / 15 = (t.val + 1) / 15 := by omega
    unfold Held
    rw [iblk0_congr m c t ⟨t.val + 1, h.2⟩, iblk2_congr m c t ⟨t.val + 1, h.2⟩ hb, iblk3_congr m c t ⟨t.val + 1, h.2⟩ hb]
  · rw [PhiA0_eq]
    unfold Held
    iintro ⟨⟨HS0, HS1, HS2, HS3⟩, Hg⟩
    isplitl [HS0 HS1 HS2 HS3]
    · isplitl [HS0]; · iexists _; iexact HS0
      isplitl [HS1]; · iexists _; iexact HS1
      isplitl [HS2]; · iexact HS2
      iexists _; iexact HS3
    iexact Hg

/-! ## The body obligation, at a generic point -/

/-- What the body is called with at point `t` (Lib/Pipeline.lean `BodyObligation`'s precondition, the windows one by one), -/
def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d))
    ∗ (∃ d, owns (c : Thread nD τ) (ms0_8 t) fullShare ((vdats m 0 c).before 8 t d))
    ∗ (∃ d, owns (c : Thread nD τ) (ms0_9 t) fullShare ((vdats m 0 c).before 9 t d)))

/-- and what it returns. -/
def vbodyPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t)
    ∗ owns (c : Thread nD τ) (ms0_6 t) fullShare ((vdats m 0 c).after 6 t)
    ∗ owns (c : Thread nD τ) (ms0_7 t) fullShare ((vdats m 0 c).after 7 t)
    ∗ owns (c : Thread nD τ) (ms0_8 t) fullShare ((vdats m 0 c).after 8 t)
    ∗ owns (c : Thread nD τ) (ms0_9 t) fullShare ((vdats m 0 c).after 9 t))

set_option maxHeartbeats 2400000 in
/-- The body at any point: the inputs' memrefs hold their blocks; at a batch's first point the body fills the scratch,
    at any other it finds it filled for the batch; it leaves the outputs at their closed forms. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore_0, vbefore_1, vbefore_2, vbefore_3, vbefore_4, vbefore_5, vbefore_6]
  rw [show (vdats m 0 c).owesAt () t.succ = (vdats m 0 c).owesAt () t.castSucc from rfl,
    vafter_0, vafter_1, vafter_2, vafter_3, vafter_4, vafter_5, vafter_6, vafter_7, vafter_8, vafter_9, vPhi_castSucc, vPhi_succ]
  by_cases h0 : t.val % 15 = 0
  · rw [PhiN_first m c _ h0, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((value_first c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · iapply (Held_next m c t)
      unfold Held
      isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiN_later m c t h0]
    unfold Held
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((value_later c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (cgOf (iblk m c 2 t)) (decOf (iblk m c 0 t) (iblk m c 3 t)) (fdbOf (iblk m c 0 t) (iblk m c 3 t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · iapply (Held_next m c t)
      unfold Held
      isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem vdefs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem vbody_obligation (c : Dev nD) : BodyObligation (vdats m 0 c) (defs₀ (F := Ideal)) Variants.none () Set.univ := fun t => by
  rw [bigSep_W0, bigSep_W0, vdefs₀_row]
  exact triple_restated (vsound_body m c t) rfl .rfl fun _ => .rfl

-- the run theorem's implicit arguments are found by unifying its conclusion with this one, which takes unfolding plain
-- definitions in a metavariable's type
set_option backward.isDefEq.respectTransparency.types false in
/-- From any memory with zero counters every weakly fair execution of @main terminates, and every final state has each
    array of the pipeline at what the proof data's blocks make of it, and every other buffer as the region found it. -/
theorem vrun_main : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m)
    (hin := fun c => by
      rw [show (vdats m 0 c).Φ 0 = PhiN m c 0 from rfl, PhiN_first m c 0 rfl])
    (hout := fun c => by
      rw [show (vdats m 0 c).Φ (Fin.last (cfgs 0).N) = PhiN m c (Fin.last (cfgs 0).N).val from rfl, PhiN_first m c _ (by decide +kernel)])

end Cert.KernelIdeal.Hand

end
-- ==== Proof.ValueArray.lean ====
module

public import proofs.«01_k».proof.Proof.ValueFrame

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The results as functions of the arguments -/

/-- The decay of head `n` after row `p` of batch `b`: the exponential of the running sum of `dt * -exp a_log`. -/
def decG (dt : Vec Ideal S2x896x120 .f32) (al : Vec Ideal S120 .f32) (b : Fin 2) (p : ℕ) (n : Fin 120) : EReal :=
  Ideal.exp (∑ t ∈ Finset.range (p + 1), if h : t < 896 then dt (ix3 b ⟨t, h⟩ n) * (0 - Ideal.exp (al (ix1 n))) else 0)

/-- The rows: `y` plus its group's row of `c` against the column's codes, times the scale, times the decay. -/
def yoG (y : Vec Ideal S2x896x11520 .bf16) (cc : Vec Ideal S2x896x8x128 .bf16) (dt : Vec Ideal S2x896x120 .f32) (al : Vec Ideal S120 .f32)
    (q : Vec Ideal S2x120x96x128 .fp8e4m3) (s : Vec Ideal S2x120x96 .f32) (b : Fin 2) (p : Fin 896) (l : Fin 11520) : EReal :=
  y (ix3 b p l) + (∑ d : Fin 128, cc (ix4 b p ⟨l.val / 1440, by omega⟩ d) * q (ix4 b ⟨l.val / 96, by omega⟩ ⟨l.val % 96, by omega⟩ d))
    * s (ix3 b ⟨l.val / 96, by omega⟩ ⟨l.val % 96, by omega⟩) * decG dt al b p.val ⟨l.val / 96, by omega⟩

/-- The new state: the last decay times the scaled code, plus the local state. -/
def hG (dt : Vec Ideal S2x896x120 .f32) (al : Vec Ideal S120 .f32)
    (q : Vec Ideal S2x120x96x128 .fp8e4m3) (s : Vec Ideal S2x120x96 .f32) (hl : Vec Ideal S2x120x96x128 .f32) (b : Fin 2) (n : Fin 120) (a : Fin 96) (d : Fin 128) : EReal :=
  decG dt al b 895 n * (q (ix4 b n a d) * s (ix3 b n a)) + hl (ix4 b n a d)

/-- A state row's largest absolute value over 448. -/
def vG (dt : Vec Ideal S2x896x120 .f32) (al : Vec Ideal S120 .f32)
    (q : Vec Ideal S2x120x96x128 .fp8e4m3) (s : Vec Ideal S2x120x96 .f32) (hl : Vec Ideal S2x120x96x128 .f32) (b : Fin 2) (n : Fin 120) (a : Fin 96) : EReal :=
  Finset.fold max (Ideal.ofBits .f32 4286578688#32) (fun k => FloatOps.absf (F := Ideal) (φ := .f32) (hG dt al q s hl b n a k)) (Finset.univ : Finset (Fin 128))
    * Ideal.ofBits .f32 991054117#32

/-- The new code of a state element: it times its row's inverse scale, kept within ±448. -/
def coG (dt : Vec Ideal S2x896x120 .f32) (al : Vec Ideal S120 .f32)
    (q : Vec Ideal S2x120x96x128 .fp8e4m3) (s : Vec Ideal S2x120x96 .f32) (hl : Vec Ideal S2x120x96x128 .f32) (b : Fin 2) (n : Fin 120) (a : Fin 96) (d : Fin 128) : EReal :=
  min (Ideal.ofBits .f32 0x43E00000#32) (max (Ideal.ofBits .f32 0xC3E00000#32) (hG dt al q s hl b n a d * invOf (vG dt al q s hl b n a)))

/-- The rows' array. -/
def yoArr (y : Vec Ideal S2x896x11520 .bf16) (cc : Vec Ideal S2x896x8x128 .bf16) (dt : Vec Ideal S2x896x120 .f32) (al : Vec Ideal S120 .f32)
    (q : Vec Ideal S2x120x96x128 .fp8e4m3) (s : Vec Ideal S2x120x96 .f32) : Vec Ideal S2x896x11520 .bf16 := fun i => yoG y cc dt al q s (i 0) (i 1) (i 2)

/-- The codes' array. -/
def coArr (dt : Vec Ideal S2x896x120 .f32) (al : Vec Ideal S120 .f32)
    (q : Vec Ideal S2x120x96x128 .fp8e4m3) (s : Vec Ideal S2x120x96 .f32) (hl : Vec Ideal S2x120x96x128 .f32) : Vec Ideal S2x120x96x128 .fp8e4m3 :=
  fun i => coG dt al q s hl (i 0) (i 1) (i 2) (i 3)

/-- The scales' array. -/
def soArr (dt : Vec Ideal S2x896x120 .f32) (al : Vec Ideal S120 .f32)
    (q : Vec Ideal S2x120x96x128 .fp8e4m3) (s : Vec Ideal S2x120x96 .f32) (hl : Vec Ideal S2x120x96x128 .f32) : Vec Ideal S2x120x96 .f32 :=
  fun i => scaleOf (vG dt al q s hl (i 0) (i 1) (i 2))

variable (m : (ℓ : Loc nD τ sig) → Buf (Elt Ideal) ℓ) (ρ : Dev nD → PrngReg)

/-! ## The blocks' closed forms in terms of the arrays -/

/-- The decay over a batch's blocks is the decay over the arrays. -/
theorem decAt_blk (c : Dev nD) (t : Fin cfg0.N) (p : ℕ) (l : Fin 128) (n : Fin 120) (h : l.val = n.val) :
    decAt (iblk m c 0 t) (iblk m c 3 t) p l = decG (m ((c.tc : Thread nD τ).loc main_arg2)) (m ((c.tc : Thread nD τ).loc main_arg3)) (batch t) p n := by
  unfold decAt decG
  congr 1
  refine Finset.sum_congr rfl fun k _ => ?_
  unfold dtaAt
  have hn := n.isLt
  by_cases hk : k < 896
  · rw [dif_pos ⟨hk, by omega⟩, dif_pos hk]
    have e : (⟨l.val, by omega⟩ : Fin 120) = n := Fin.ext h
    rw [e, iblk0_apply m c t n, iblk3_apply m c t ⟨k, hk⟩ n]
  · rw [dif_neg (fun h' => hk h'.1), dif_neg hk]

/-- The state over a point's blocks is the state over the arrays. -/
theorem hAt_blk (c : Dev nD) (t : Fin cfg0.N) (h : Fin 8) (a : Fin 96) (d : Fin 128) :
    hAt (hblk t) (iblk m c 4 t) (iblk m c 5 t) (iblk m c 6 t) (fdbOf (iblk m c 0 t) (iblk m c 3 t)) h a d
      = hG (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (batch t) ⟨8 * (t.val % 15) + h.val, by omega⟩ a d := by
  unfold hAt hG
  rw [iblk4_apply, iblk5_apply, iblk6_apply]
  congr 2
  exact decAt_blk m c t 895 _ _ rfl

/-- A state row's largest absolute value, likewise. -/
theorem vAt_blk (c : Dev nD) (t : Fin cfg0.N) (h : Fin 8) (a : Fin 96) :
    vAt (hblk t) (iblk m c 4 t) (iblk m c 5 t) (iblk m c 6 t) (fdbOf (iblk m c 0 t) (iblk m c 3 t)) h a
      = vG (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (batch t) ⟨8 * (t.val % 15) + h.val, by omega⟩ a := by
  unfold vAt vG
  congr 2
  funext k
  rw [hAt_blk]

/-- The rows over a point's blocks are the rows over the arrays. -/
theorem yoAt_blk (c : Dev nD) (t : Fin cfg0.N) (p : Fin 896) (l : Fin 768) :
    yoAt (hblk t) (iblk m c 1 t) (iblk m c 4 t) (iblk m c 5 t) (cgOf (iblk m c 2 t)) (decOf (iblk m c 0 t) (iblk m c 3 t)) p l
      = yoG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (batch t) p ⟨768 * (t.val % 15) + l.val, by omega⟩ := by
  have hl := l.isLt
  have e1 : (768 * (t.val % 15) + l.val) / 96 = 8 * (t.val % 15) + l.val / 96 := by omega
  have e2 : (768 * (t.val % 15) + l.val) % 96 = l.val % 96 := by omega
  unfold yoAt yoG
  simp only [e1, e2]
  rw [iblk1_apply, iblk5_apply]
  congr 2
  · congr 1
    refine Finset.sum_congr rfl fun d _ => ?_
    rw [iblk4_apply]
    congr 1
    exact iblk2_apply m c t p _ d
  · exact decAt_blk m c t p.val _ _ rfl

/-! ## The arrays after the run -/

/-- The rows' array after the run. -/
theorem final7 (c : Dev nD) : (vdats m 0 c).arrAt 7 (cfgs 0).N
    = yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (vdats m 0 c).arrAt_eq_of_covers 7 _ (by decide +kernel) fun t hf y => ?_
  blk_simp
  rw [vafter_7]
  have e : out7 m c t y = yoAt (hblk t) (iblk m c 1 t) (iblk m c 4 t) (iblk m c 5 t) (cgOf (iblk m c 2 t)) (decOf (iblk m c 0 t) (iblk m c 3 t)) (y 1) (y 2) := by
    unfold out7; rw [coords_one]; rfl
  refine e.trans ((yoAt_blk m c t (y 1) (y 2)).trans ?_)
  have e2 : (ix3 (batch t) (y 1) ⟨768 * (t.val % 15) + (y 2).val, by have : (y 2).val < 768 := (y 2).isLt; omega⟩ : S2x896x11520.Idx) = (win0_7.blk t).view.emb y := by
    blk_ext [widx t]
  exact congrArg (yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) e2

/-- The codes' output block at a point, over the arrays. -/
theorem out8_eq (c : Dev nD) (t : Fin cfg0.N) (h : Fin 8) (a : Fin 96) (d : Fin 128) :
    coSpec (grid0.coords t 1) (iblk m c 4 t) (iblk m c 5 t) (iblk m c 6 t) (fdbOf (iblk m c 0 t) (iblk m c 3 t)) (ix4 0 h a d)
      = coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix4 (batch t) ⟨8 * (t.val % 15) + h.val, by omega⟩ a d) := by
  refine Eq.trans (b := min (Ideal.ofBits .f32 0x43E00000#32) (max (Ideal.ofBits .f32 0xC3E00000#32)
    (hAt (grid0.coords t 1) (iblk m c 4 t) (iblk m c 5 t) (iblk m c 6 t) (fdbOf (iblk m c 0 t) (iblk m c 3 t)) h a d * invOf (vAt (grid0.coords t 1) (iblk m c 4 t) (iblk m c 5 t) (iblk m c 6 t) (fdbOf (iblk m c 0 t) (iblk m c 3 t)) h a)))) rfl ?_
  rw [coords_one, hAt_blk m c t h a d, vAt_blk m c t h a]
  rfl

/-- The scales' output block at a point, over the arrays. -/
theorem out9_eq (c : Dev nD) (t : Fin cfg0.N) (h : Fin 8) (a : Fin 96) :
    soSpec (grid0.coords t 1) (iblk m c 4 t) (iblk m c 5 t) (iblk m c 6 t) (fdbOf (iblk m c 0 t) (iblk m c 3 t)) (ix3 0 h a)
      = soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 (batch t) ⟨8 * (t.val % 15) + h.val, by omega⟩ a) := by
  refine Eq.trans (b := scaleOf (vAt (grid0.coords t 1) (iblk m c 4 t) (iblk m c 5 t) (iblk m c 6 t) (fdbOf (iblk m c 0 t) (iblk m c 3 t)) h a)) rfl ?_
  rw [coords_one, vAt_blk m c t h a]
  rfl

/-- The codes' array after the run. -/
theorem final8 (c : Dev nD) : (vdats m 0 c).arrAt 8 (cfgs 0).N = coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (vdats m 0 c).arrAt_eq_of_covers 8 _ (by decide +kernel) fun t hf y => ?_
  blk_simp
  rw [vafter_8]
  obtain ⟨h, a, d, rfl⟩ : ∃ (h : Fin 8) (a : Fin 96) (d : Fin 128), y = (ix4 0 h a d : S1x8x96x128.Idx) := ⟨y 1, y 2, y 3, by blk_ext⟩
  refine (out8_eq m c t h a d).trans ?_
  refine congrArg (coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) ?_
  blk_ext [widx t]

/-- What a point leaves in the scales' output block. -/
theorem after9_ix (c : Dev nD) (t : Fin cfg0.N) (h : Fin 8) (a : Fin 96) : (vdats m 0 c).after 9 t (ix3 0 h a : S1x8x96.Idx) =  soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 (batch t) ⟨8 * (t.val % 15) + h.val, by omega⟩ a) := by
  rw [vafter_9]
  exact out9_eq m c t h a

/-- Where a scales' block lies in its array. -/
theorem emb9_ix (t : Fin cfg0.N) (h : Fin 8) (a : Fin 96) : (ix3 (batch t) ⟨8 * (t.val % 15) + h.val, by omega⟩ a : S2x120x96.Idx) = (win0_9.blk t).view.emb (ix3 0 h a : S1x8x96.Idx) := by
  blk_ext [widx t]

/-- A point's scales are the array's where its block lies. -/
theorem after9_eq (c : Dev nD) (t : Fin cfg0.N) (y : S1x8x96.Idx) : (vdats m 0 c).after 9 t y =  soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ((win0_9.blk t).view.emb y) := by
  obtain ⟨h, a, rfl⟩ : ∃ (h : Fin 8) (a : Fin 96), y = (ix3 0 h a : S1x8x96.Idx) := ⟨y 1, y 2, by blk_ext⟩
  rw [after9_ix, emb9_ix]

/-- The scales' array after the run. -/
theorem final9 (c : Dev nD) : (vdats m 0 c).arrAt 9 (cfgs 0).N = soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  generalize hZ : soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Z
  refine (vdats m 0 c).arrAt_eq_of_covers 9 Z (by decide +kernel) fun t hf y => ?_
  have e := after9_eq m c t
  rw [hZ] at e
  generalize (vdats m 0 c).after 9 t = X at e
  exact (cast_eq _ _).trans (e _)

/-- From any memory with zero counters @main terminates with the three results at their closed forms and the arguments
    as they were. -/
theorem values : θ_run defs (onTc (τ := τ) (main (F := Ideal))) ⟨m, fun _ => 0, ρ⟩ (fun r => ∀ c : Dev nD,
      r.2.mem ((c.tc : Thread nD τ).loc main_v1_0) = yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v1_1) = coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v1_2) = soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 7).trans (final7 m c), ((h c).1 8).trans (final8 m c), ((h c).1 9).trans (final9 m c),
    ((h c).1 1).trans (((vdats m 0 c).arrAt_in 1 rfl _).trans ((vA_eq m c 1).trans (V_main_arg0 m c))),
    ((h c).1 2).trans (((vdats m 0 c).arrAt_in 2 rfl _).trans ((vA_eq m c 2).trans (V_main_arg1 m c))),
    ((h c).1 3).trans (((vdats m 0 c).arrAt_in 3 rfl _).trans ((vA_eq m c 3).trans (V_main_arg2 m c))),
    ((h c).2 main_arg3 (Pipeline.mem_restRefs_of main_arg3 (by decide) (by decide))).trans (V_main_arg3 m c),
    ((h c).1 4).trans (((vdats m 0 c).arrAt_in 4 rfl _).trans ((vA_eq m c 4).trans (V_main_arg4 m c))),
    ((h c).1 5).trans (((vdats m 0 c).arrAt_in 5 rfl _).trans ((vA_eq m c 5).trans (V_main_arg5 m c))),
    ((h c).1 6).trans (((vdats m 0 c).arrAt_in 6 rfl _).trans ((vA_eq m c 6).trans (V_main_arg6 m c)))⟩) (vrun_main m ρ)

end Cert.KernelIdeal.Hand

end
-- ==== Proof.RefScan.lean ====
module

public import proofs.«01_k».proof.Proof.Gen.ReferenceIdeal.Value
public import Idealize.ShloMosaic.Lib.Ring
public import Idealize.ShloMosaic.Lib.Pointwise
public import Idealize.ShloMosaic.Lib.Claim
public import Idealize.ShloMosaic.Lib.WordCmp
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

/-! ## A running sum along the rows -/

/-- A fold that adds each term is the start plus the sum of the terms. -/
theorem foldl_add_sum {α : Type} (l : List α) (g : α → EReal) (a : EReal) : l.foldl (fun r n => r + g n) a = a + (l.map g).sum := by
  induction l generalizing a with
  | nil => simp
  | cons x l ih => rw [List.foldl_cons, ih, List.map_cons, List.sum_cons, add_assoc]

/-- A window's terms, those before the array zero, sum to the array's first `p + 1` terms. -/
theorem sum_window (f : ℕ → EReal) (p : ℕ) (hp : p < 896) :
    (∑ k : Fin 896, if 895 ≤ p + k.val then f (p + k.val - 895) else 0) = ∑ t ∈ Finset.range (p + 1), f t := by
  rw [Fin.sum_univ_eq_sum_range (fun k => if 895 ≤ p + k then f (p + k - 895) else 0) 896]
  have e : 896 = (895 - p) + (p + 1) := by omega
  rw [e, Finset.sum_range_add (fun k => if 895 ≤ p + k then f (p + k - 895) else 0) (895 - p) (p + 1)]
  rw [Finset.sum_eq_zero (s := Finset.range (895 - p)) (fun k hk => if_neg (by have := Finset.mem_range.mp hk; omega)), zero_add]
  refine Finset.sum_congr rfl fun t _ => ?_
  rw [if_pos (by omega)]
  congr 1
  omega

/-- The running sum over the rows, read at a row: the sum of the rows up to it. -/
theorem scan_apply (x : Vec Ideal S2x896x120 .f32) (v : Vec Ideal S_ .f32) (hv : v ix0 = 0)
    (h : S2x896x120.ReduceWindows (![1, 896, 1] : Fin 3 → ℕ) ![1, 1, 1] ![0, 895, 0] ![0, 0, 0] S2x896x120) (hu : 0 < S_.numel)
    (b : Fin 2) (p : Fin 896) (n : Fin 120) :
    Host.reduceWindowAdd (F := Ideal) (φ := .f32) ![1, 896, 1] ![1, 1, 1] ![0, 895, 0] ![0, 0, 0] x v h hu (ix3 b p n)
      = ∑ t ∈ Finset.range (p.val + 1), if h : t < 896 then x (ix3 b ⟨t, h⟩ n) else 0 := by
  have hb := b.isLt
  have hp := p.isLt
  have hn := n.isLt
  have hv0 : v (Shape.Idx.first hu) = 0 := (congrArg v (funext fun a => a.elim0)).trans hv
  show Ideal.hostReduceWindowAdd (s := S2x896x120) (t := S2x896x120) ![1, 896, 1] ![1, 1, 1] ![0, 895, 0] ![0, 0, 0] h x (v (Shape.Idx.first hu)) (ix3 b p n) = _
  rw [hv0]
  unfold Ideal.hostReduceWindowAdd Host.reduceWindow
  dsimp only
  rw [foldl_add_sum, zero_add, ← Fin.sum_univ_def]
  refine (Finset.sum_congr rfl (g := fun q => (fun w : (⟨3, ![1, 896, 1]⟩ : Shape).Idx =>
    (if 895 ≤ p.val + (w 1).val then (if h : p.val + (w 1).val - 895 < 896 then x (ix3 b ⟨p.val + (w 1).val - 895, h⟩ n) else 0) else 0 : EReal))
      ((Shape.rowMajor (⟨3, ![1, 896, 1]⟩ : Shape)).symm q)) fun q _ => ?_).trans ?_
  · let w : (⟨3, ![1, 896, 1]⟩ : Shape).Idx := (Shape.rowMajor (⟨3, ![1, 896, 1]⟩ : Shape)).symm q
    have w0 : (w 0).val = 0 := by have : (w 0).val < 1 := (w 0).isLt; omega
    have w1 : (w 1).val < 896 := (w 1).isLt
    have w2 : (w 2).val = 0 := by have : (w 2).val < 1 := (w 2).isLt; omega
    change _ = if 895 ≤ p.val + (w 1).val then (if h : p.val + (w 1).val - 895 < 896 then x (ix3 b ⟨p.val + (w 1).val - 895, h⟩ n) else 0) else 0
    by_cases hle : 895 ≤ p.val + (w 1).val
    · have hlt : p.val + (w 1).val - 895 < 896 := by omega
      rw [if_pos hle, dif_pos hlt, dif_pos]
      · refine congrArg x (funext fun a => Fin.ext ?_)
        match a with
        | ⟨0, _⟩ => show b.val * 1 + (w 0).val - 0 = b.val; omega
        | ⟨1, _⟩ => show p.val * 1 + (w 1).val - 895 = p.val + (w 1).val - 895; omega
        | ⟨2, _⟩ => show n.val * 1 + (w 2).val - 0 = n.val; omega
      · intro a
        match a with
        | ⟨0, _⟩ => show 0 ≤ b.val * 1 + (w 0).val ∧ b.val * 1 + (w 0).val - 0 < 2; omega
        | ⟨1, _⟩ => show 895 ≤ p.val * 1 + (w 1).val ∧ p.val * 1 + (w 1).val - 895 < 896; omega
        | ⟨2, _⟩ => show 0 ≤ n.val * 1 + (w 2).val ∧ n.val * 1 + (w 2).val - 0 < 120; omega
    · rw [if_neg hle, dif_neg]
      intro hin
      have h1 : 895 ≤ p.val * 1 + (w 1).val ∧ p.val * 1 + (w 1).val - 895 < 896 := hin 1
      omega
  refine (Equiv.sum_comp (Shape.rowMajor (⟨3, ![1, 896, 1]⟩ : Shape)).symm (fun w : (⟨3, ![1, 896, 1]⟩ : Shape).Idx =>
    (if 895 ≤ p.val + (w 1).val then (if h : p.val + (w 1).val - 895 < 896 then x (ix3 b ⟨p.val + (w 1).val - 895, h⟩ n) else 0) else 0 : EReal))).trans ?_
  rw [sum_idx3, Fin.sum_univ_one]
  refine (Finset.sum_congr rfl fun k _ => Fin.sum_univ_one _).trans ?_
  exact sum_window (fun t => if h : t < 896 then x (ix3 b ⟨t, h⟩ n) else 0) p.val hp

end Cert.ReferenceIdeal.Hand

end
-- ==== Proof.RefBlocks.lean ====
module

public import proofs.«01_k».proof.Proof.RefScan
public import proofs.«01_k».proof.Proof.ValueArray
public import Idealize.ShloMosaic.Lib.Ring
public import Idealize.ShloMosaic.Lib.Pointwise
public import Idealize.ShloMosaic.Lib.Claim
public import Idealize.ShloMosaic.Lib.WordCmp
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-! ## The windows' blocks at the one point -/

/-- Every window's block starts at the array's first element. -/
theorem widx : ∀ t : Fin grid0.N,
    win0_0.index t 0 = 0 ∧ win0_0.index t 1 = 0 ∧ win0_0.index t 2 = 0
    ∧ win0_1.index t 0 = 0 ∧ win0_1.index t 1 = 0 ∧ win0_1.index t 2 = 0
    ∧ win0_2.index t 0 = 0 ∧ win0_2.index t 1 = 0 ∧ win0_2.index t 2 = 0
    ∧ win0_3.index t 0 = 0 ∧ win0_3.index t 1 = 0 ∧ win0_3.index t 2 = 0 ∧ win0_3.index t 3 = 0
    ∧ win0_4.index t 0 = 0 ∧ win0_4.index t 1 = 0 ∧ win0_4.index t 2 = 0
    ∧ win0_5.index t 0 = 0 ∧ win0_5.index t 1 = 0 ∧ win0_5.index t 2 = 0 ∧ win0_5.index t 3 = 0
    ∧ win0_6.index t 0 = 0 ∧ win0_6.index t 1 = 0 ∧ win0_6.index t 2 = 0
    ∧ win0_7.index t 0 = 0 ∧ win0_7.index t 1 = 0 ∧ win0_7.index t 2 = 0 ∧ win0_7.index t 3 = 0
    ∧ win0_8.index t 0 = 0 ∧ win0_8.index t 1 = 0 ∧ win0_8.index t 2 = 0 := by decide +kernel

/-- The rows' block is the rows' array. -/
theorem iblk0_apply (c : Dev nD) (t : Fin cfg0.N) (b : Fin 2) (p : Fin 896) (l : Fin 11520) :
    iblk m c 0 t (ix3 b p l) = m ((c.tc : Thread nD τ).loc main_arg0) (ix3 b p l) := by
  blk_ext! [iblk, V, widx t]

/-- The codes' block is the codes' array. -/
theorem iblk3_apply (c : Dev nD) (t : Fin cfg0.N) (b : Fin 2) (n : Fin 120) (a : Fin 96) (d : Fin 128) :
    iblk m c 3 t (ix4 b n a d) = m ((c.tc : Thread nD τ).loc main_arg4) (ix4 b n a d) := by
  blk_ext! [iblk, V, widx t]

/-- The scales' block is the scales' array. -/
theorem iblk4_apply (c : Dev nD) (t : Fin cfg0.N) (b : Fin 2) (n : Fin 120) (a : Fin 96) :
    iblk m c 4 t (ix3 b n a) = m ((c.tc : Thread nD τ).loc main_arg5) (ix3 b n a) := by
  blk_ext! [iblk, V, widx t]

/-- The local state's block is its array. -/
theorem iblk5_apply (c : Dev nD) (t : Fin cfg0.N) (b : Fin 2) (n : Fin 120) (a : Fin 96) (d : Fin 128) :
    iblk m c 5 t (ix4 b n a d) = m ((c.tc : Thread nD τ).loc main_arg6) (ix4 b n a d) := by
  blk_ext! [iblk, V, widx t]

/-- The scan starts at zero. -/
theorem lit_zero_ix : (broadcastInDim S_ ![] bcast_S_S_ (constant (F := Ideal) S_ FTy.f32 0#32) : Vec Ideal S_ .f32) ix0 = (0 : EReal) :=
  by
  pointwise

/-- The decays: the exponential of the scan of `dt` times the negated exponential of the decay rates. -/
theorem V6_eq (c : Dev nD) : V m c main_v6 = Host.exp (F := Ideal) (φ := .f32) (Host.reduceWindowAdd (F := Ideal) (φ := .f32) ![1, 896, 1] ![1, 1, 1] ![0, 895, 0] ![0, 0, 0]
    (mulf (F := Ideal) (φ := .f32) (m ((c.tc : Thread nD τ).loc main_arg2)) (broadcastInDim S2x896x120 ![0, 1, 2] bcast_S1x1x120_S2x896x120_0_1_2
      (broadcastInDim S1x1x120 ![2] bcast_S120_S1x1x120_2 (Host.negf (F := Ideal) (φ := .f32) (Host.exp (F := Ideal) (φ := .f32) (m ((c.tc : Thread nD τ).loc main_arg3)))))))
    (broadcastInDim S_ ![] bcast_S_S_ (constant (F := Ideal) S_ FTy.f32 0#32)) reduceWindows_S2x896x120_S2x896x120_w1s1p0_0_w896s1p895_0_w1s1p0_0 h_S_) := by
  unfold V
  simp only [hostOps0, hostOps0_1, hostOps0_2, List.flatten_cons, List.flatten_nil, List.append_nil, List.cons_append, List.nil_append]
  simp only [StableHlo.after_cons, StableHlo.after_nil]
  after_results_simp
  rfl

/-- The transposed `c`: batch and group lead, then the rows. -/
theorem V8_eq (c : Dev nD) : V m c main_v8 = shapeCast (α := Ideal .f32) S16x896x128
    (transpose S2x8x896x128 [0, 2, 1, 3] (m ((c.tc : Thread nD τ).loc main_arg1)) transposes_S2x896x8x128_S2x8x896x128_0_2_1_3)
    shapeCasts_S2x8x896x128_S16x896x128 := by
  unfold V
  simp only [hostOps0, hostOps0_1, hostOps0_2, List.flatten_cons, List.flatten_nil, List.append_nil, List.cons_append, List.nil_append]
  simp only [StableHlo.after_cons, StableHlo.after_nil]
  after_results_simp
  rfl

/-- The block of `c`: a batch's group is a row of the transposed array. -/
theorem iblk1_apply (c : Dev nD) (t : Fin cfg0.N) (g : Fin 16) (p : Fin 896) (d : Fin 128) :
    iblk m c 1 t (ix3 g p d) = m ((c.tc : Thread nD τ).loc main_arg1) (ix4 ⟨g.val / 8, by omega⟩ p ⟨g.val % 8, by omega⟩ d) := by
  have h1 : iblk m c 1 t (ix3 g p d) = V m c main_v8 (ix3 g p d) := by
    unfold iblk
    refine congrArg (V m c main_v8) ?_
    blk_ext [widx t]
  refine h1.trans ((congrFun (V8_eq m c) _).trans ?_)
  pointwise

/-- The decays' block at an index. -/
theorem iblk2_apply (c : Dev nD) (t : Fin cfg0.N) (b : Fin 2) (p : Fin 896) (n : Fin 120) :
    iblk m c 2 t (ix3 b p n) = V m c main_v6 (ix3 b p n) := by
  unfold iblk
  refine congrArg (V m c main_v6) ?_
  blk_ext [widx t]

set_option maxHeartbeats 1000000 in
/-- The decays at an index. -/
theorem decay_apply (c : Dev nD) (b : Fin 2) (p : Fin 896) (n : Fin 120) :
    V m c main_v6 (ix3 b p n) = Cert.KernelIdeal.Hand.decG (m ((c.tc : Thread nD τ).loc main_arg2)) (m ((c.tc : Thread nD τ).loc main_arg3)) b p.val n := by
  refine (congrFun (V6_eq m c) _).trans ?_
  unfold Cert.KernelIdeal.Hand.decG
  refine congrArg Ideal.exp ?_
  refine (scan_apply _ _ lit_zero_ix _ _ b p n).trans (Finset.sum_congr rfl fun t ht => ?_)
  by_cases h : t < 896
  · rw [dif_pos h, dif_pos h]
    pointwise
    exact congrArg _ (zero_sub _).symm
  · rw [dif_neg h, dif_neg h]

end Cert.ReferenceIdeal.Hand

end
-- ==== Proof.RefExponent.lean ====
module

public import proofs.«01_k».proof.Proof.Gen.ReferenceIdeal.Value
public import proofs.«01_k».proof.Proof.Exponent
public import Idealize.ShloMosaic.Lib.Ring
public import Idealize.ShloMosaic.Lib.Pointwise
public import Idealize.ShloMosaic.Lib.Claim
public import Idealize.ShloMosaic.Lib.WordCmp
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

variable {F : FTy → Type} [FloatOps F]

/-! ## The state's quantiser in stages -/

/-- The candidate exponents, -126 to 119. -/
def kvec : FVec F S2x120x96x246 .f32 :=
  have v41 : IVec S2x120x96x246 32 := iota .tc S2x120x96x246 32 [3] iota_S2x120x96x246_d3_w32
  have v42 : IVec S2x120x96x246 32 := broadcast S2x120x96x246 126#32
  have v43 : IVec S2x120x96x246 32 := subi v41 v42
  sitofp .f32 v43

/-- The rows' largest absolute values. -/
def refA (x : FVec F S2x120x96x128 .f32) : FVec F S2x120x96 .f32 :=
  multiReduction .maximumf [3] S2x120x96 (absf x) 0xFF800000#32 reduces_S2x120x96x128_S2x120x96 (.inl rfl) rfl

/-- The rows' largest absolute values over 448. -/
def refV (x : FVec F S2x120x96x128 .f32) : FVec F S2x120x96 .f32 :=
  have cst_30 : F .f32 := Scalar.ofBits .f32 0x3B124925#32
  have v39 : FVec F S2x120x96 .f32 := broadcast S2x120x96 cst_30
  mulf (refA x) v39

/-- For each candidate, one more where its power of two is within the value, the least exponent where not. -/
def refC (v : FVec F S2x120x96 .f32) (k : FVec F S2x120x96x246 .f32) : FVec F S2x120x96x246 .f32 :=
  have v45 : FVec F S2x120x96x246 .f32 := exp2 k
  have v46 : FVec F S2x120x96x1 .f32 := shapeCast S2x120x96x1 v shapeCasts_S2x120x96_S2x120x96x1
  have v47 : FVec F S2x120x96x246 .f32 := broadcastTo S2x120x96x246 v46 broadcasts_S2x120x96x1_S2x120x96x246
  have v48 : IVec S2x120x96x246 1 := cmpf .ole v45 v47
  have cst_31 : F .f32 := Scalar.ofBits .f32 0x3F800000#32
  have v49 : FVec F S2x120x96x246 .f32 := broadcast S2x120x96x246 cst_31
  have v50 : FVec F S2x120x96x246 .f32 := addf k v49
  have cst_32 : F .f32 := Scalar.ofBits .f32 0xC2FA0000#32
  have v51 : FVec F S2x120x96x246 .f32 := broadcast S2x120x96x246 cst_32
  select v48 v50 v51

/-- The largest of them. -/
def refM (x : FVec F S2x120x96x246 .f32) : FVec F S2x120x96 .f32 :=
  multiReduction .maximumf [3] S2x120x96 x 0xFF800000#32 reduces_S2x120x96x246_S2x120x96 (.inl rfl) rfl

/-- The exponent, zero for a value out of range. -/
def refE (v : FVec F S2x120x96 .f32) (e : FVec F S2x120x96 .f32) : FVec F S2x120x96 .f32 :=
  have cst_34 : F .f32 := Scalar.ofBits .f32 0x00800000#32
  have v54 : FVec F S2x120x96 .f32 := broadcast S2x120x96 cst_34
  have v55 : IVec S2x120x96 1 := cmpf .olt v v54
  have cst_35 : F .f32 := Scalar.ofBits .f32 0x7B800000#32
  have v56 : FVec F S2x120x96 .f32 := broadcast S2x120x96 cst_35
  have v57 : IVec S2x120x96 1 := cmpf .oge v v56
  have v58 : IVec S2x120x96 1 := ori v55 v57
  have cst_36 : F .f32 := Scalar.ofBits .f32 0x00000000#32
  have v59 : FVec F S2x120x96 .f32 := broadcast S2x120x96 cst_36
  select v58 v59 e

/-- The exponent payload is its stages. -/
theorem pay8_eq (v26 : FVec F S2x120x1x1 .f32) (v28 : FVec F S2x120x96x128 .f32) (v31 : FVec F S2x120x96x128 .f32) (v35 : Vec F S2x120x96x128 .f32) :
    k0_pay8 v26 v28 v31 v35 = refE (refV (k0_pay7 v26 v28 v31 v35)) (refM (refC (refV (k0_pay7 v26 v28 v31 v35)) kvec)) := rfl

/-! ## The stages at an index -/

theorem iota_apply (b : Fin 2) (n : Fin 120) (a : Fin 96) (k : Fin 246) :
    iota .tc S2x120x96x246 32 [3] iota_S2x120x96x246_d3_w32 (ix4 b n a k) = BitVec.ofNat 32 k.val := by
  pointwise []

/-- A candidate exponent. -/
theorem kvec_apply (b : Fin 2) (n : Fin 120) (a : Fin 96) (k : Fin 246) : kvec (F := Ideal) (ix4 b n a k) = ((((k.val : ℤ) - 126 : ℤ) : ℝ) : EReal) := by
  have h : ∀ k : Fin 246, (IntOp.subi (BitVec.ofNat 32 k.val) 126#32).toInt = (k.val : ℤ) - 126 := by decide
  rw [← h k, ← iota_apply b n a k]
  rfl

/-- A row's largest absolute value. -/
theorem refA_apply (x : FVec Ideal S2x120x96x128 .f32) (b : Fin 2) (n : Fin 120) (a : Fin 96) :
    refA x (ix3 b n a) = Finset.fold max (Ideal.ofBits .f32 4286578688#32) (fun k => FloatOps.absf (F := Ideal) (x (ix4 b n a k))) (Finset.univ : Finset (Fin 128)) := by
  pointwise [refA]

theorem mulf_at (u v : FVec Ideal S2x120x96 .f32) (i : S2x120x96.Idx) : mulf u v i = (u i : EReal) * v i := rfl

theorem over_at (i : S2x120x96.Idx) : broadcast S2x120x96 (Scalar.ofBits (F := Ideal) .f32 0x3B124925#32) i = Ideal.ofBits .f32 991054117#32 := rfl

/-- A row's largest absolute value over 448. -/
theorem refV_apply (x : FVec Ideal S2x120x96x128 .f32) (i : S2x120x96.Idx) :
    refV x i = (refA x i : EReal) * Ideal.ofBits .f32 991054117#32 :=
  (mulf_at _ _ i).trans (congrArg (fun e : EReal => (refA x i : EReal) * e) (over_at i))

/-- A candidate's entry. -/
theorem refC_apply (v : FVec Ideal S2x120x96 .f32) (kv : FVec Ideal S2x120x96x246 .f32) (b : Fin 2) (n : Fin 120) (a : Fin 96) (k : Fin 246) :
    refC v kv (ix4 b n a k) = Scalar.select (Ideal.cmp .ole (Ideal.exp2 (kv (ix4 b n a k))) (v (ix3 b n a))) (kv (ix4 b n a k) + Ideal.ofBits .f32 0x3F800000#32) (Ideal.ofBits .f32 0xC2FA0000#32) := by
  pointwise [refC]
  rfl

/-- The largest of a row's candidates. -/
theorem refM_apply (x : FVec Ideal S2x120x96x246 .f32) (b : Fin 2) (n : Fin 120) (a : Fin 96) :
    refM x (ix3 b n a) = Finset.fold max (Ideal.ofBits .f32 4286578688#32) (fun k => x (ix4 b n a k)) (Finset.univ : Finset (Fin 246)) := by
  pointwise [refM]

/-- The exponent of a row. -/
theorem refE_apply (v e : FVec Ideal S2x120x96 .f32) (i : S2x120x96.Idx) :
    refE v e i = Scalar.select (IntOp.ori (Ideal.cmp .olt (v i) (Ideal.ofBits .f32 0x00800000#32)) (Ideal.cmp .oge (v i) (Ideal.ofBits .f32 0x7B800000#32))) (Ideal.ofBits .f32 0x00000000#32) (e i) := rfl

/-! ## The exponent of a value -/

theorem lit_min : Ideal.ofBits .f32 0x00800000#32 = (((2 : ℝ) ^ (-126 : ℤ) : ℝ) : EReal) :=
  (Cert.KernelIdeal.Hand.ofBits_exp 1 (by norm_num)).trans ((Cert.KernelIdeal.Hand.powAt_of 1 (by norm_num) (by norm_num)).trans (by norm_num))

theorem lit_max : Ideal.ofBits .f32 0x7B800000#32 = (((2 : ℝ) ^ (120 : ℤ) : ℝ) : EReal) :=
  (Cert.KernelIdeal.Hand.ofBits_exp 247 (by norm_num)).trans ((Cert.KernelIdeal.Hand.powAt_of 247 (by norm_num) (by norm_num)).trans (by norm_num))

theorem lit_one : Ideal.ofBits .f32 0x3F800000#32 = ((1 : ℝ) : EReal) :=
  (Cert.KernelIdeal.Hand.ofBits_exp 127 (by norm_num)).trans ((Cert.KernelIdeal.Hand.powAt_of 127 (by norm_num) (by norm_num)).trans (by norm_num))

theorem lit_zero : Ideal.ofBits .f32 0x00000000#32 = ((0 : ℝ) : EReal) :=
  (Cert.KernelIdeal.Hand.ofBits_exp 0 (by norm_num)).trans (by simp [Cert.KernelIdeal.Hand.powAt])

theorem lit_low : Ideal.ofBits .f32 0xC2FA0000#32 = ((-125 : ℝ) : EReal) := by
  have ha : ((0xC2FA0000#32).extractLsb' 31 1 == 1#1) = true := by decide
  have hb : ((0xC2FA0000#32).extractLsb' 23 8).toNat = 133 := by decide
  have hc : ((0xC2FA0000#32).extractLsb' 0 23).toNat = 7995392 := by decide
  simp only [Ideal.ofBits, Ideal.ieee]
  norm_num [ha, hb, hc]

theorem lit_bot : Ideal.ofBits .f32 4286578688#32 = ⊥ := by
  have ha : ((4286578688#32).extractLsb' 31 1 == 1#1) = true := by decide
  have hb : ((4286578688#32).extractLsb' 23 8).toNat = 255 := by decide
  have hc : ((4286578688#32).extractLsb' 0 23).toNat = 0 := by decide
  simp only [Ideal.ofBits, Ideal.ieee]
  norm_num [ha, hb, hc]

/-- A power of two with a whole exponent. -/
theorem exp2_int (e : ℤ) : Ideal.exp2 ((e : ℝ) : EReal) = (((2 : ℝ) ^ e : ℝ) : EReal) := by
  rw [Ideal.exp2_coe]
  exact congrArg _ (Real.rpow_intCast 2 e)

/-- The largest candidate of a value that lies between two neighbouring powers of two is the upper one's exponent. -/
theorem cand_max (v : EReal) (e : ℤ) (h1 : -125 ≤ e) (h2 : e ≤ 120) (ha : (((2 : ℝ) ^ (e - 1) : ℝ) : EReal) ≤ v) (hb : v < (((2 : ℝ) ^ e : ℝ) : EReal)) :
    Finset.fold max (⊥ : EReal) (fun k : Fin 246 => if (((2 : ℝ) ^ ((k.val : ℤ) - 126) : ℝ) : EReal) ≤ v then ((((k.val : ℤ) - 126 : ℤ) : ℝ) : EReal) + ((1 : ℝ) : EReal) else ((-125 : ℝ) : EReal)) Finset.univ
      = ((e : ℝ) : EReal) := by
  refine le_antisymm ?_ ?_
  · rw [Finset.fold_max_le]
    refine ⟨bot_le, fun k _ => ?_⟩
    split_ifs with h
    · have h3 := lt_of_le_of_lt h hb
      rw [EReal.coe_lt_coe_iff] at h3
      have h4 := (zpow_lt_zpow_iff_right₀ (by norm_num : (1 : ℝ) < 2)).mp h3
      rw [← EReal.coe_add, EReal.coe_le_coe_iff]
      have h5 : (k.val : ℤ) - 126 + 1 ≤ e := by omega
      exact_mod_cast h5
    · rw [EReal.coe_le_coe_iff]
      exact_mod_cast h1
  · rw [Finset.le_fold_max]
    right
    refine ⟨⟨(e + 125).toNat, by omega⟩, Finset.mem_univ _, ?_⟩
    have h6 : (((e + 125).toNat : ℕ) : ℤ) - 126 = e - 1 := by omega
    simp only []
    rw [h6, if_pos ha, ← EReal.coe_add, EReal.coe_le_coe_iff]
    push_cast
    linarith

/-- The reference's exponent of a value. -/
def expOf (v : EReal) : EReal :=
  Scalar.select (IntOp.ori (Ideal.cmp .olt v (Ideal.ofBits .f32 0x00800000#32)) (Ideal.cmp .oge v (Ideal.ofBits .f32 0x7B800000#32))) (Ideal.ofBits .f32 0x00000000#32)
    (Finset.fold max (Ideal.ofBits .f32 4286578688#32) (fun k : Fin 246 => Scalar.select (Ideal.cmp .ole (Ideal.exp2 ((((k.val : ℤ) - 126 : ℤ) : ℝ) : EReal)) v)
      (((((k.val : ℤ) - 126 : ℤ) : ℝ) : EReal) + Ideal.ofBits .f32 0x3F800000#32) (Ideal.ofBits .f32 0xC2FA0000#32)) Finset.univ)

/-- The exponent in plain comparisons. -/
theorem expOf_eq (v : EReal) : expOf v = if v < (((2 : ℝ) ^ (-126 : ℤ) : ℝ) : EReal) ∨ (((2 : ℝ) ^ (120 : ℤ) : ℝ) : EReal) ≤ v then ((0 : ℝ) : EReal)
    else Finset.fold max (⊥ : EReal) (fun k : Fin 246 => if (((2 : ℝ) ^ ((k.val : ℤ) - 126) : ℝ) : EReal) ≤ v then ((((k.val : ℤ) - 126 : ℤ) : ℝ) : EReal) + ((1 : ℝ) : EReal) else ((-125 : ℝ) : EReal)) Finset.univ := by
  unfold expOf
  rw [lit_min, lit_max, lit_zero, lit_one, lit_low, lit_bot]
  have e1 : (fun k : Fin 246 => Scalar.select (Ideal.cmp .ole (Ideal.exp2 ((((k.val : ℤ) - 126 : ℤ) : ℝ) : EReal)) v)
      (((((k.val : ℤ) - 126 : ℤ) : ℝ) : EReal) + ((1 : ℝ) : EReal)) ((-125 : ℝ) : EReal))
      = fun k : Fin 246 => if (((2 : ℝ) ^ ((k.val : ℤ) - 126) : ℝ) : EReal) ≤ v then ((((k.val : ℤ) - 126 : ℤ) : ℝ) : EReal) + ((1 : ℝ) : EReal) else ((-125 : ℝ) : EReal) := by
    funext k
    rw [exp2_int]
    by_cases h : (((2 : ℝ) ^ ((k.val : ℤ) - 126) : ℝ) : EReal) ≤ v
    · rw [if_pos h]; simp [Ideal.cmp, Scalar.select, h]
    · rw [if_neg h]; simp [Ideal.cmp, Scalar.select, h]
  rw [e1]
  by_cases h1 : v < (((2 : ℝ) ^ (-126 : ℤ) : ℝ) : EReal) <;> by_cases h2 : (((2 : ℝ) ^ (120 : ℤ) : ℝ) : EReal) ≤ v
  all_goals simp only [h1, h2, or_true, true_or, or_false, false_or, if_true, if_false, Ideal.cmp, decide_true, decide_false]
  all_goals rfl

/-- Two to the exponent is the scale, and two to its negation the scale's inverse. -/
theorem exp2_expOf (v : EReal) : Ideal.exp2 (expOf v) = Cert.KernelIdeal.Hand.scaleOf v ∧ Ideal.exp2 (0 - expOf v) = Cert.KernelIdeal.Hand.invOf v := by
  obtain ⟨e, h1, h2, hs, hi, hv⟩ := Cert.KernelIdeal.Hand.scale_spec v
  have he : expOf v = ((e : ℝ) : EReal) := by
    rw [expOf_eq]
    rcases hv with ⟨ha, hb⟩ | ⟨h0, hb⟩
    · rw [if_neg, cand_max v e h1 h2 ha hb]
      rintro (h | h)
      · refine absurd (lt_of_le_of_lt ha h) (not_lt.mpr ?_)
        rw [EReal.coe_le_coe_iff]
        exact zpow_le_zpow_right₀ (by norm_num) (by omega)
      · refine absurd (lt_of_le_of_lt h hb) (not_lt.mpr ?_)
        rw [EReal.coe_le_coe_iff]
        exact zpow_le_zpow_right₀ (by norm_num) (by omega)
    · rw [if_pos hb, h0]; norm_num
  rw [he, hs, hi, exp2_int]
  refine ⟨rfl, ?_⟩
  rw [zero_sub, ← EReal.coe_neg, ← exp2_int]
  push_cast
  rfl

/-- The exponent of a row is the reference's exponent of its value. -/
theorem exp_apply (v : FVec Ideal S2x120x96 .f32) (b : Fin 2) (n : Fin 120) (a : Fin 96) : refE v (refM (refC v kvec)) (ix3 b n a) = expOf (v (ix3 b n a)) := by
  rw [refE_apply, refM_apply]
  unfold expOf
  congr 2
  funext k
  rw [refC_apply, kvec_apply]

end Cert.ReferenceIdeal.Hand

end
-- ==== Proof.RefBody.lean ====
module

public import proofs.«01_k».proof.Proof.RefExponent
public import Idealize.ShloMosaic.Lib.Ring
public import Idealize.ShloMosaic.Lib.Pointwise
public import Idealize.ShloMosaic.Lib.Claim
public import Idealize.ShloMosaic.Lib.WordCmp
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

/-! ## The body's three results at an index -/

/-- The rows' payload at an index. -/
theorem pay3_apply (v0 : Vec Ideal S2x896x120 .f32) (v2 : Vec Ideal S2x120x96x128 .fp8e4m3) (v5 : Vec Ideal S16x896x128 .bf16) (v11 : Vec Ideal S2x120x96 .f32) (v18 : Vec Ideal S2x896x11520 .bf16)
    (b : Fin 2) (p : Fin 896) (l : Fin 11520) : k0_pay3 v0 v2 v5 v11 v18 (ix3 b p l)
      = v18 (ix3 b p l) + (∑ d : Fin 128, v5 (ix3 ⟨b.val * 8 + l.val / 1440, by omega⟩ p d) * v2 (ix4 b ⟨l.val / 96, by omega⟩ ⟨l.val % 96, by omega⟩ d))
        * v11 (ix3 b ⟨l.val / 96, by omega⟩ ⟨l.val % 96, by omega⟩) * v0 (ix3 b p ⟨l.val / 96, by omega⟩) := by
  pointwise [k0_pay3, k0_pay2]
  refine congrArg (fun e : EReal => (v18 (ix3 b p l) : EReal) + e * v11 (ix3 b ⟨l.val / 96, by omega⟩ ⟨l.val % 96, by omega⟩) * v0 (ix3 b p ⟨l.val / 96, by omega⟩)) ?_
  refine Finset.sum_congr rfl fun x _ => ?_
  have e1 : ∀ h, (⟨b.val * 8 + l.val / 96 / 15, h⟩ : Fin 16) = ⟨b.val * 8 + l.val / 1440, by omega⟩ := fun h => Fin.ext (by show b.val * 8 + l.val / 96 / 15 = b.val * 8 + l.val / 1440; omega)
  have e2 : ∀ h, (⟨(b.val * 8 + l.val / 96 / 15) % 8 * 15 + (l.val / 96 % 15 * 96 + l.val % 96) / 96, h⟩ : Fin 120) = ⟨l.val / 96, by omega⟩ :=
    fun h => Fin.ext (by show (b.val * 8 + l.val / 96 / 15) % 8 * 15 + (l.val / 96 % 15 * 96 + l.val % 96) / 96 = l.val / 96; omega)
  have e3 : ∀ h, (⟨(l.val / 96 % 15 * 96 + l.val % 96) % 96, h⟩ : Fin 96) = ⟨l.val % 96, by omega⟩ :=
    fun h => Fin.ext (by show (l.val / 96 % 15 * 96 + l.val % 96) % 96 = l.val % 96; omega)
  rw [e1, e2, e3]

/-- The new state at an index. -/
theorem pay7_apply (x2 : Vec Ideal S2x896x120 .f32) (x3 : Vec Ideal S2x120x96x128 .fp8e4m3) (x4 : Vec Ideal S2x120x96 .f32) (x5 : Vec Ideal S2x120x96x128 .f32)
    (b : Fin 2) (n : Fin 120) (a : Fin 96) (d : Fin 128) :
    k0_pay7 (k0_pay4 x2) (k0_pay5 x3) (k0_pay6 x4) x5 (ix4 b n a d) = x2 (ix3 b 895 n) * (x3 (ix4 b n a d) * x4 (ix3 b n a)) + x5 (ix4 b n a d) := by
  pointwise [k0_pay7, k0_pay4, k0_pay5, k0_pay6, k0_pay2]

/-- A state row's largest absolute value over 448, of a state given at an index. -/
def rowV (h : Fin 128 → EReal) : EReal :=
  Finset.fold max (Ideal.ofBits .f32 4286578688#32) (fun k => FloatOps.absf (F := Ideal) (φ := .f32) (h k)) (Finset.univ : Finset (Fin 128)) * Ideal.ofBits .f32 991054117#32

/-- The exponent payload at an index. -/
theorem pay8_apply (v26 : FVec Ideal S2x120x1x1 .f32) (v28 : FVec Ideal S2x120x96x128 .f32) (v31 : FVec Ideal S2x120x96x128 .f32) (v35 : Vec Ideal S2x120x96x128 .f32)
    (b : Fin 2) (n : Fin 120) (a : Fin 96) : k0_pay8 v26 v28 v31 v35 (ix3 b n a) = expOf (rowV fun k => k0_pay7 v26 v28 v31 v35 (ix4 b n a k)) := by
  rw [pay8_eq]
  generalize k0_pay7 v26 v28 v31 v35 = x
  refine (exp_apply _ b n a).trans (congrArg expOf ?_)
  exact (refV_apply x _).trans (congrArg (fun e : EReal => e * Ideal.ofBits .f32 991054117#32) (refA_apply x b n a))

theorem exp2_at (u : FVec Ideal S2x120x96 .f32) (i : S2x120x96.Idx) : exp2 u i = Ideal.exp2 (u i) := rfl

theorem pay9_eq (v26 : FVec Ideal S2x120x1x1 .f32) (v28 : FVec Ideal S2x120x96x128 .f32) (v31 : FVec Ideal S2x120x96x128 .f32) (v35 : Vec Ideal S2x120x96x128 .f32) :
    k0_pay9 v26 v28 v31 v35 = exp2 (k0_pay8 v26 v28 v31 v35) := rfl

/-- The scales' payload at an index. -/
theorem pay9_apply (v26 : FVec Ideal S2x120x1x1 .f32) (v28 : FVec Ideal S2x120x96x128 .f32) (v31 : FVec Ideal S2x120x96x128 .f32) (v35 : Vec Ideal S2x120x96x128 .f32)
    (b : Fin 2) (n : Fin 120) (a : Fin 96) : k0_pay9 v26 v28 v31 v35 (ix3 b n a) = Cert.KernelIdeal.Hand.scaleOf (rowV fun k => k0_pay7 v26 v28 v31 v35 (ix4 b n a k)) := by
  refine (congrFun (pay9_eq v26 v28 v31 v35) _).trans ((exp2_at _ _).trans ((congrArg Ideal.exp2 (pay8_apply v26 v28 v31 v35 b n a)).trans ?_))
  exact (exp2_expOf _).1

/-- The clamped codes over any exponents and state. -/
theorem codes_apply (s : FVec Ideal S2x120x96x128 .f32) (e : FVec Ideal S2x120x96 .f32) (b : Fin 2) (n : Fin 120) (a : Fin 96) (d : Fin 128) :
    mulf s (broadcastTo S2x120x96x128 (shapeCast S2x120x96x1 (exp2 (subf (broadcast S2x120x96 (Scalar.ofBits (F := Ideal) .f32 0x00000000#32)) e)) shapeCasts_S2x120x96_S2x120x96x1) broadcasts_S2x120x96x1_S2x120x96x128) (ix4 b n a d)
      = s (ix4 b n a d) * Ideal.exp2 (Ideal.ofBits .f32 0x00000000#32 - e (ix3 b n a)) := by
  pointwise
  first | rfl | done

/-- The codes' payload at an index. -/
theorem pay1_apply (v26 : FVec Ideal S2x120x1x1 .f32) (v28 : FVec Ideal S2x120x96x128 .f32) (v31 : FVec Ideal S2x120x96x128 .f32) (v35 : Vec Ideal S2x120x96x128 .f32)
    (b : Fin 2) (n : Fin 120) (a : Fin 96) (d : Fin 128) : k0_pay1 (k0_pay10 v26 v28 v31 v35) k0_pay11 (ix4 b n a d)
      = min (Ideal.ofBits .f32 0x43E00000#32) (max (Ideal.ofBits .f32 0xC3E00000#32)
          (k0_pay7 v26 v28 v31 v35 (ix4 b n a d) * Cert.KernelIdeal.Hand.invOf (rowV fun k => k0_pay7 v26 v28 v31 v35 (ix4 b n a k)))) := by
  refine Eq.trans (b := min (Ideal.ofBits .f32 0x43E00000#32) (max (Ideal.ofBits .f32 0xC3E00000#32)
    (mulf (k0_pay7 v26 v28 v31 v35) (broadcastTo S2x120x96x128 (shapeCast S2x120x96x1 (exp2 (subf (broadcast S2x120x96 (Scalar.ofBits (F := Ideal) .f32 0x00000000#32)) (k0_pay8 v26 v28 v31 v35))) shapeCasts_S2x120x96_S2x120x96x1) broadcasts_S2x120x96x1_S2x120x96x128) (ix4 b n a d)))) rfl ?_
  rw [codes_apply, pay8_apply, lit_zero, EReal.coe_zero, (exp2_expOf _).2]

/-! ## What the body leaves in the output windows -/

variable (x0 : Vec Ideal S2x896x11520 .bf16) (x1 : Vec Ideal S16x896x128 .bf16) (x2 : Vec Ideal S2x896x120 .f32) (x3 : Vec Ideal S2x120x96x128 .fp8e4m3) (x4 : Vec Ideal S2x120x96 .f32) (x5 : Vec Ideal S2x120x96x128 .f32)

theorem zeros3 : (![0, 0, 0] : Fin 3 → ℕ) = fun _ => 0 := by decide
theorem zeros4 : (![0, 0, 0, 0] : Fin 4 → ℕ) = fun _ => 0 := by decide

/-- The rows' window. -/
theorem out6_eq : out0_6 x0 x1 x2 x3 x4 x5 = k0_pay3 x2 x3 x1 x4 x0 := by
  unfold out0_6
  refine (View.canon_unit_zero zeros3 _ _).trans ?_
  rw [show View.ld x2 r0_0 = x2 from View.ld_unit_zero zeros3 _ _, show View.ld x3 r0_1 = x3 from View.ld_unit_zero zeros4 _ _,
    show View.ld x1 r0_2 = x1 from View.ld_unit_zero zeros3 _ _, show View.ld x4 r0_3 = x4 from View.ld_unit_zero zeros3 _ _, show View.ld x0 r0_4 = x0 from View.ld_unit_zero zeros3 _ _]

/-- The codes' window. -/
theorem out7_eq : out0_7 x0 x1 x2 x3 x4 x5 = k0_pay1 (k0_pay10 (k0_pay4 x2) (k0_pay5 x3) (k0_pay6 x4) x5) k0_pay11 := by
  unfold out0_7 k0_pay14 k0_pay13 k0_pay12
  refine (View.canon_unit_zero zeros4 _ _).trans ?_
  rw [show View.ld x2 r0_0 = x2 from View.ld_unit_zero zeros3 _ _, show View.ld x3 r0_1 = x3 from View.ld_unit_zero zeros4 _ _,
    show View.ld x4 r0_3 = x4 from View.ld_unit_zero zeros3 _ _, show View.ld x5 r0_1 = x5 from View.ld_unit_zero zeros4 _ _]

/-- The scales' window. -/
theorem out8_eq : out0_8 x0 x1 x2 x3 x4 x5 = k0_pay9 (k0_pay4 x2) (k0_pay5 x3) (k0_pay6 x4) x5 := by
  unfold out0_8 k0_pay14 k0_pay13 k0_pay12
  refine (View.canon_unit_zero zeros3 _ _).trans ?_
  rw [show View.ld x2 r0_0 = x2 from View.ld_unit_zero zeros3 _ _, show View.ld x3 r0_1 = x3 from View.ld_unit_zero zeros4 _ _,
    show View.ld x4 r0_3 = x4 from View.ld_unit_zero zeros3 _ _, show View.ld x5 r0_1 = x5 from View.ld_unit_zero zeros4 _ _]

end Cert.ReferenceIdeal.Hand

end
-- ==== Proof.RefValue.lean ====
module

public import proofs.«01_k».proof.Proof.RefBlocks
public import proofs.«01_k».proof.Proof.RefBody
public import Idealize.ShloMosaic.Lib.Ring
public import Idealize.ShloMosaic.Lib.Pointwise
public import Idealize.ShloMosaic.Lib.Claim
public import Idealize.ShloMosaic.Lib.WordCmp
public import Idealize.ShloMosaic.Lib.Pipeline.ValueKit

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The new state at an index, over the arrays. -/
theorem state_apply (c : Dev nD) (t : Fin cfg0.N) (b : Fin 2) (n : Fin 120) (a : Fin 96) (d : Fin 128) :
    k0_pay7 (k0_pay4 (iblk m c 2 t)) (k0_pay5 (iblk m c 3 t)) (k0_pay6 (iblk m c 4 t)) (iblk m c 5 t) (ix4 b n a d) = Cert.KernelIdeal.Hand.hG (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b n a d := by
  rw [pay7_apply, iblk2_apply, decay_apply, iblk3_apply, iblk4_apply, iblk5_apply]
  rfl

/-- A state row's largest absolute value over 448, over the arrays. -/
theorem row_apply (c : Dev nD) (t : Fin cfg0.N) (b : Fin 2) (n : Fin 120) (a : Fin 96) :
    (rowV fun k => k0_pay7 (k0_pay4 (iblk m c 2 t)) (k0_pay5 (iblk m c 3 t)) (k0_pay6 (iblk m c 4 t)) (iblk m c 5 t) (ix4 b n a k)) = Cert.KernelIdeal.Hand.vG (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b n a := by
  refine (congrArg rowV (funext fun k => state_apply m c t b n a k)).trans ?_
  rfl

/-- What the point leaves in the rows' output block. -/
theorem after6_ix (c : Dev nD) (t : Fin cfg0.N) (b : Fin 2) (p : Fin 896) (l : Fin 11520) : (dats m 0 c).after 6 t (ix3 b p l : S2x896x11520.Idx) = Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 b p l) := by
  rw [after0_6, out6_eq]
  rw [pay3_apply, iblk0_apply, iblk2_apply, decay_apply, iblk4_apply]
  refine congrArg (fun e : EReal => ((show EReal from m ((c.tc : Thread nD τ).loc main_arg0) (ix3 b p l)) + e * (show EReal from m ((c.tc : Thread nD τ).loc main_arg5) (ix3 b ⟨l.val / 96, by omega⟩ ⟨l.val % 96, by omega⟩))
    * Cert.KernelIdeal.Hand.decG (m ((c.tc : Thread nD τ).loc main_arg2)) (m ((c.tc : Thread nD τ).loc main_arg3)) b p.val ⟨l.val / 96, by omega⟩ : EReal)) (Finset.sum_congr rfl fun d _ => ?_)
  rw [iblk1_apply, iblk3_apply]
  have e1 : ∀ h, (⟨(b.val * 8 + l.val / 1440) / 8, h⟩ : Fin 2) = b := fun h => Fin.ext (by show (b.val * 8 + l.val / 1440) / 8 = b.val; omega)
  have e2 : ∀ h, (⟨(b.val * 8 + l.val / 1440) % 8, h⟩ : Fin 8) = ⟨l.val / 1440, by omega⟩ := fun h => Fin.ext (by show (b.val * 8 + l.val / 1440) % 8 = l.val / 1440; omega)
  rw [e1, e2]
  rfl

/-- The rows' block is its array. -/
theorem emb6_ix (t : Fin cfg0.N) (b : Fin 2) (p : Fin 896) (l : Fin 11520) : (ix3 b p l : S2x896x11520.Idx) = (win0_6.blk t).view.emb (ix3 b p l : S2x896x11520.Idx) := by
  blk_ext [widx t]

/-- The point's rows' are the array's where the block lies. -/
theorem after6_eq (c : Dev nD) (t : Fin cfg0.N) (y : S2x896x11520.Idx) : (dats m 0 c).after 6 t y = Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((win0_6.blk t).view.emb y) := by
  obtain ⟨b, p, l, rfl⟩ : ∃ (b : Fin 2) (p : Fin 896) (l : Fin 11520), y = (ix3 b p l : S2x896x11520.Idx) := ⟨y 0, y 1, y 2, by blk_ext⟩
  exact (after6_ix m c t b p l).trans (congrArg (Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (emb6_ix t b p l))

/-- The rows' array after the run. -/
theorem final6 (c : Dev nD) : (dats m 0 c).arrAt 6 (cfgs 0).N = Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  generalize hZ : Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = Z
  refine (dats m 0 c).arrAt_eq_of_covers 6 Z (by decide +kernel) fun t hf y => ?_
  have e := after6_eq m c t
  rw [hZ] at e
  generalize (dats m 0 c).after 6 t = X at e
  exact (cast_eq _ _).trans (e _)

/-- What the point leaves in the codes' output block. -/
theorem after7_ix (c : Dev nD) (t : Fin cfg0.N) (b : Fin 2) (n : Fin 120) (a : Fin 96) (d : Fin 128) : (dats m 0 c).after 7 t (ix4 b n a d : S2x120x96x128.Idx) = Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix4 b n a d) := by
  rw [after0_7, out7_eq]
  rw [pay1_apply, state_apply, row_apply]
  rfl

/-- The codes' block is its array. -/
theorem emb7_ix (t : Fin cfg0.N) (b : Fin 2) (n : Fin 120) (a : Fin 96) (d : Fin 128) : (ix4 b n a d : S2x120x96x128.Idx) = (win0_7.blk t).view.emb (ix4 b n a d : S2x120x96x128.Idx) := by
  blk_ext [widx t]

/-- The point's codes' are the array's where the block lies. -/
theorem after7_eq (c : Dev nD) (t : Fin cfg0.N) (y : S2x120x96x128.Idx) : (dats m 0 c).after 7 t y = Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ((win0_7.blk t).view.emb y) := by
  obtain ⟨b, n, a, d, rfl⟩ : ∃ (b : Fin 2) (n : Fin 120) (a : Fin 96) (d : Fin 128), y = (ix4 b n a d : S2x120x96x128.Idx) := ⟨y 0, y 1, y 2, y 3, by blk_ext⟩
  exact (after7_ix m c t b n a d).trans (congrArg (Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (emb7_ix t b n a d))

/-- The codes' array after the run. -/
theorem final7 (c : Dev nD) : (dats m 0 c).arrAt 7 (cfgs 0).N = Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  generalize hZ : Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Z
  refine (dats m 0 c).arrAt_eq_of_covers 7 Z (by decide +kernel) fun t hf y => ?_
  have e := after7_eq m c t
  rw [hZ] at e
  generalize (dats m 0 c).after 7 t = X at e
  exact (cast_eq _ _).trans (e _)

/-- What the point leaves in the scales' output block. -/
theorem after8_ix (c : Dev nD) (t : Fin cfg0.N) (b : Fin 2) (n : Fin 120) (a : Fin 96) : (dats m 0 c).after 8 t (ix3 b n a : S2x120x96.Idx) = Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 b n a) := by
  rw [after0_8, out8_eq]
  rw [pay9_apply, row_apply]
  rfl

/-- The scales' block is its array. -/
theorem emb8_ix (t : Fin cfg0.N) (b : Fin 2) (n : Fin 120) (a : Fin 96) : (ix3 b n a : S2x120x96.Idx) = (win0_8.blk t).view.emb (ix3 b n a : S2x120x96.Idx) := by
  blk_ext [widx t]

/-- The point's scales' are the array's where the block lies. -/
theorem after8_eq (c : Dev nD) (t : Fin cfg0.N) (y : S2x120x96.Idx) : (dats m 0 c).after 8 t y = Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ((win0_8.blk t).view.emb y) := by
  obtain ⟨b, n, a, rfl⟩ : ∃ (b : Fin 2) (n : Fin 120) (a : Fin 96), y = (ix3 b n a : S2x120x96.Idx) := ⟨y 0, y 1, y 2, by blk_ext⟩
  exact (after8_ix m c t b n a).trans (congrArg (Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (emb8_ix t b n a))

/-- The scales' array after the run. -/
theorem final8 (c : Dev nD) : (dats m 0 c).arrAt 8 (cfgs 0).N = Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  generalize hZ : Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Z
  refine (dats m 0 c).arrAt_eq_of_covers 8 Z (by decide +kernel) fun t hf y => ?_
  have e := after8_eq m c t
  rw [hZ] at e
  generalize (dats m 0 c).after 8 t = X at e
  exact (cast_eq _ _).trans (e _)

/-- From any memory with zero counters the reference terminates with the three results at the kernel's closed forms and
    the arguments as they were. -/
theorem values : θ_run defs (onTc (τ := τ) (main (F := Ideal))) ⟨m, fun _ => 0, ρ⟩ (fun r => ∀ c : Dev nD,
      r.2.mem ((c.tc : Thread nD τ).loc main_v9_0) = Cert.KernelIdeal.Hand.yoArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v9_1) = Cert.KernelIdeal.Hand.coArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v9_2) = Cert.KernelIdeal.Hand.soArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final6 m c), (h c).2.1.trans (final7 m c), (h c).2.2.1.trans (final8 m c), (h c).2.2.2⟩)
    (Cert.ReferenceIdeal.Value.run_blocks m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.ValueArray
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RefValue
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The two programs' results are equal: both are the same closed forms of the arguments. -/
theorem algebraic : Cert.algebraic_KernelIdeal_ReferenceIdeal := by
  intro m g m' g' hpre hagree
  refine ⟨_, _, _, Cert.KernelIdeal.Hand.values m g, ?_⟩
  refine (θ_run _ _ _).mono (fun r h c => ?_) (Cert.ReferenceIdeal.Hand.values m' g')
  obtain ⟨a0, a1, a2, a3, a4, a5, a6⟩ := hagree c
  obtain ⟨h0, h1, h2, hrest⟩ := h c
  refine ⟨h0.trans ?_, h1.trans ?_, h2.trans ?_, hrest⟩
  · rw [a0, a1, a2, a3, a4, a5]
  · rw [a2, a3, a4, a5, a6]
  · rw [a2, a3, a4, a5, a6]

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ,
  ⟨IdealRules.bf16_pair.statement Cert.KernelIdeal.S1x448x2x128 Cert.KernelIdeal.S1x448x1x128,
  IdealRules.bf16_pair.statement Cert.KernelIdeal.S896x128 Cert.KernelIdeal.S448x128⟩,
  algebraic⟩

end Cert.Proof

end
